-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_packed [hPre_packed : Cert.Pre_packed.Facts] (m : (ℓ : Loc Cert.KernelIdeal.nD Cert.KernelIdeal.τ Cert.KernelIdeal.sig) → Buf (Elt Ideal) ℓ) : Prop :=
  ∀ c : Dev Cert.KernelIdeal.nD,
    (Cert.Pre_packed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_packed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_packed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.1 = (fun _ => 1#1)
    ∧ (Cert.Pre_packed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2.1 = (fun _ => 1#1)
    ∧ (Cert.Pre_packed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2.2.1 = (fun _ => 1#1)
    ∧ (Cert.Pre_packed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2.2.2.1 = (fun _ => 1#1)
    ∧ (Cert.Pre_packed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_packed [hPre_packed : Cert.Pre_packed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_packed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_packed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_packed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.1 = (fun _ => 1#1)
    ∧ (Cert.Pre_packed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.2.1 = (fun _ => 1#1)
    ∧ (Cert.Pre_packed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.2.2.1 = (fun _ => 1#1)
    ∧ (Cert.Pre_packed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.2.2.2.1 = (fun _ => 1#1)
    ∧ (Cert.Pre_packed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.2.2.2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjReferenceIdeal (m : (ℓ : Loc Cert.OutProjReferenceIdeal.nD Cert.OutProjReferenceIdeal.τ Cert.OutProjReferenceIdeal.sig) → Buf (Elt Ideal) ℓ) : Prop :=
  True

def Pre_Sample (m : (ℓ : Loc Cert.Sample.nD Cert.Sample.τ Cert.Sample.sig) → Buf (Elt Bits) ℓ) : Prop :=
  True

def Pre_SampleIdeal (m : (ℓ : Loc Cert.SampleIdeal.nD Cert.SampleIdeal.τ Cert.SampleIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_packed [hKernelIdeal : Cert.KernelIdeal.Facts] [hPre_packed : Cert.Pre_packed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_packed m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_packed [hReferenceIdeal : Cert.ReferenceIdeal.Facts] [hPre_packed : Cert.Pre_packed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_packed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5)
      ∧ r.2.mem ((c.tc : Thread Cert.OutProj.nD Cert.OutProj.τ).loc Cert.OutProj.main_arg6) = m ((c.tc : Thread Cert.OutProj.nD Cert.OutProj.τ).loc Cert.OutProj.main_arg6))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6))
      ∧ r.2.sem = fun _ => 0)

def quiescent_OutProjReferenceIdeal [hOutProjReferenceIdeal : Cert.OutProjReferenceIdeal.Facts] : Prop :=
  ∀ (m : (ℓ : Loc Cert.OutProjReferenceIdeal.nD Cert.OutProjReferenceIdeal.τ Cert.OutProjReferenceIdeal.sig) → Buf (Elt Ideal) ℓ) (g : Dev Cert.OutProjReferenceIdeal.nD → PrngReg), Pre_OutProjReferenceIdeal m →
    θ_run (Cert.OutProjReferenceIdeal.defs (F := Ideal)) (onTc (τ := Cert.OutProjReferenceIdeal.τ) (Cert.OutProjReferenceIdeal.main (F := Ideal))) ⟨m, fun _ => 0, g⟩ (fun r => (∀ c : Dev Cert.OutProjReferenceIdeal.nD,
      r.2.mem ((c.tc : Thread Cert.OutProjReferenceIdeal.nD Cert.OutProjReferenceIdeal.τ).loc Cert.OutProjReferenceIdeal.main_arg0) = m ((c.tc : Thread Cert.OutProjReferenceIdeal.nD Cert.OutProjReferenceIdeal.τ).loc Cert.OutProjReferenceIdeal.main_arg0)
      ∧ r.2.mem ((c.tc : Thread Cert.OutProjReferenceIdeal.nD Cert.OutProjReferenceIdeal.τ).loc Cert.OutProjReferenceIdeal.main_arg1) = m ((c.tc : Thread Cert.OutProjReferenceIdeal.nD Cert.OutProjReferenceIdeal.τ).loc Cert.OutProjReferenceIdeal.main_arg1)
      ∧ r.2.mem ((c.tc : Thread Cert.OutProjReferenceIdeal.nD Cert.OutProjReferenceIdeal.τ).loc Cert.OutProjReferenceIdeal.main_arg2) = m ((c.tc : Thread Cert.OutProjReferenceIdeal.nD Cert.OutProjReferenceIdeal.τ).loc Cert.OutProjReferenceIdeal.main_arg2)
      ∧ r.2.mem ((c.tc : Thread Cert.OutProjReferenceIdeal.nD Cert.OutProjReferenceIdeal.τ).loc Cert.OutProjReferenceIdeal.main_arg3) = m ((c.tc : Thread Cert.OutProjReferenceIdeal.nD Cert.OutProjReferenceIdeal.τ).loc Cert.OutProjReferenceIdeal.main_arg3)
      ∧ r.2.mem ((c.tc : Thread Cert.OutProjReferenceIdeal.nD Cert.OutProjReferenceIdeal.τ).loc Cert.OutProjReferenceIdeal.main_arg4) = m ((c.tc : Thread Cert.OutProjReferenceIdeal.nD Cert.OutProjReferenceIdeal.τ).loc Cert.OutProjReferenceIdeal.main_arg4)
      ∧ r.2.mem ((c.tc : Thread Cert.OutProjReferenceIdeal.nD Cert.OutProjReferenceIdeal.τ).loc Cert.OutProjReferenceIdeal.main_arg5) = m ((c.tc : Thread Cert.OutProjReferenceIdeal.nD Cert.OutProjReferenceIdeal.τ).loc Cert.OutProjReferenceIdeal.main_arg5)
      ∧ r.2.mem ((c.tc : Thread Cert.OutProjReferenceIdeal.nD Cert.OutProjReferenceIdeal.τ).loc Cert.OutProjReferenceIdeal.main_arg6) = m ((c.tc : Thread Cert.OutProjReferenceIdeal.nD Cert.OutProjReferenceIdeal.τ).loc Cert.OutProjReferenceIdeal.main_arg6))
      ∧ r.2.sem = fun _ => 0)

def quiescent_Sample [hSample : Cert.Sample.Facts] : Prop :=
  ∀ (m : (ℓ : Loc Cert.Sample.nD Cert.Sample.τ Cert.Sample.sig) → Buf (Elt Bits) ℓ) (g : Dev Cert.Sample.nD → PrngReg), Pre_Sample m →
    θ_run (Cert.Sample.defs (F := Bits)) (onTc (τ := Cert.Sample.τ) (Cert.Sample.main (F := Bits))) ⟨m, fun _ => 0, g⟩ (fun r => (∀ c : Dev Cert.Sample.nD,
      r.2.mem ((c.tc : Thread Cert.Sample.nD Cert.Sample.τ).loc Cert.Sample.main_arg0) = m ((c.tc : Thread Cert.Sample.nD Cert.Sample.τ).loc Cert.Sample.main_arg0)
      ∧ r.2.mem ((c.tc : Thread Cert.Sample.nD Cert.Sample.τ).loc Cert.Sample.main_arg1) = m ((c.tc : Thread Cert.Sample.nD Cert.Sample.τ).loc Cert.Sample.main_arg1)
      ∧ r.2.mem ((c.tc : Thread Cert.Sample.nD Cert.Sample.τ).loc Cert.Sample.main_arg2) = m ((c.tc : Thread Cert.Sample.nD Cert.Sample.τ).loc Cert.Sample.main_arg2)
      ∧ r.2.mem ((c.tc : Thread Cert.Sample.nD Cert.Sample.τ).loc Cert.Sample.main_arg3) = m ((c.tc : Thread Cert.Sample.nD Cert.Sample.τ).loc Cert.Sample.main_arg3)
      ∧ r.2.mem ((c.tc : Thread Cert.Sample.nD Cert.Sample.τ).loc Cert.Sample.main_arg4) = m ((c.tc : Thread Cert.Sample.nD Cert.Sample.τ).loc Cert.Sample.main_arg4)
      ∧ r.2.mem ((c.tc : Thread Cert.Sample.nD Cert.Sample.τ).loc Cert.Sample.main_arg5) = m ((c.tc : Thread Cert.Sample.nD Cert.Sample.τ).loc Cert.Sample.main_arg5)
      ∧ r.2.mem ((c.tc : Thread Cert.Sample.nD Cert.Sample.τ).loc Cert.Sample.main_arg6) = m ((c.tc : Thread Cert.Sample.nD Cert.Sample.τ).loc Cert.Sample.main_arg6)
      ∧ r.2.mem ((c.tc : Thread Cert.Sample.nD Cert.Sample.τ).loc Cert.Sample.main_arg7) = m ((c.tc : Thread Cert.Sample.nD Cert.Sample.τ).loc Cert.Sample.main_arg7))
      ∧ r.2.sem = fun _ => 0)

def quiescent_SampleIdeal [hSampleIdeal : Cert.SampleIdeal.Facts] : Prop :=
  ∀ (m : (ℓ : Loc Cert.SampleIdeal.nD Cert.SampleIdeal.τ Cert.SampleIdeal.sig) → Buf (Elt Ideal) ℓ) (g : Dev Cert.SampleIdeal.nD → PrngReg), Pre_SampleIdeal m →
    θ_run (Cert.SampleIdeal.defs (F := Ideal)) (onTc (τ := Cert.SampleIdeal.τ) (Cert.SampleIdeal.main (F := Ideal))) ⟨m, fun _ => 0, g⟩ (fun r => (∀ c : Dev Cert.SampleIdeal.nD,
      r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
      ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
      ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
      ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
      ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4)
      ∧ r.2.mem ((c.tc : Thread Cert.SampleIdeal.nD Cert.SampleIdeal.τ).loc Cert.SampleIdeal.main_arg5) = m ((c.tc : Thread Cert.SampleIdeal.nD Cert.SampleIdeal.τ).loc Cert.SampleIdeal.main_arg5)
      ∧ r.2.mem ((c.tc : Thread Cert.SampleIdeal.nD Cert.SampleIdeal.τ).loc Cert.SampleIdeal.main_arg6) = m ((c.tc : Thread Cert.SampleIdeal.nD Cert.SampleIdeal.τ).loc Cert.SampleIdeal.main_arg6)
      ∧ r.2.mem ((c.tc : Thread Cert.SampleIdeal.nD Cert.SampleIdeal.τ).loc Cert.SampleIdeal.main_arg7) = m ((c.tc : Thread Cert.SampleIdeal.nD Cert.SampleIdeal.τ).loc Cert.SampleIdeal.main_arg7))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_packed [hKernelIdeal : Cert.KernelIdeal.Facts] [hReferenceIdeal : Cert.ReferenceIdeal.Facts] [hPre_packed : Cert.Pre_packed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_packed m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v42) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5))

def preserves_OutProj_OutProjIdeal : Prop :=
  True

def algebraic_OutProjIdeal_OutProjReferenceIdeal [hOutProjIdeal : Cert.OutProjIdeal.Facts] [hOutProjReferenceIdeal : Cert.OutProjReferenceIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjReferenceIdeal.nD Cert.OutProjReferenceIdeal.τ Cert.OutProjReferenceIdeal.sig) → Buf (Elt Ideal) ℓ) (g' : Dev Cert.OutProjReferenceIdeal.nD → PrngReg), Pre_OutProjIdeal m →
    (∀ c : Dev Cert.OutProjIdeal.nD,
      m' ((c.tc : Thread Cert.OutProjReferenceIdeal.nD Cert.OutProjReferenceIdeal.τ).loc Cert.OutProjReferenceIdeal.main_arg0) = m ((c.tc : Thread Cert.OutProjIdeal.nD Cert.OutProjIdeal.τ).loc Cert.OutProjIdeal.main_arg0)
      ∧ m' ((c.tc : Thread Cert.OutProjReferenceIdeal.nD Cert.OutProjReferenceIdeal.τ).loc Cert.OutProjReferenceIdeal.main_arg1) = m ((c.tc : Thread Cert.OutProjIdeal.nD Cert.OutProjIdeal.τ).loc Cert.OutProjIdeal.main_arg1)
      ∧ m' ((c.tc : Thread Cert.OutProjReferenceIdeal.nD Cert.OutProjReferenceIdeal.τ).loc Cert.OutProjReferenceIdeal.main_arg2) = m ((c.tc : Thread Cert.OutProjIdeal.nD Cert.OutProjIdeal.τ).loc Cert.OutProjIdeal.main_arg2)
      ∧ m' ((c.tc : Thread Cert.OutProjReferenceIdeal.nD Cert.OutProjReferenceIdeal.τ).loc Cert.OutProjReferenceIdeal.main_arg3) = m ((c.tc : Thread Cert.OutProjIdeal.nD Cert.OutProjIdeal.τ).loc Cert.OutProjIdeal.main_arg3)
      ∧ m' ((c.tc : Thread Cert.OutProjReferenceIdeal.nD Cert.OutProjReferenceIdeal.τ).loc Cert.OutProjReferenceIdeal.main_arg4) = m ((c.tc : Thread Cert.OutProjIdeal.nD Cert.OutProjIdeal.τ).loc Cert.OutProjIdeal.main_arg4)
      ∧ m' ((c.tc : Thread Cert.OutProjReferenceIdeal.nD Cert.OutProjReferenceIdeal.τ).loc Cert.OutProjReferenceIdeal.main_arg5) = m ((c.tc : Thread Cert.OutProjIdeal.nD Cert.OutProjIdeal.τ).loc Cert.OutProjIdeal.main_arg5)
      ∧ m' ((c.tc : Thread Cert.OutProjReferenceIdeal.nD Cert.OutProjReferenceIdeal.τ).loc Cert.OutProjReferenceIdeal.main_arg6) = m ((c.tc : Thread Cert.OutProjIdeal.nD Cert.OutProjIdeal.τ).loc Cert.OutProjIdeal.main_arg6)) →
    ∃ (v0 : (c : Dev Cert.OutProjIdeal.nD) → Buf (Elt Ideal) ((c.tc : Thread Cert.OutProjIdeal.nD Cert.OutProjIdeal.τ).loc Cert.OutProjIdeal.main_v3)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v3) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
          ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6))
      ∧ θ_run (Cert.OutProjReferenceIdeal.defs (F := Ideal)) (onTc (τ := Cert.OutProjReferenceIdeal.τ) (Cert.OutProjReferenceIdeal.main (F := Ideal))) ⟨m', fun _ => 0, g'⟩ (fun r => ∀ c : Dev Cert.OutProjReferenceIdeal.nD,
          r.2.mem ((c.tc : Thread Cert.OutProjReferenceIdeal.nD Cert.OutProjReferenceIdeal.τ).loc Cert.OutProjReferenceIdeal.main_v44) = v0 c
          ∧ r.2.mem ((c.tc : Thread Cert.OutProjReferenceIdeal.nD Cert.OutProjReferenceIdeal.τ).loc Cert.OutProjReferenceIdeal.main_arg0) = m' ((c.tc : Thread Cert.OutProjReferenceIdeal.nD Cert.OutProjReferenceIdeal.τ).loc Cert.OutProjReferenceIdeal.main_arg0)
          ∧ r.2.mem ((c.tc : Thread Cert.OutProjReferenceIdeal.nD Cert.OutProjReferenceIdeal.τ).loc Cert.OutProjReferenceIdeal.main_arg1) = m' ((c.tc : Thread Cert.OutProjReferenceIdeal.nD Cert.OutProjReferenceIdeal.τ).loc Cert.OutProjReferenceIdeal.main_arg1)
          ∧ r.2.mem ((c.tc : Thread Cert.OutProjReferenceIdeal.nD Cert.OutProjReferenceIdeal.τ).loc Cert.OutProjReferenceIdeal.main_arg2) = m' ((c.tc : Thread Cert.OutProjReferenceIdeal.nD Cert.OutProjReferenceIdeal.τ).loc Cert.OutProjReferenceIdeal.main_arg2)
          ∧ r.2.mem ((c.tc : Thread Cert.OutProjReferenceIdeal.nD Cert.OutProjReferenceIdeal.τ).loc Cert.OutProjReferenceIdeal.main_arg3) = m' ((c.tc : Thread Cert.OutProjReferenceIdeal.nD Cert.OutProjReferenceIdeal.τ).loc Cert.OutProjReferenceIdeal.main_arg3)
          ∧ r.2.mem ((c.tc : Thread Cert.OutProjReferenceIdeal.nD Cert.OutProjReferenceIdeal.τ).loc Cert.OutProjReferenceIdeal.main_arg4) = m' ((c.tc : Thread Cert.OutProjReferenceIdeal.nD Cert.OutProjReferenceIdeal.τ).loc Cert.OutProjReferenceIdeal.main_arg4)
          ∧ r.2.mem ((c.tc : Thread Cert.OutProjReferenceIdeal.nD Cert.OutProjReferenceIdeal.τ).loc Cert.OutProjReferenceIdeal.main_arg5) = m' ((c.tc : Thread Cert.OutProjReferenceIdeal.nD Cert.OutProjReferenceIdeal.τ).loc Cert.OutProjReferenceIdeal.main_arg5)
          ∧ r.2.mem ((c.tc : Thread Cert.OutProjReferenceIdeal.nD Cert.OutProjReferenceIdeal.τ).loc Cert.OutProjReferenceIdeal.main_arg6) = m' ((c.tc : Thread Cert.OutProjReferenceIdeal.nD Cert.OutProjReferenceIdeal.τ).loc Cert.OutProjReferenceIdeal.main_arg6))

def preserves_Sample_SampleIdeal : Prop :=
  IdealRules.named_const.Statement Cert.SampleIdeal.κ "mask" .f32 0xF149F2CA#32 ⊥

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hOutProj : Cert.OutProj.Facts) (hOutProjIdeal : Cert.OutProjIdeal.Facts) (hOutProjReferenceIdeal : Cert.OutProjReferenceIdeal.Facts) (hSample : Cert.Sample.Facts) (hSampleIdeal : Cert.SampleIdeal.Facts) (hPre_packed : Cert.Pre_packed.Facts),
    quiescent_Kernel (hKernel := hKernel)
    ∧ quiescent_KernelIdeal (hKernelIdeal := hKernelIdeal)
    ∧ quiescent_KernelIdeal_pre_packed (hKernelIdeal := hKernelIdeal) (hPre_packed := hPre_packed)
    ∧ quiescent_ReferenceIdeal (hReferenceIdeal := hReferenceIdeal)
    ∧ quiescent_ReferenceIdeal_pre_packed (hReferenceIdeal := hReferenceIdeal) (hPre_packed := hPre_packed)
    ∧ quiescent_Ffn (hFfn := hFfn)
    ∧ quiescent_FfnIdeal (hFfnIdeal := hFfnIdeal)
    ∧ quiescent_FfnReferenceIdeal (hFfnReferenceIdeal := hFfnReferenceIdeal)
    ∧ quiescent_OutProj (hOutProj := hOutProj)
    ∧ quiescent_OutProjIdeal (hOutProjIdeal := hOutProjIdeal)
    ∧ quiescent_OutProjReferenceIdeal (hOutProjReferenceIdeal := hOutProjReferenceIdeal)
    ∧ quiescent_Sample (hSample := hSample)
    ∧ quiescent_SampleIdeal (hSampleIdeal := hSampleIdeal)
    ∧ preserves_Kernel_KernelIdeal
    ∧ algebraic_KernelIdeal_ReferenceIdeal_pre_packed (hKernelIdeal := hKernelIdeal) (hReferenceIdeal := hReferenceIdeal) (hPre_packed := hPre_packed)
    ∧ preserves_Ffn_FfnIdeal
    ∧ algebraic_FfnIdeal_FfnReferenceIdeal (hFfnIdeal := hFfnIdeal) (hFfnReferenceIdeal := hFfnReferenceIdeal)
    ∧ preserves_OutProj_OutProjIdeal
    ∧ algebraic_OutProjIdeal_OutProjReferenceIdeal (hOutProjIdeal := hOutProjIdeal) (hOutProjReferenceIdeal := hOutProjReferenceIdeal)
    ∧ preserves_Sample_SampleIdeal
-- ==== Pre_packed.lean ====
abbrev S16896x2048 : Shape := ⟨2, ![16896, 2048]⟩
abbrev S8x33x144x512 : Shape := ⟨4, ![8, 33, 144, 512]⟩
abbrev S16896x8x256 : Shape := ⟨3, ![16896, 8, 256]⟩
abbrev S_ : Shape := ⟨0, ![]⟩
abbrev S16896x8x3 : Shape := ⟨3, ![16896, 8, 3]⟩
abbrev S16896x8x122 : Shape := ⟨3, ![16896, 8, 122]⟩
abbrev S8x33x1x512 : Shape := ⟨4, ![8, 33, 1, 512]⟩
abbrev S8x33x512 : Shape := ⟨3, ![8, 33, 512]⟩

class Facts : Prop where
  bitsLt_bf16_f32 : FTy.bits .bf16 < FTy.bits .f32
  shapeCasts_S16896x2048_S16896x8x256 : S16896x2048.ShapeCasts S16896x8x256
  bcast_S_S16896x2048 : S_.BroadcastsInDim S16896x2048 (![] : Fin 0 → Fin S16896x2048.rank)
  bcast_S_S8x33x144x512 : S_.BroadcastsInDim S8x33x144x512 (![] : Fin 0 → Fin S8x33x144x512.rank)
  slices_S16896x8x256_S16896x8x3_0_0_128 : S16896x8x256.Slices ![0, 0, 128] S16896x8x3
  bcast_S_S16896x8x3 : S_.BroadcastsInDim S16896x8x3 (![] : Fin 0 → Fin S16896x8x3.rank)
  slices_S16896x8x256_S16896x8x122_0_0_134 : S16896x8x256.Slices ![0, 0, 134] S16896x8x122
  bcast_S_S16896x8x122 : S_.BroadcastsInDim S16896x8x122 (![] : Fin 0 → Fin S16896x8x122.rank)
  slices_S16896x8x256_S16896x8x3_0_0_131 : S16896x8x256.Slices ![0, 0, 131] S16896x8x3
  slices_S8x33x144x512_S8x33x1x512_0_0_128_0 : S8x33x144x512.Slices ![0, 0, 128, 0] S8x33x1x512
  shapeCasts_S8x33x1x512_S8x33x512 : S8x33x1x512.ShapeCasts S8x33x512
  bcast_S_S8x33x512 : S_.BroadcastsInDim S8x33x512 (![] : Fin 0 → Fin S8x33x512.rank)

variable [Facts]

def fn_part1 {F : FTy → Type} [FloatOps F] (main_v2 : FVec F S8x33x144x512 .f32) (main_v4 : FVec F S16896x8x256 .f32) (main_v7 : IVec S16896x2048 1) (main_v10 : IVec S16896x2048 1) (main_v13 : IVec S8x33x144x512 1) (main_v16 : IVec S16896x8x3 1) (main_v17 : FVec F S16896x8x122 .f32) (main_v18 : FVec F S16896x8x122 .f32) : IVec S16896x2048 1 × IVec S16896x2048 1 × IVec S8x33x144x512 1 × IVec S16896x8x3 1 × IVec S16896x8x122 1 × IVec S16896x8x3 1 × IVec S8x33x512 1 :=
  let main_v19 : IVec S16896x8x122 1 := cmpf .oeq main_v17 main_v18
  let main_v20 : FVec F S16896x8x3 .f32 := (extractStridedSlice S16896x8x3 ![0, 0, 131] · slices_S16896x8x256_S16896x8x3_0_0_131) main_v4
  let main_cst_4 : FVec F S_ .f32 := constant S_ .f32 0x3F800000#32
  let main_v21 : FVec F S16896x8x3 .f32 := broadcastInDim S16896x8x3 ![] bcast_S_S16896x8x3 main_cst_4
  let main_v22 : IVec S16896x8x3 1 := cmpf .oeq main_v20 main_v21
  let main_v23 : FVec F S8x33x1x512 .f32 := (extractStridedSlice S8x33x1x512 ![0, 0, 128, 0] · slices_S8x33x144x512_S8x33x1x512_0_0_128_0) main_v2
  let main_v24 : FVec F S8x33x512 .f32 := shapeCast S8x33x512 main_v23 shapeCasts_S8x33x1x512_S8x33x512
  let main_cst_5 : FVec F S_ .f32 := constant S_ .f32 0x3F800000#32
  let main_v25 : FVec F S8x33x512 .f32 := broadcastInDim S8x33x512 ![] bcast_S_S8x33x512 main_cst_5
  let main_v26 : IVec S8x33x512 1 := cmpf .oeq main_v24 main_v25
  (main_v7, main_v10, main_v13, main_v16, main_v19, main_v22, main_v26)

def fn {F : FTy → Type} [FloatOps F] (main_arg0 : FVec F S16896x2048 .bf16) (main_arg1 : FVec F S16896x2048 .bf16) (main_arg2 : FVec F S8x33x144x512 .bf16) : IVec S16896x2048 1 × IVec S16896x2048 1 × IVec S8x33x144x512 1 × IVec S16896x8x3 1 × IVec S16896x8x122 1 × IVec S16896x8x3 1 × IVec S8x33x512 1 :=
  let main_v0 : FVec F S16896x2048 .f32 := (extf .f32 · bitsLt_bf16_f32) main_arg0
  let main_v1 : FVec F S16896x2048 .f32 := (extf .f32 · bitsLt_bf16_f32) main_arg1
  let main_v2 : FVec F S8x33x144x512 .f32 := (extf .f32 · bitsLt_bf16_f32) main_arg2
  let main_v3 : FVec F S16896x8x256 .f32 := shapeCast S16896x8x256 main_v0 shapeCasts_S16896x2048_S16896x8x256
  let main_v4 : FVec F S16896x8x256 .f32 := shapeCast S16896x8x256 main_v1 shapeCasts_S16896x2048_S16896x8x256
  let main_v5 : FVec F S16896x2048 .f32 := Host.absf main_v0
  let main_cst : FVec F S_ .f32 := constant S_ .f32 0x7F800000#32
  let main_v6 : FVec F S16896x2048 .f32 := broadcastInDim S16896x2048 ![] bcast_S_S16896x2048 main_cst
  let main_v7 : IVec S16896x2048 1 := cmpf .olt main_v5 main_v6
  let main_v8 : FVec F S16896x2048 .f32 := Host.absf main_v1
  let main_cst_0 : FVec F S_ .f32 := constant S_ .f32 0x7F800000#32
  let main_v9 : FVec F S16896x2048 .f32 := broadcastInDim S16896x2048 ![] bcast_S_S16896x2048 main_cst_0
  let main_v10 : IVec S16896x2048 1 := cmpf .olt main_v8 main_v9
  let main_v11 : FVec F S8x33x144x512 .f32 := Host.absf main_v2
  let main_cst_1 : FVec F S_ .f32 := constant S_ .f32 0x7F800000#32
  let main_v12 : FVec F S8x33x144x512 .f32 := broadcastInDim S8x33x144x512 ![] bcast_S_S8x33x144x512 main_cst_1
  let main_v13 : IVec S8x33x144x512 1 := cmpf .olt main_v11 main_v12
  let main_v14 : FVec F S16896x8x3 .f32 := (extractStridedSlice S16896x8x3 ![0, 0, 128] · slices_S16896x8x256_S16896x8x3_0_0_128) main_v3
  let main_cst_2 : FVec F S_ .f32 := constant S_ .f32 0x3F800000#32
  let main_v15 : FVec F S16896x8x3 .f32 := broadcastInDim S16896x8x3 ![] bcast_S_S16896x8x3 main_cst_2
  let main_v16 : IVec S16896x8x3 1 := cmpf .oeq main_v14 main_v15
  let main_v17 : FVec F S16896x8x122 .f32 := (extractStridedSlice S16896x8x122 ![0, 0, 134] · slices_S16896x8x256_S16896x8x122_0_0_134) main_v3
  let main_cst_3 : FVec F S_ .f32 := constant S_ .f32 0x00000000#32
  let main_v18 : FVec F S16896x8x122 .f32 := broadcastInDim S16896x8x122 ![] bcast_S_S16896x8x122 main_cst_3
  fn_part1 (F := F) main_v2 main_v4 main_v7 main_v10 main_v13 main_v16 main_v17 main_v18
-- ==== Kernel.lean ====
abbrev S16896x2048 : Shape := ⟨2, ![16896, 2048]⟩
abbrev S8x33x144x512 : Shape := ⟨4, ![8, 33, 144, 512]⟩
abbrev S16896x1024 : Shape := ⟨2, ![16896, 1024]⟩
abbrev S1536x256 : Shape := ⟨2, ![1536, 256]⟩
abbrev S16896x256 : Shape := ⟨2, ![16896, 256]⟩
abbrev S1x33x144x512 : Shape := ⟨4, ![1, 33, 144, 512]⟩
abbrev S1536x128 : Shape := ⟨2, ![1536, 128]⟩
abbrev S512x1536 : Shape := ⟨2, ![512, 1536]⟩
abbrev S144x1536 : Shape := ⟨2, ![144, 1536]⟩
abbrev S512x256 : Shape := ⟨2, ![512, 256]⟩
abbrev S1536 : Shape := ⟨1, ![1536]⟩
abbrev S1x1536 : Shape := ⟨2, ![1, 1536]⟩
abbrev S1x1x144x512 : Shape := ⟨4, ![1, 1, 144, 512]⟩
abbrev S144x512 : Shape := ⟨2, ![144, 512]⟩
abbrev S1024x256 : Shape := ⟨2, ![1024, 256]⟩
abbrev S512x1024 : Shape := ⟨2, ![512, 1024]⟩
abbrev S512x512 : Shape := ⟨2, ![512, 512]⟩
abbrev S1x1024 : Shape := ⟨2, ![1, 1024]⟩
abbrev S1024 : Shape := ⟨1, ![1024]⟩
abbrev S144x1024 : Shape := ⟨2, ![144, 1024]⟩
abbrev S1x512 : Shape := ⟨2, ![1, 512]⟩
abbrev S512 : Shape := ⟨1, ![512]⟩
abbrev S128x1536 : Shape := ⟨2, ![128, 1536]⟩

abbrev nBuf : Space → Nat
  | .hbm => 4
  | .vmem => 11
  | .smem => 0
  | _ => 0

abbrev bufTy : (tb : Table) → Fin (tcTables nBuf tb) → BufTy
  | .hbm, ⟨0, _⟩ => ⟨S16896x2048, .bf16⟩
  | .hbm, ⟨1, _⟩ => ⟨S16896x2048, .bf16⟩
  | .hbm, ⟨2, _⟩ => ⟨S8x33x144x512, .bf16⟩
  | .hbm, ⟨3, _⟩ => ⟨S16896x1024, .f32⟩
  | .local _ .vmem, ⟨0, _⟩ => ⟨S1536x256, .bf16⟩
  | .local _ .vmem, ⟨1, _⟩ => ⟨S1536x256, .bf16⟩
  | .local _ .vmem, ⟨2, _⟩ => ⟨S16896x256, .bf16⟩
  | .local _ .vmem, ⟨3, _⟩ => ⟨S16896x256, .bf16⟩
  | .local _ .vmem, ⟨4, _⟩ => ⟨S1x33x144x512, .bf16⟩
  | .local _ .vmem, ⟨5, _⟩ => ⟨S1x33x144x512, .bf16⟩
  | .local _ .vmem, ⟨6, _⟩ => ⟨S1536x128, .f32⟩
  | .local _ .vmem, ⟨7, _⟩ => ⟨S1536x128, .f32⟩
  | .local _ .vmem, ⟨8, _⟩ => ⟨S512x1536, .f32⟩
  | .local _ .vmem, ⟨9, _⟩ => ⟨S512x1536, .f32⟩
  | .local _ .vmem, ⟨10, _⟩ => ⟨S144x1536, .f32⟩
  | _, _ => ⟨S16896x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 11], ![false, false]⟩

def k0_mult1 : BitVec 32 :=
  let c0_i32 : BitVec 32 := 0#32
  c0_i32
@[reducible] def k0_t1_loop (i : grid0.Coords) : Scf.Loop 32 :=
  let c0_i32_14 : BitVec 32 := 0#32
  let arg1 : BitVec 32 := BitVec.ofNat 32 (i 1).val
  let c3_i32 : BitVec 32 := 3#32
  let v0 : BitVec 32 := Scalar.muli arg1 c3_i32
  let c0_i32_9 : BitVec 32 := 0#32
  let v17 : BitVec 1 := Scalar.cmpi .sgt v0 c0_i32_9
  let v18 : BitVec 32 := Scalar.extui v17
  let c0_i32_10 : BitVec 32 := 0#32
  let v19 : BitVec 1 := Scalar.cmpi .slt v0 c0_i32_10
  let v20 : BitVec 32 := Scalar.extui v19
  let v21 : BitVec 32 := Scalar.subi v18 v20
  let c4_i32 : BitVec 32 := 4#32
  let c0_i32_11 : BitVec 32 := 0#32
  let v22 : BitVec 1 := Scalar.cmpi .sgt c4_i32 c0_i32_11
  let v23 : BitVec 32 := Scalar.extui v22
  let c0_i32_12 : BitVec 32 := 0#32
  let v24 : BitVec 1 := Scalar.cmpi .slt c4_i32 c0_i32_12
  let v25 : BitVec 32 := Scalar.extui v24
  let v26 : BitVec 32 := Scalar.subi v23 v25
  let v27 : BitVec 1 := Scalar.cmpi .ne v21 v26
  let v28 : BitVec 32 := Scalar.remsi v0 c4_i32
  let c0_i32_13 : BitVec 32 := 0#32
  let v29 : BitVec 1 := Scalar.cmpi .ne v28 c0_i32_13
  let v30 : BitVec 1 := Scalar.andi v27 v29
  let v16 : BitVec 32 := Scalar.divsi v0 c4_i32
  let c1_i32 : BitVec 32 := 1#32
  let v31 : BitVec 32 := Scalar.subi v16 c1_i32
  let v32 : BitVec 32 := Scalar.select v30 v31 v16
  let v33 : BitVec 32 := Scalar.subi v32 c0_i32_14
  let c1_i32_15 : BitVec 32 := 1#32
  let v35 : BitVec 32 := Scalar.divsi v33 c1_i32_15
  let v36 : BitVec 32 := Scalar.muli v35 c1_i32_15
  let v37 : BitVec 32 := Scalar.addi c0_i32_14 v36
  let c1_i32_16 : BitVec 32 := 1#32
  ⟨c0_i32_14, v37, c1_i32_16⟩
def k0_mult2 (i : grid0.Coords) (k0_t1 : Fin (k0_t1_loop i).trips) : BitVec 32 :=
  let c4_i32_58 : BitVec 32 := 4#32
  let c0_i32_14 : BitVec 32 := 0#32
  let c1_i32_16 : BitVec 32 := 1#32
  let arg9 : BitVec 32 := Scf.iv c0_i32_14 c1_i32_16 k0_t1
  let v118 : BitVec 32 := Scalar.muli c4_i32_58 arg9
  let c0_i32_59 : BitVec 32 := 0#32
  let v119 : BitVec 32 := Scalar.addi v118 c0_i32_59
  let c1_i32_60 : BitVec 32 := 1#32
  let v120 : BitVec 32 := Scalar.addi v119 c1_i32_60
  let c512_i32 : BitVec 32 := 512#32
  let v121 : BitVec 32 := Scalar.muli v120 c512_i32
  v121
def k0_off1 (i : grid0.Coords) (k0_t1 : Fin (k0_t1_loop i).trips) (c0_i32_59 : BitVec 32) (c1_i32_60 : BitVec 32) : Fin 2 → Nat :=
  let c4_i32_58 : BitVec 32 := 4#32
  let c0_i32_14 : BitVec 32 := 0#32
  let c1_i32_16 : BitVec 32 := 1#32
  let arg9 : BitVec 32 := Scf.iv c0_i32_14 c1_i32_16 k0_t1
  let v118 : BitVec 32 := Scalar.muli c4_i32_58 arg9
  let v119 : BitVec 32 := Scalar.addi v118 c0_i32_59
  let v120 : BitVec 32 := Scalar.addi v119 c1_i32_60
  let c512_i32 : BitVec 32 := 512#32
  let v121 : BitVec 32 := Scalar.muli v120 c512_i32
  let v122 : BitVec 32 := v121
  let v123 : Index := Scalar.indexCast v122
  let c0_61 : Index := 0#32
  ![v123.toNat, 0]
def k0_off2 (i : grid0.Coords) (k0_t1 : Fin (k0_t1_loop i).trips) (c0_i32_59 : BitVec 32) : Fin 4 → Nat :=
  let c0_72 : Index := 0#32
  let c4_i32_58 : BitVec 32 := 4#32
  let c0_i32_14 : BitVec 32 := 0#32
  let c1_i32_16 : BitVec 32 := 1#32
  let arg9 : BitVec 32 := Scf.iv c0_i32_14 c1_i32_16 k0_t1
  let v118 : BitVec 32 := Scalar.muli c4_i32_58 arg9
  let v119 : BitVec 32 := Scalar.addi v118 c0_i32_59
  let v142 : Index := Scalar.indexCast v119
  let c0_73 : Index := 0#32
  let c0_74 : Index := 0#32
  ![0, v142.toNat, 0, 0]
def k0_mult3 (i : grid0.Coords) (k0_t1 : Fin (k0_t1_loop i).trips) : BitVec 32 :=
  let c4_i32_58 : BitVec 32 := 4#32
  let c0_i32_14 : BitVec 32 := 0#32
  let c1_i32_16 : BitVec 32 := 1#32
  let arg9 : BitVec 32 := Scf.iv c0_i32_14 c1_i32_16 k0_t1
  let v118 : BitVec 32 := Scalar.muli c4_i32_58 arg9
  let c0_i32_59 : BitVec 32 := 0#32
  let v119 : BitVec 32 := Scalar.addi v118 c0_i32_59
  let c2_i32_78 : BitVec 32 := 2#32
  let v151 : BitVec 32 := Scalar.addi v119 c2_i32_78
  let c512_i32_79 : BitVec 32 := 512#32
  let v152 : BitVec 32 := Scalar.muli v151 c512_i32_79
  v152
def k0_off3 (i : grid0.Coords) (k0_t1 : Fin (k0_t1_loop i).trips) (c0_i32_59 : BitVec 32) : Fin 4 → Nat :=
  let c0_92 : Index := 0#32
  let c4_i32_58 : BitVec 32 := 4#32
  let c0_i32_14 : BitVec 32 := 0#32
  let c1_i32_16 : BitVec 32 := 1#32
  let arg9 : BitVec 32 := Scf.iv c0_i32_14 c1_i32_16 k0_t1
  let v118 : BitVec 32 := Scalar.muli c4_i32_58 arg9
  let v119 : BitVec 32 := Scalar.addi v118 c0_i32_59
  let c1_i32_87 : BitVec 32 := 1#32
  let v163 : BitVec 32 := Scalar.addi v119 c1_i32_87
  let v174 : Index := Scalar.indexCast v163
  let c0_93 : Index := 0#32
  let c0_94 : Index := 0#32
  ![0, v174.toNat, 0, 0]
def k0_mult4 (i : grid0.Coords) (k0_t1 : Fin (k0_t1_loop i).trips) : BitVec 32 :=
  let c4_i32_58 : BitVec 32 := 4#32
  let c0_i32_14 : BitVec 32 := 0#32
  let c1_i32_16 : BitVec 32 := 1#32
  let arg9 : BitVec 32 := Scf.iv c0_i32_14 c1_i32_16 k0_t1
  let v118 : BitVec 32 := Scalar.muli c4_i32_58 arg9
  let c2_i32_98 : BitVec 32 := 2#32
  let v183 : BitVec 32 := Scalar.addi v118 c2_i32_98
  let c1_i32_99 : BitVec 32 := 1#32
  let v184 : BitVec 32 := Scalar.addi v183 c1_i32_99
  let c512_i32_100 : BitVec 32 := 512#32
  let v185 : BitVec 32 := Scalar.muli v184 c512_i32_100
  v185
def k0_mult5 (i : grid0.Coords) (k0_t1 : Fin (k0_t1_loop i).trips) : BitVec 32 :=
  let c4_i32_58 : BitVec 32 := 4#32
  let c0_i32_14 : BitVec 32 := 0#32
  let c1_i32_16 : BitVec 32 := 1#32
  let arg9 : BitVec 32 := Scf.iv c0_i32_14 c1_i32_16 k0_t1
  let v118 : BitVec 32 := Scalar.muli c4_i32_58 arg9
  let c2_i32_98 : BitVec 32 := 2#32
  let v183 : BitVec 32 := Scalar.addi v118 c2_i32_98
  let c2_i32_118 : BitVec 32 := 2#32
  let v215 : BitVec 32 := Scalar.addi v183 c2_i32_118
  let c512_i32_119 : BitVec 32 := 512#32
  let v216 : BitVec 32 := Scalar.muli v215 c512_i32_119
  v216
@[reducible] def k0_t2_loop (i : grid0.Coords) : Scf.Loop 32 :=
  let c0_i32_14 : BitVec 32 := 0#32
  let arg1 : BitVec 32 := BitVec.ofNat 32 (i 1).val
  let c3_i32 : BitVec 32 := 3#32
  let v0 : BitVec 32 := Scalar.muli arg1 c3_i32
  let c0_i32_9 : BitVec 32 := 0#32
  let v17 : BitVec 1 := Scalar.cmpi .sgt v0 c0_i32_9
  let v18 : BitVec 32 := Scalar.extui v17
  let c0_i32_10 : BitVec 32 := 0#32
  let v19 : BitVec 1 := Scalar.cmpi .slt v0 c0_i32_10
  let v20 : BitVec 32 := Scalar.extui v19
  let v21 : BitVec 32 := Scalar.subi v18 v20
  let c4_i32 : BitVec 32 := 4#32
  let c0_i32_11 : BitVec 32 := 0#32
  let v22 : BitVec 1 := Scalar.cmpi .sgt c4_i32 c0_i32_11
  let v23 : BitVec 32 := Scalar.extui v22
  let c0_i32_12 : BitVec 32 := 0#32
  let v24 : BitVec 1 := Scalar.cmpi .slt c4_i32 c0_i32_12
  let v25 : BitVec 32 := Scalar.extui v24
  let v26 : BitVec 32 := Scalar.subi v23 v25
  let v27 : BitVec 1 := Scalar.cmpi .ne v21 v26
  let v28 : BitVec 32 := Scalar.remsi v0 c4_i32
  let c0_i32_13 : BitVec 32 := 0#32
  let v29 : BitVec 1 := Scalar.cmpi .ne v28 c0_i32_13
  let v30 : BitVec 1 := Scalar.andi v27 v29
  let v16 : BitVec 32 := Scalar.divsi v0 c4_i32
  let c1_i32 : BitVec 32 := 1#32
  let v31 : BitVec 32 := Scalar.subi v16 c1_i32
  let v32 : BitVec 32 := Scalar.select v30 v31 v16
  let v33 : BitVec 32 := Scalar.subi v32 c0_i32_14
  let c1_i32_15 : BitVec 32 := 1#32
  let v35 : BitVec 32 := Scalar.divsi v33 c1_i32_15
  let v36 : BitVec 32 := Scalar.muli v35 c1_i32_15
  let v37 : BitVec 32 := Scalar.addi c0_i32_14 v36
  let v34 : BitVec 32 := Scalar.addi c0_i32_14 v33
  let c1_i32_17 : BitVec 32 := 1#32
  ⟨v37, v34, c1_i32_17⟩
def k0_mult6 (i : grid0.Coords) (k0_t2 : Fin (k0_t2_loop i).trips) : BitVec 32 :=
  let c4_i32_58 : BitVec 32 := 4#32
  let c0_i32_14 : BitVec 32 := 0#32
  let arg1 : BitVec 32 := BitVec.ofNat 32 (i 1).val
  let c3_i32 : BitVec 32 := 3#32
  let v0 : BitVec 32 := Scalar.muli arg1 c3_i32
  let c0_i32_9 : BitVec 32 := 0#32
  let v17 : BitVec 1 := Scalar.cmpi .sgt v0 c0_i32_9
  let v18 : BitVec 32 := Scalar.extui v17
  let c0_i32_10 : BitVec 32 := 0#32
  let v19 : BitVec 1 := Scalar.cmpi .slt v0 c0_i32_10
  let v20 : BitVec 32 := Scalar.extui v19
  let v21 : BitVec 32 := Scalar.subi v18 v20
  let c4_i32 : BitVec 32 := 4#32
  let c0_i32_11 : BitVec 32 := 0#32
  let v22 : BitVec 1 := Scalar.cmpi .sgt c4_i32 c0_i32_11
  let v23 : BitVec 32 := Scalar.extui v22
  let c0_i32_12 : BitVec 32 := 0#32
  let v24 : BitVec 1 := Scalar.cmpi .slt c4_i32 c0_i32_12
  let v25 : BitVec 32 := Scalar.extui v24
  let v26 : BitVec 32 := Scalar.subi v23 v25
  let v27 : BitVec 1 := Scalar.cmpi .ne v21 v26
  let v28 : BitVec 32 := Scalar.remsi v0 c4_i32
  let c0_i32_13 : BitVec 32 := 0#32
  let v29 : BitVec 1 := Scalar.cmpi .ne v28 c0_i32_13
  let v30 : BitVec 1 := Scalar.andi v27 v29
  let v16 : BitVec 32 := Scalar.divsi v0 c4_i32
  let c1_i32 : BitVec 32 := 1#32
  let v31 : BitVec 32 := Scalar.subi v16 c1_i32
  let v32 : BitVec 32 := Scalar.select v30 v31 v16
  let v33 : BitVec 32 := Scalar.subi v32 c0_i32_14
  let c1_i32_15 : BitVec 32 := 1#32
  let v35 : BitVec 32 := Scalar.divsi v33 c1_i32_15
  let v36 : BitVec 32 := Scalar.muli v35 c1_i32_15
  let v37 : BitVec 32 := Scalar.addi c0_i32_14 v36
  let c1_i32_17 : BitVec 32 := 1#32
  let arg9 : BitVec 32 := Scf.iv v37 c1_i32_17 k0_t2
  let v118 : BitVec 32 := Scalar.muli c4_i32_58 arg9
  let c0_i32_59 : BitVec 32 := 0#32
  let v119 : BitVec 32 := Scalar.addi v118 c0_i32_59
  let c1_i32_60 : BitVec 32 := 1#32
  let v120 : BitVec 32 := Scalar.addi v119 c1_i32_60
  let c512_i32 : BitVec 32 := 512#32
  let v121 : BitVec 32 := Scalar.muli v120 c512_i32
  v121
def k0_off4 (i : grid0.Coords) (k0_t2 : Fin (k0_t2_loop i).trips) (c0_i32_59 : BitVec 32) (c1_i32_60 : BitVec 32) : Fin 2 → Nat :=
  let c4_i32_58 : BitVec 32 := 4#32
  let c0_i32_14 : BitVec 32 := 0#32
  let arg1 : BitVec 32 := BitVec.ofNat 32 (i 1).val
  let c3_i32 : BitVec 32 := 3#32
  let v0 : BitVec 32 := Scalar.muli arg1 c3_i32
  let c0_i32_9 : BitVec 32 := 0#32
  let v17 : BitVec 1 := Scalar.cmpi .sgt v0 c0_i32_9
  let v18 : BitVec 32 := Scalar.extui v17
  let c0_i32_10 : BitVec 32 := 0#32
  let v19 : BitVec 1 := Scalar.cmpi .slt v0 c0_i32_10
  let v20 : BitVec 32 := Scalar.extui v19
  let v21 : BitVec 32 := Scalar.subi v18 v20
  let c4_i32 : BitVec 32 := 4#32
  let c0_i32_11 : BitVec 32 := 0#32
  let v22 : BitVec 1 := Scalar.cmpi .sgt c4_i32 c0_i32_11
  let v23 : BitVec 32 := Scalar.extui v22
  let c0_i32_12 : BitVec 32 := 0#32
  let v24 : BitVec 1 := Scalar.cmpi .slt c4_i32 c0_i32_12
  let v25 : BitVec 32 := Scalar.extui v24
  let v26 : BitVec 32 := Scalar.subi v23 v25
  let v27 : BitVec 1 := Scalar.cmpi .ne v21 v26
  let v28 : BitVec 32 := Scalar.remsi v0 c4_i32
  let c0_i32_13 : BitVec 32 := 0#32
  let v29 : BitVec 1 := Scalar.cmpi .ne v28 c0_i32_13
  let v30 : BitVec 1 := Scalar.andi v27 v29
  let v16 : BitVec 32 := Scalar.divsi v0 c4_i32
  let c1_i32 : BitVec 32 := 1#32
  let v31 : BitVec 32 := Scalar.subi v16 c1_i32
  let v32 : BitVec 32 := Scalar.select v30 v31 v16
  let v33 : BitVec 32 := Scalar.subi v32 c0_i32_14
  let c1_i32_15 : BitVec 32 := 1#32
  let v35 : BitVec 32 := Scalar.divsi v33 c1_i32_15
  let v36 : BitVec 32 := Scalar.muli v35 c1_i32_15
  let v37 : BitVec 32 := Scalar.addi c0_i32_14 v36
  let c1_i32_17 : BitVec 32 := 1#32
  let arg9 : BitVec 32 := Scf.iv v37 c1_i32_17 k0_t2
  let v118 : BitVec 32 := Scalar.muli c4_i32_58 arg9
  let v119 : BitVec 32 := Scalar.addi v118 c0_i32_59
  let v120 : BitVec 32 := Scalar.addi v119 c1_i32_60
  let c512_i32 : BitVec 32 := 512#32
  let v121 : BitVec 32 := Scalar.muli v120 c512_i32
  let v122 : BitVec 32 := v121
  let v123 : Index := Scalar.indexCast v122
  let c0_61 : Index := 0#32
  ![v123.toNat, 0]
def k0_off5 (i : grid0.Coords) (k0_t2 : Fin (k0_t2_loop i).trips) (c0_i32_59 : BitVec 32) : Fin 4 → Nat :=
  let c0_72 : Index := 0#32
  let c4_i32_58 : BitVec 32 := 4#32
  let c0_i32_14 : BitVec 32 := 0#32
  let arg1 : BitVec 32 := BitVec.ofNat 32 (i 1).val
  let c3_i32 : BitVec 32 := 3#32
  let v0 : BitVec 32 := Scalar.muli arg1 c3_i32
  let c0_i32_9 : BitVec 32 := 0#32
  let v17 : BitVec 1 := Scalar.cmpi .sgt v0 c0_i32_9
  let v18 : BitVec 32 := Scalar.extui v17
  let c0_i32_10 : BitVec 32 := 0#32
  let v19 : BitVec 1 := Scalar.cmpi .slt v0 c0_i32_10
  let v20 : BitVec 32 := Scalar.extui v19
  let v21 : BitVec 32 := Scalar.subi v18 v20
  let c4_i32 : BitVec 32 := 4#32
  let c0_i32_11 : BitVec 32 := 0#32
  let v22 : BitVec 1 := Scalar.cmpi .sgt c4_i32 c0_i32_11
  let v23 : BitVec 32 := Scalar.extui v22
  let c0_i32_12 : BitVec 32 := 0#32
  let v24 : BitVec 1 := Scalar.cmpi .slt c4_i32 c0_i32_12
  let v25 : BitVec 32 := Scalar.extui v24
  let v26 : BitVec 32 := Scalar.subi v23 v25
  let v27 : BitVec 1 := Scalar.cmpi .ne v21 v26
  let v28 : BitVec 32 := Scalar.remsi v0 c4_i32
  let c0_i32_13 : BitVec 32 := 0#32
  let v29 : BitVec 1 := Scalar.cmpi .ne v28 c0_i32_13
  let v30 : BitVec 1 := Scalar.andi v27 v29
  let v16 : BitVec 32 := Scalar.divsi v0 c4_i32
  let c1_i32 : BitVec 32 := 1#32
  let v31 : BitVec 32 := Scalar.subi v16 c1_i32
  let v32 : BitVec 32 := Scalar.select v30 v31 v16
  let v33 : BitVec 32 := Scalar.subi v32 c0_i32_14
  let c1_i32_15 : BitVec 32 := 1#32
  let v35 : BitVec 32 := Scalar.divsi v33 c1_i32_15
  let v36 : BitVec 32 := Scalar.muli v35 c1_i32_15
  let v37 : BitVec 32 := Scalar.addi c0_i32_14 v36
  let c1_i32_17 : BitVec 32 := 1#32
  let arg9 : BitVec 32 := Scf.iv v37 c1_i32_17 k0_t2
  let v118 : BitVec 32 := Scalar.muli c4_i32_58 arg9
  let v119 : BitVec 32 := Scalar.addi v118 c0_i32_59
  let v142 : Index := Scalar.indexCast v119
  let c0_73 : Index := 0#32
  let c0_74 : Index := 0#32
  ![0, v142.toNat, 0, 0]
def k0_mult7 (i : grid0.Coords) (k0_t2 : Fin (k0_t2_loop i).trips) : BitVec 32 :=
  let c4_i32_58 : BitVec 32 := 4#32
  let c0_i32_14 : BitVec 32 := 0#32
  let arg1 : BitVec 32 := BitVec.ofNat 32 (i 1).val
  let c3_i32 : BitVec 32 := 3#32
  let v0 : BitVec 32 := Scalar.muli arg1 c3_i32
  let c0_i32_9 : BitVec 32 := 0#32
  let v17 : BitVec 1 := Scalar.cmpi .sgt v0 c0_i32_9
  let v18 : BitVec 32 := Scalar.extui v17
  let c0_i32_10 : BitVec 32 := 0#32
  let v19 : BitVec 1 := Scalar.cmpi .slt v0 c0_i32_10
  let v20 : BitVec 32 := Scalar.extui v19
  let v21 : BitVec 32 := Scalar.subi v18 v20
  let c4_i32 : BitVec 32 := 4#32
  let c0_i32_11 : BitVec 32 := 0#32
  let v22 : BitVec 1 := Scalar.cmpi .sgt c4_i32 c0_i32_11
  let v23 : BitVec 32 := Scalar.extui v22
  let c0_i32_12 : BitVec 32 := 0#32
  let v24 : BitVec 1 := Scalar.cmpi .slt c4_i32 c0_i32_12
  let v25 : BitVec 32 := Scalar.extui v24
  let v26 : BitVec 32 := Scalar.subi v23 v25
  let v27 : BitVec 1 := Scalar.cmpi .ne v21 v26
  let v28 : BitVec 32 := Scalar.remsi v0 c4_i32
  let c0_i32_13 : BitVec 32 := 0#32
  let v29 : BitVec 1 := Scalar.cmpi .ne v28 c0_i32_13
  let v30 : BitVec 1 := Scalar.andi v27 v29
  let v16 : BitVec 32 := Scalar.divsi v0 c4_i32
  let c1_i32 : BitVec 32 := 1#32
  let v31 : BitVec 32 := Scalar.subi v16 c1_i32
  let v32 : BitVec 32 := Scalar.select v30 v31 v16
  let v33 : BitVec 32 := Scalar.subi v32 c0_i32_14
  let c1_i32_15 : BitVec 32 := 1#32
  let v35 : BitVec 32 := Scalar.divsi v33 c1_i32_15
  let v36 : BitVec 32 := Scalar.muli v35 c1_i32_15
  let v37 : BitVec 32 := Scalar.addi c0_i32_14 v36
  let c1_i32_17 : BitVec 32 := 1#32
  let arg9 : BitVec 32 := Scf.iv v37 c1_i32_17 k0_t2
  let v118 : BitVec 32 := Scalar.muli c4_i32_58 arg9
  let c0_i32_59 : BitVec 32 := 0#32
  let v119 : BitVec 32 := Scalar.addi v118 c0_i32_59
  let c2_i32_78 : BitVec 32 := 2#32
  let v151 : BitVec 32 := Scalar.addi v119 c2_i32_78
  let c512_i32_79 : BitVec 32 := 512#32
  let v152 : BitVec 32 := Scalar.muli v151 c512_i32_79
  v152
def k0_off6 (i : grid0.Coords) (k0_t2 : Fin (k0_t2_loop i).trips) (c0_i32_59 : BitVec 32) : Fin 4 → Nat :=
  let c0_92 : Index := 0#32
  let c4_i32_58 : BitVec 32 := 4#32
  let c0_i32_14 : BitVec 32 := 0#32
  let arg1 : BitVec 32 := BitVec.ofNat 32 (i 1).val
  let c3_i32 : BitVec 32 := 3#32
  let v0 : BitVec 32 := Scalar.muli arg1 c3_i32
  let c0_i32_9 : BitVec 32 := 0#32
  let v17 : BitVec 1 := Scalar.cmpi .sgt v0 c0_i32_9
  let v18 : BitVec 32 := Scalar.extui v17
  let c0_i32_10 : BitVec 32 := 0#32
  let v19 : BitVec 1 := Scalar.cmpi .slt v0 c0_i32_10
  let v20 : BitVec 32 := Scalar.extui v19
  let v21 : BitVec 32 := Scalar.subi v18 v20
  let c4_i32 : BitVec 32 := 4#32
  let c0_i32_11 : BitVec 32 := 0#32
  let v22 : BitVec 1 := Scalar.cmpi .sgt c4_i32 c0_i32_11
  let v23 : BitVec 32 := Scalar.extui v22
  let c0_i32_12 : BitVec 32 := 0#32
  let v24 : BitVec 1 := Scalar.cmpi .slt c4_i32 c0_i32_12
  let v25 : BitVec 32 := Scalar.extui v24
  let v26 : BitVec 32 := Scalar.subi v23 v25
  let v27 : BitVec 1 := Scalar.cmpi .ne v21 v26
  let v28 : BitVec 32 := Scalar.remsi v0 c4_i32
  let c0_i32_13 : BitVec 32 := 0#32
  let v29 : BitVec 1 := Scalar.cmpi .ne v28 c0_i32_13
  let v30 : BitVec 1 := Scalar.andi v27 v29
  let v16 : BitVec 32 := Scalar.divsi v0 c4_i32
  let c1_i32 : BitVec 32 := 1#32
  let v31 : BitVec 32 := Scalar.subi v16 c1_i32
  let v32 : BitVec 32 := Scalar.select v30 v31 v16
  let v33 : BitVec 32 := Scalar.subi v32 c0_i32_14
  let c1_i32_15 : BitVec 32 := 1#32
  let v35 : BitVec 32 := Scalar.divsi v33 c1_i32_15
  let v36 : BitVec 32 := Scalar.muli v35 c1_i32_15
  let v37 : BitVec 32 := Scalar.addi c0_i32_14 v36
  let c1_i32_17 : BitVec 32 := 1#32
  let arg9 : BitVec 32 := Scf.iv v37 c1_i32_17 k0_t2
  let v118 : BitVec 32 := Scalar.muli c4_i32_58 arg9
  let v119 : BitVec 32 := Scalar.addi v118 c0_i32_59
  let c1_i32_87 : BitVec 32 := 1#32
  let v163 : BitVec 32 := Scalar.addi v119 c1_i32_87
  let v174 : Index := Scalar.indexCast v163
  let c0_93 : Index := 0#32
  let c0_94 : Index := 0#32
  ![0, v174.toNat, 0, 0]
def k0_mult8 (i : grid0.Coords) (k0_t2 : Fin (k0_t2_loop i).trips) : BitVec 32 :=
  let c4_i32_58 : BitVec 32 := 4#32
  let c0_i32_14 : BitVec 32 := 0#32
  let arg1 : BitVec 32 := BitVec.ofNat 32 (i 1).val
  let c3_i32 : BitVec 32 := 3#32
  let v0 : BitVec 32 := Scalar.muli arg1 c3_i32
  let c0_i32_9 : BitVec 32 := 0#32
  let v17 : BitVec 1 := Scalar.cmpi .sgt v0 c0_i32_9
  let v18 : BitVec 32 := Scalar.extui v17
  let c0_i32_10 : BitVec 32 := 0#32
  let v19 : BitVec 1 := Scalar.cmpi .slt v0 c0_i32_10
  let v20 : BitVec 32 := Scalar.extui v19
  let v21 : BitVec 32 := Scalar.subi v18 v20
  let c4_i32 : BitVec 32 := 4#32
  let c0_i32_11 : BitVec 32 := 0#32
  let v22 : BitVec 1 := Scalar.cmpi .sgt c4_i32 c0_i32_11
  let v23 : BitVec 32 := Scalar.extui v22
  let c0_i32_12 : BitVec 32 := 0#32
  let v24 : BitVec 1 := Scalar.cmpi .slt c4_i32 c0_i32_12
  let v25 : BitVec 32 := Scalar.extui v24
  let v26 : BitVec 32 := Scalar.subi v23 v25
  let v27 : BitVec 1 := Scalar.cmpi .ne v21 v26
  let v28 : BitVec 32 := Scalar.remsi v0 c4_i32
  let c0_i32_13 : BitVec 32 := 0#32
  let v29 : BitVec 1 := Scalar.cmpi .ne v28 c0_i32_13
  let v30 : BitVec 1 := Scalar.andi v27 v29
  let v16 : BitVec 32 := Scalar.divsi v0 c4_i32
  let c1_i32 : BitVec 32 := 1#32
  let v31 : BitVec 32 := Scalar.subi v16 c1_i32
  let v32 : BitVec 32 := Scalar.select v30 v31 v16
  let v33 : BitVec 32 := Scalar.subi v32 c0_i32_14
  let c1_i32_15 : BitVec 32 := 1#32
  let v35 : BitVec 32 := Scalar.divsi v33 c1_i32_15
  let v36 : BitVec 32 := Scalar.muli v35 c1_i32_15
  let v37 : BitVec 32 := Scalar.addi c0_i32_14 v36
  let c1_i32_17 : BitVec 32 := 1#32
  let arg9 : BitVec 32 := Scf.iv v37 c1_i32_17 k0_t2
  let v118 : BitVec 32 := Scalar.muli c4_i32_58 arg9
  let c2_i32_98 : BitVec 32 := 2#32
  let v183 : BitVec 32 := Scalar.addi v118 c2_i32_98
  let c1_i32_99 : BitVec 32 := 1#32
  let v184 : BitVec 32 := Scalar.addi v183 c1_i32_99
  let c512_i32_100 : BitVec 32 := 512#32
  let v185 : BitVec 32 := Scalar.muli v184 c512_i32_100
  v185
def k0_mult9 (i : grid0.Coords) (k0_t2 : Fin (k0_t2_loop i).trips) : BitVec 32 :=
  let c4_i32_58 : BitVec 32 := 4#32
  let c0_i32_14 : BitVec 32 := 0#32
  let arg1 : BitVec 32 := BitVec.ofNat 32 (i 1).val
  let c3_i32 : BitVec 32 := 3#32
  let v0 : BitVec 32 := Scalar.muli arg1 c3_i32
  let c0_i32_9 : BitVec 32 := 0#32
  let v17 : BitVec 1 := Scalar.cmpi .sgt v0 c0_i32_9
  let v18 : BitVec 32 := Scalar.extui v17
  let c0_i32_10 : BitVec 32 := 0#32
  let v19 : BitVec 1 := Scalar.cmpi .slt v0 c0_i32_10
  let v20 : BitVec 32 := Scalar.extui v19
  let v21 : BitVec 32 := Scalar.subi v18 v20
  let c4_i32 : BitVec 32 := 4#32
  let c0_i32_11 : BitVec 32 := 0#32
  let v22 : BitVec 1 := Scalar.cmpi .sgt c4_i32 c0_i32_11
  let v23 : BitVec 32 := Scalar.extui v22
  let c0_i32_12 : BitVec 32 := 0#32
  let v24 : BitVec 1 := Scalar.cmpi .slt c4_i32 c0_i32_12
  let v25 : BitVec 32 := Scalar.extui v24
  let v26 : BitVec 32 := Scalar.subi v23 v25
  let v27 : BitVec 1 := Scalar.cmpi .ne v21 v26
  let v28 : BitVec 32 := Scalar.remsi v0 c4_i32
  let c0_i32_13 : BitVec 32 := 0#32
  let v29 : BitVec 1 := Scalar.cmpi .ne v28 c0_i32_13
  let v30 : BitVec 1 := Scalar.andi v27 v29
  let v16 : BitVec 32 := Scalar.divsi v0 c4_i32
  let c1_i32 : BitVec 32 := 1#32
  let v31 : BitVec 32 := Scalar.subi v16 c1_i32
  let v32 : BitVec 32 := Scalar.select v30 v31 v16
  let v33 : BitVec 32 := Scalar.subi v32 c0_i32_14
  let c1_i32_15 : BitVec 32 := 1#32
  let v35 : BitVec 32 := Scalar.divsi v33 c1_i32_15
  let v36 : BitVec 32 := Scalar.muli v35 c1_i32_15
  let v37 : BitVec 32 := Scalar.addi c0_i32_14 v36
  let c1_i32_17 : BitVec 32 := 1#32
  let arg9 : BitVec 32 := Scf.iv v37 c1_i32_17 k0_t2
  let v118 : BitVec 32 := Scalar.muli c4_i32_58 arg9
  let c2_i32_98 : BitVec 32 := 2#32
  let v183 : BitVec 32 := Scalar.addi v118 c2_i32_98
  let c2_i32_118 : BitVec 32 := 2#32
  let v215 : BitVec 32 := Scalar.addi v183 c2_i32_118
  let c512_i32_119 : BitVec 32 := 512#32
  let v216 : BitVec 32 := Scalar.muli v215 c512_i32_119
  v216
@[reducible] def k0_t3_loop (i : grid0.Coords) : Scf.Loop 32 :=
  let c0_i32_38 : BitVec 32 := 0#32
  let arg1 : BitVec 32 := BitVec.ofNat 32 (i 1).val
  let c3_i32 : BitVec 32 := 3#32
  let v0 : BitVec 32 := Scalar.muli arg1 c3_i32
  let c4_i32_26 : BitVec 32 := 4#32
  let c0_i32_27 : BitVec 32 := 0#32
  let v58 : BitVec 1 := Scalar.cmpi .eq c4_i32_26 c0_i32_27
  let c1_i32_28 : BitVec 32 := 1#32
  let v59 : BitVec 32 := Scalar.select v58 c1_i32_28 c4_i32_26
  let v60 : BitVec 32 := Scalar.remsi v0 v59
  let c0_i32_30 : BitVec 32 := 0#32
  let v62 : BitVec 1 := Scalar.cmpi .slt v60 c0_i32_30
  let c0_i32_31 : BitVec 32 := 0#32
  let v63 : BitVec 1 := Scalar.cmpi .slt v59 c0_i32_31
  let v64 : BitVec 1 := Scalar.xori v62 v63
  let c0_i32_29 : BitVec 32 := 0#32
  let v61 : BitVec 1 := Scalar.cmpi .ne v60 c0_i32_29
  let v65 : BitVec 1 := Scalar.andi v64 v61
  let v66 : BitVec 32 := Scalar.addi v60 v59
  let v67 : BitVec 32 := Scalar.select v65 v66 v60
  let c0_i32_32 : BitVec 32 := 0#32
  let v69 : BitVec 1 := Scalar.cmpi .sgt v67 c0_i32_32
  let v70 : BitVec 32 := Scalar.extui v69
  let c0_i32_33 : BitVec 32 := 0#32
  let v71 : BitVec 1 := Scalar.cmpi .slt v67 c0_i32_33
  let v72 : BitVec 32 := Scalar.extui v71
  let v73 : BitVec 32 := Scalar.subi v70 v72
  let c2_i32 : BitVec 32 := 2#32
  let c0_i32_34 : BitVec 32 := 0#32
  let v74 : BitVec 1 := Scalar.cmpi .sgt c2_i32 c0_i32_34
  let v75 : BitVec 32 := Scalar.extui v74
  let c0_i32_35 : BitVec 32 := 0#32
  let v76 : BitVec 1 := Scalar.cmpi .slt c2_i32 c0_i32_35
  let v77 : BitVec 32 := Scalar.extui v76
  let v78 : BitVec 32 := Scalar.subi v75 v77
  let v79 : BitVec 1 := Scalar.cmpi .ne v73 v78
  let v80 : BitVec 32 := Scalar.remsi v67 c2_i32
  let c0_i32_36 : BitVec 32 := 0#32
  let v81 : BitVec 1 := Scalar.cmpi .ne v80 c0_i32_36
  let v82 : BitVec 1 := Scalar.andi v79 v81
  let v68 : BitVec 32 := Scalar.divsi v67 c2_i32
  let c1_i32_37 : BitVec 32 := 1#32
  let v83 : BitVec 32 := Scalar.subi v68 c1_i32_37
  let v84 : BitVec 32 := Scalar.select v82 v83 v68
  let v85 : BitVec 32 := Scalar.subi v84 c0_i32_38
  let c1_i32_39 : BitVec 32 := 1#32
  let v87 : BitVec 32 := Scalar.divsi v85 c1_i32_39
  let v88 : BitVec 32 := Scalar.muli v87 c1_i32_39
  let v89 : BitVec 32 := Scalar.addi c0_i32_38 v88
  let c1_i32_40 : BitVec 32 := 1#32
  ⟨c0_i32_38, v89, c1_i32_40⟩
def k0_mult10 (i : grid0.Coords) (k0_t3 : Fin (k0_t3_loop i).trips) : BitVec 32 :=
  let arg1 : BitVec 32 := BitVec.ofNat 32 (i 1).val
  let c3_i32 : BitVec 32 := 3#32
  let v0 : BitVec 32 := Scalar.muli arg1 c3_i32
  let c0_i32_19 : BitVec 32 := 0#32
  let v41 : BitVec 1 := Scalar.cmpi .sgt v0 c0_i32_19
  let v42 : BitVec 32 := Scalar.extui v41
  let c0_i32_20 : BitVec 32 := 0#32
  let v43 : BitVec 1 := Scalar.cmpi .slt v0 c0_i32_20
  let v44 : BitVec 32 := Scalar.extui v43
  let v45 : BitVec 32 := Scalar.subi v42 v44
  let c4_i32_18 : BitVec 32 := 4#32
  let c0_i32_21 : BitVec 32 := 0#32
  let v46 : BitVec 1 := Scalar.cmpi .sgt c4_i32_18 c0_i32_21
  let v47 : BitVec 32 := Scalar.extui v46
  let c0_i32_22 : BitVec 32 := 0#32
  let v48 : BitVec 1 := Scalar.cmpi .slt c4_i32_18 c0_i32_22
  let v49 : BitVec 32 := Scalar.extui v48
  let v50 : BitVec 32 := Scalar.subi v47 v49
  let v51 : BitVec 1 := Scalar.cmpi .ne v45 v50
  let v52 : BitVec 32 := Scalar.remsi v0 c4_i32_18
  let c0_i32_23 : BitVec 32 := 0#32
  let v53 : BitVec 1 := Scalar.cmpi .ne v52 c0_i32_23
  let v54 : BitVec 1 := Scalar.andi v51 v53
  let v40 : BitVec 32 := Scalar.divsi v0 c4_i32_18
  let c1_i32_24 : BitVec 32 := 1#32
  let v55 : BitVec 32 := Scalar.subi v40 c1_i32_24
  let v56 : BitVec 32 := Scalar.select v54 v55 v40
  let c4_i32_25 : BitVec 32 := 4#32
  let v57 : BitVec 32 := Scalar.muli v56 c4_i32_25
  let c2_i32_58 : BitVec 32 := 2#32
  let c0_i32_38 : BitVec 32 := 0#32
  let c1_i32_40 : BitVec 32 := 1#32
  let arg9 : BitVec 32 := Scf.iv c0_i32_38 c1_i32_40 k0_t3
  let v118 : BitVec 32 := Scalar.muli c2_i32_58 arg9
  let v119 : BitVec 32 := Scalar.addi v57 v118
  let c1_i32_59 : BitVec 32 := 1#32
  let v120 : BitVec 32 := Scalar.addi v119 c1_i32_59
  let c512_i32 : BitVec 32 := 512#32
  let v121 : BitVec 32 := Scalar.muli v120 c512_i32
  v121
def k0_off7 (i : grid0.Coords) (k0_t3 : Fin (k0_t3_loop i).trips) (c1_i32_59 : BitVec 32) : Fin 2 → Nat :=
  let arg1 : BitVec 32 := BitVec.ofNat 32 (i 1).val
  let c3_i32 : BitVec 32 := 3#32
  let v0 : BitVec 32 := Scalar.muli arg1 c3_i32
  let c0_i32_19 : BitVec 32 := 0#32
  let v41 : BitVec 1 := Scalar.cmpi .sgt v0 c0_i32_19
  let v42 : BitVec 32 := Scalar.extui v41
  let c0_i32_20 : BitVec 32 := 0#32
  let v43 : BitVec 1 := Scalar.cmpi .slt v0 c0_i32_20
  let v44 : BitVec 32 := Scalar.extui v43
  let v45 : BitVec 32 := Scalar.subi v42 v44
  let c4_i32_18 : BitVec 32 := 4#32
  let c0_i32_21 : BitVec 32 := 0#32
  let v46 : BitVec 1 := Scalar.cmpi .sgt c4_i32_18 c0_i32_21
  let v47 : BitVec 32 := Scalar.extui v46
  let c0_i32_22 : BitVec 32 := 0#32
  let v48 : BitVec 1 := Scalar.cmpi .slt c4_i32_18 c0_i32_22
  let v49 : BitVec 32 := Scalar.extui v48
  let v50 : BitVec 32 := Scalar.subi v47 v49
  let v51 : BitVec 1 := Scalar.cmpi .ne v45 v50
  let v52 : BitVec 32 := Scalar.remsi v0 c4_i32_18
  let c0_i32_23 : BitVec 32 := 0#32
  let v53 : BitVec 1 := Scalar.cmpi .ne v52 c0_i32_23
  let v54 : BitVec 1 := Scalar.andi v51 v53
  let v40 : BitVec 32 := Scalar.divsi v0 c4_i32_18
  let c1_i32_24 : BitVec 32 := 1#32
  let v55 : BitVec 32 := Scalar.subi v40 c1_i32_24
  let v56 : BitVec 32 := Scalar.select v54 v55 v40
  let c4_i32_25 : BitVec 32 := 4#32
  let v57 : BitVec 32 := Scalar.muli v56 c4_i32_25
  let c2_i32_58 : BitVec 32 := 2#32
  let c0_i32_38 : BitVec 32 := 0#32
  let c1_i32_40 : BitVec 32 := 1#32
  let arg9 : BitVec 32 := Scf.iv c0_i32_38 c1_i32_40 k0_t3
  let v118 : BitVec 32 := Scalar.muli c2_i32_58 arg9
  let v119 : BitVec 32 := Scalar.addi v57 v118
  let v120 : BitVec 32 := Scalar.addi v119 c1_i32_59
  let c512_i32 : BitVec 32 := 512#32
  let v121 : BitVec 32 := Scalar.muli v120 c512_i32
  let v122 : BitVec 32 := v121
  let v123 : Index := Scalar.indexCast v122
  let c0_60 : Index := 0#32
  ![v123.toNat, 0]
def k0_off8 (i : grid0.Coords) (k0_t3 : Fin (k0_t3_loop i).trips) : Fin 4 → Nat :=
  let c0_71 : Index := 0#32
  let arg1 : BitVec 32 := BitVec.ofNat 32 (i 1).val
  let c3_i32 : BitVec 32 := 3#32
  let v0 : BitVec 32 := Scalar.muli arg1 c3_i32
  let c0_i32_19 : BitVec 32 := 0#32
  let v41 : BitVec 1 := Scalar.cmpi .sgt v0 c0_i32_19
  let v42 : BitVec 32 := Scalar.extui v41
  let c0_i32_20 : BitVec 32 := 0#32
  let v43 : BitVec 1 := Scalar.cmpi .slt v0 c0_i32_20
  let v44 : BitVec 32 := Scalar.extui v43
  let v45 : BitVec 32 := Scalar.subi v42 v44
  let c4_i32_18 : BitVec 32 := 4#32
  let c0_i32_21 : BitVec 32 := 0#32
  let v46 : BitVec 1 := Scalar.cmpi .sgt c4_i32_18 c0_i32_21
  let v47 : BitVec 32 := Scalar.extui v46
  let c0_i32_22 : BitVec 32 := 0#32
  let v48 : BitVec 1 := Scalar.cmpi .slt c4_i32_18 c0_i32_22
  let v49 : BitVec 32 := Scalar.extui v48
  let v50 : BitVec 32 := Scalar.subi v47 v49
  let v51 : BitVec 1 := Scalar.cmpi .ne v45 v50
  let v52 : BitVec 32 := Scalar.remsi v0 c4_i32_18
  let c0_i32_23 : BitVec 32 := 0#32
  let v53 : BitVec 1 := Scalar.cmpi .ne v52 c0_i32_23
  let v54 : BitVec 1 := Scalar.andi v51 v53
  let v40 : BitVec 32 := Scalar.divsi v0 c4_i32_18
  let c1_i32_24 : BitVec 32 := 1#32
  let v55 : BitVec 32 := Scalar.subi v40 c1_i32_24
  let v56 : BitVec 32 := Scalar.select v54 v55 v40
  let c4_i32_25 : BitVec 32 := 4#32
  let v57 : BitVec 32 := Scalar.muli v56 c4_i32_25
  let c2_i32_58 : BitVec 32 := 2#32
  let c0_i32_38 : BitVec 32 := 0#32
  let c1_i32_40 : BitVec 32 := 1#32
  let arg9 : BitVec 32 := Scf.iv c0_i32_38 c1_i32_40 k0_t3
  let v118 : BitVec 32 := Scalar.muli c2_i32_58 arg9
  let v119 : BitVec 32 := Scalar.addi v57 v118
  let v142 : Index := Scalar.indexCast v119
  let c0_72 : Index := 0#32
  let c0_73 : Index := 0#32
  ![0, v142.toNat, 0, 0]
def k0_mult11 (i : grid0.Coords) (k0_t3 : Fin (k0_t3_loop i).trips) : BitVec 32 :=
  let arg1 : BitVec 32 := BitVec.ofNat 32 (i 1).val
  let c3_i32 : BitVec 32 := 3#32
  let v0 : BitVec 32 := Scalar.muli arg1 c3_i32
  let c0_i32_19 : BitVec 32 := 0#32
  let v41 : BitVec 1 := Scalar.cmpi .sgt v0 c0_i32_19
  let v42 : BitVec 32 := Scalar.extui v41
  let c0_i32_20 : BitVec 32 := 0#32
  let v43 : BitVec 1 := Scalar.cmpi .slt v0 c0_i32_20
  let v44 : BitVec 32 := Scalar.extui v43
  let v45 : BitVec 32 := Scalar.subi v42 v44
  let c4_i32_18 : BitVec 32 := 4#32
  let c0_i32_21 : BitVec 32 := 0#32
  let v46 : BitVec 1 := Scalar.cmpi .sgt c4_i32_18 c0_i32_21
  let v47 : BitVec 32 := Scalar.extui v46
  let c0_i32_22 : BitVec 32 := 0#32
  let v48 : BitVec 1 := Scalar.cmpi .slt c4_i32_18 c0_i32_22
  let v49 : BitVec 32 := Scalar.extui v48
  let v50 : BitVec 32 := Scalar.subi v47 v49
  let v51 : BitVec 1 := Scalar.cmpi .ne v45 v50
  let v52 : BitVec 32 := Scalar.remsi v0 c4_i32_18
  let c0_i32_23 : BitVec 32 := 0#32
  let v53 : BitVec 1 := Scalar.cmpi .ne v52 c0_i32_23
  let v54 : BitVec 1 := Scalar.andi v51 v53
  let v40 : BitVec 32 := Scalar.divsi v0 c4_i32_18
  let c1_i32_24 : BitVec 32 := 1#32
  let v55 : BitVec 32 := Scalar.subi v40 c1_i32_24
  let v56 : BitVec 32 := Scalar.select v54 v55 v40
  let c4_i32_25 : BitVec 32 := 4#32
  let v57 : BitVec 32 := Scalar.muli v56 c4_i32_25
  let c2_i32_58 : BitVec 32 := 2#32
  let c0_i32_38 : BitVec 32 := 0#32
  let c1_i32_40 : BitVec 32 := 1#32
  let arg9 : BitVec 32 := Scf.iv c0_i32_38 c1_i32_40 k0_t3
  let v118 : BitVec 32 := Scalar.muli c2_i32_58 arg9
  let v119 : BitVec 32 := Scalar.addi v57 v118
  let c2_i32_77 : BitVec 32 := 2#32
  let v151 : BitVec 32 := Scalar.addi v119 c2_i32_77
  let c512_i32_78 : BitVec 32 := 512#32
  let v152 : BitVec 32 := Scalar.muli v151 c512_i32_78
  v152
def k0_off9 (i : grid0.Coords) (k0_t3 : Fin (k0_t3_loop i).trips) : Fin 4 → Nat :=
  let c0_91 : Index := 0#32
  let arg1 : BitVec 32 := BitVec.ofNat 32 (i 1).val
  let c3_i32 : BitVec 32 := 3#32
  let v0 : BitVec 32 := Scalar.muli arg1 c3_i32
  let c0_i32_19 : BitVec 32 := 0#32
  let v41 : BitVec 1 := Scalar.cmpi .sgt v0 c0_i32_19
  let v42 : BitVec 32 := Scalar.extui v41
  let c0_i32_20 : BitVec 32 := 0#32
  let v43 : BitVec 1 := Scalar.cmpi .slt v0 c0_i32_20
  let v44 : BitVec 32 := Scalar.extui v43
  let v45 : BitVec 32 := Scalar.subi v42 v44
  let c4_i32_18 : BitVec 32 := 4#32
  let c0_i32_21 : BitVec 32 := 0#32
  let v46 : BitVec 1 := Scalar.cmpi .sgt c4_i32_18 c0_i32_21
  let v47 : BitVec 32 := Scalar.extui v46
  let c0_i32_22 : BitVec 32 := 0#32
  let v48 : BitVec 1 := Scalar.cmpi .slt c4_i32_18 c0_i32_22
  let v49 : BitVec 32 := Scalar.extui v48
  let v50 : BitVec 32 := Scalar.subi v47 v49
  let v51 : BitVec 1 := Scalar.cmpi .ne v45 v50
  let v52 : BitVec 32 := Scalar.remsi v0 c4_i32_18
  let c0_i32_23 : BitVec 32 := 0#32
  let v53 : BitVec 1 := Scalar.cmpi .ne v52 c0_i32_23
  let v54 : BitVec 1 := Scalar.andi v51 v53
  let v40 : BitVec 32 := Scalar.divsi v0 c4_i32_18
  let c1_i32_24 : BitVec 32 := 1#32
  let v55 : BitVec 32 := Scalar.subi v40 c1_i32_24
  let v56 : BitVec 32 := Scalar.select v54 v55 v40
  let c4_i32_25 : BitVec 32 := 4#32
  let v57 : BitVec 32 := Scalar.muli v56 c4_i32_25
  let c2_i32_58 : BitVec 32 := 2#32
  let c0_i32_38 : BitVec 32 := 0#32
  let c1_i32_40 : BitVec 32 := 1#32
  let arg9 : BitVec 32 := Scf.iv c0_i32_38 c1_i32_40 k0_t3
  let v118 : BitVec 32 := Scalar.muli c2_i32_58 arg9
  let v119 : BitVec 32 := Scalar.addi v57 v118
  let c1_i32_86 : BitVec 32 := 1#32
  let v163 : BitVec 32 := Scalar.addi v119 c1_i32_86
  let v174 : Index := Scalar.indexCast v163
  let c0_92 : Index := 0#32
  let c0_93 : Index := 0#32
  ![0, v174.toNat, 0, 0]
@[reducible] def k0_t4_loop (i : grid0.Coords) : Scf.Loop 32 :=
  let c0_i32_38 : BitVec 32 := 0#32
  let arg1 : BitVec 32 := BitVec.ofNat 32 (i 1).val
  let c3_i32 : BitVec 32 := 3#32
  let v0 : BitVec 32 := Scalar.muli arg1 c3_i32
  let c4_i32_26 : BitVec 32 := 4#32
  let c0_i32_27 : BitVec 32 := 0#32
  let v58 : BitVec 1 := Scalar.cmpi .eq c4_i32_26 c0_i32_27
  let c1_i32_28 : BitVec 32 := 1#32
  let v59 : BitVec 32 := Scalar.select v58 c1_i32_28 c4_i32_26
  let v60 : BitVec 32 := Scalar.remsi v0 v59
  let c0_i32_30 : BitVec 32 := 0#32
  let v62 : BitVec 1 := Scalar.cmpi .slt v60 c0_i32_30
  let c0_i32_31 : BitVec 32 := 0#32
  let v63 : BitVec 1 := Scalar.cmpi .slt v59 c0_i32_31
  let v64 : BitVec 1 := Scalar.xori v62 v63
  let c0_i32_29 : BitVec 32 := 0#32
  let v61 : BitVec 1 := Scalar.cmpi .ne v60 c0_i32_29
  let v65 : BitVec 1 := Scalar.andi v64 v61
  let v66 : BitVec 32 := Scalar.addi v60 v59
  let v67 : BitVec 32 := Scalar.select v65 v66 v60
  let c0_i32_32 : BitVec 32 := 0#32
  let v69 : BitVec 1 := Scalar.cmpi .sgt v67 c0_i32_32
  let v70 : BitVec 32 := Scalar.extui v69
  let c0_i32_33 : BitVec 32 := 0#32
  let v71 : BitVec 1 := Scalar.cmpi .slt v67 c0_i32_33
  let v72 : BitVec 32 := Scalar.extui v71
  let v73 : BitVec 32 := Scalar.subi v70 v72
  let c2_i32 : BitVec 32 := 2#32
  let c0_i32_34 : BitVec 32 := 0#32
  let v74 : BitVec 1 := Scalar.cmpi .sgt c2_i32 c0_i32_34
  let v75 : BitVec 32 := Scalar.extui v74
  let c0_i32_35 : BitVec 32 := 0#32
  let v76 : BitVec 1 := Scalar.cmpi .slt c2_i32 c0_i32_35
  let v77 : BitVec 32 := Scalar.extui v76
  let v78 : BitVec 32 := Scalar.subi v75 v77
  let v79 : BitVec 1 := Scalar.cmpi .ne v73 v78
  let v80 : BitVec 32 := Scalar.remsi v67 c2_i32
  let c0_i32_36 : BitVec 32 := 0#32
  let v81 : BitVec 1 := Scalar.cmpi .ne v80 c0_i32_36
  let v82 : BitVec 1 := Scalar.andi v79 v81
  let v68 : BitVec 32 := Scalar.divsi v67 c2_i32
  let c1_i32_37 : BitVec 32 := 1#32
  let v83 : BitVec 32 := Scalar.subi v68 c1_i32_37
  let v84 : BitVec 32 := Scalar.select v82 v83 v68
  let v85 : BitVec 32 := Scalar.subi v84 c0_i32_38
  let c1_i32_39 : BitVec 32 := 1#32
  let v87 : BitVec 32 := Scalar.divsi v85 c1_i32_39
  let v88 : BitVec 32 := Scalar.muli v87 c1_i32_39
  let v89 : BitVec 32 := Scalar.addi c0_i32_38 v88
  let v86 : BitVec 32 := Scalar.addi c0_i32_38 v85
  let c1_i32_41 : BitVec 32 := 1#32
  ⟨v89, v86, c1_i32_41⟩
def k0_mult12 (i : grid0.Coords) (k0_t4 : Fin (k0_t4_loop i).trips) : BitVec 32 :=
  let arg1 : BitVec 32 := BitVec.ofNat 32 (i 1).val
  let c3_i32 : BitVec 32 := 3#32
  let v0 : BitVec 32 := Scalar.muli arg1 c3_i32
  let c0_i32_19 : BitVec 32 := 0#32
  let v41 : BitVec 1 := Scalar.cmpi .sgt v0 c0_i32_19
  let v42 : BitVec 32 := Scalar.extui v41
  let c0_i32_20 : BitVec 32 := 0#32
  let v43 : BitVec 1 := Scalar.cmpi .slt v0 c0_i32_20
  let v44 : BitVec 32 := Scalar.extui v43
  let v45 : BitVec 32 := Scalar.subi v42 v44
  let c4_i32_18 : BitVec 32 := 4#32
  let c0_i32_21 : BitVec 32 := 0#32
  let v46 : BitVec 1 := Scalar.cmpi .sgt c4_i32_18 c0_i32_21
  let v47 : BitVec 32 := Scalar.extui v46
  let c0_i32_22 : BitVec 32 := 0#32
  let v48 : BitVec 1 := Scalar.cmpi .slt c4_i32_18 c0_i32_22
  let v49 : BitVec 32 := Scalar.extui v48
  let v50 : BitVec 32 := Scalar.subi v47 v49
  let v51 : BitVec 1 := Scalar.cmpi .ne v45 v50
  let v52 : BitVec 32 := Scalar.remsi v0 c4_i32_18
  let c0_i32_23 : BitVec 32 := 0#32
  let v53 : BitVec 1 := Scalar.cmpi .ne v52 c0_i32_23
  let v54 : BitVec 1 := Scalar.andi v51 v53
  let v40 : BitVec 32 := Scalar.divsi v0 c4_i32_18
  let c1_i32_24 : BitVec 32 := 1#32
  let v55 : BitVec 32 := Scalar.subi v40 c1_i32_24
  let v56 : BitVec 32 := Scalar.select v54 v55 v40
  let c4_i32_25 : BitVec 32 := 4#32
  let v57 : BitVec 32 := Scalar.muli v56 c4_i32_25
  let c2_i32_58 : BitVec 32 := 2#32
  let c0_i32_38 : BitVec 32 := 0#32
  let c4_i32_26 : BitVec 32 := 4#32
  let c0_i32_27 : BitVec 32 := 0#32
  let v58 : BitVec 1 := Scalar.cmpi .eq c4_i32_26 c0_i32_27
  let c1_i32_28 : BitVec 32 := 1#32
  let v59 : BitVec 32 := Scalar.select v58 c1_i32_28 c4_i32_26
  let v60 : BitVec 32 := Scalar.remsi v0 v59
  let c0_i32_30 : BitVec 32 := 0#32
  let v62 : BitVec 1 := Scalar.cmpi .slt v60 c0_i32_30
  let c0_i32_31 : BitVec 32 := 0#32
  let v63 : BitVec 1 := Scalar.cmpi .slt v59 c0_i32_31
  let v64 : BitVec 1 := Scalar.xori v62 v63
  let c0_i32_29 : BitVec 32 := 0#32
  let v61 : BitVec 1 := Scalar.cmpi .ne v60 c0_i32_29
  let v65 : BitVec 1 := Scalar.andi v64 v61
  let v66 : BitVec 32 := Scalar.addi v60 v59
  let v67 : BitVec 32 := Scalar.select v65 v66 v60
  let c0_i32_32 : BitVec 32 := 0#32
  let v69 : BitVec 1 := Scalar.cmpi .sgt v67 c0_i32_32
  let v70 : BitVec 32 := Scalar.extui v69
  let c0_i32_33 : BitVec 32 := 0#32
  let v71 : BitVec 1 := Scalar.cmpi .slt v67 c0_i32_33
  let v72 : BitVec 32 := Scalar.extui v71
  let v73 : BitVec 32 := Scalar.subi v70 v72
  let c2_i32 : BitVec 32 := 2#32
  let c0_i32_34 : BitVec 32 := 0#32
  let v74 : BitVec 1 := Scalar.cmpi .sgt c2_i32 c0_i32_34
  let v75 : BitVec 32 := Scalar.extui v74
  let c0_i32_35 : BitVec 32 := 0#32
  let v76 : BitVec 1 := Scalar.cmpi .slt c2_i32 c0_i32_35
  let v77 : BitVec 32 := Scalar.extui v76
  let v78 : BitVec 32 := Scalar.subi v75 v77
  let v79 : BitVec 1 := Scalar.cmpi .ne v73 v78
  let v80 : BitVec 32 := Scalar.remsi v67 c2_i32
  let c0_i32_36 : BitVec 32 := 0#32
  let v81 : BitVec 1 := Scalar.cmpi .ne v80 c0_i32_36
  let v82 : BitVec 1 := Scalar.andi v79 v81
  let v68 : BitVec 32 := Scalar.divsi v67 c2_i32
  let c1_i32_37 : BitVec 32 := 1#32
  let v83 : BitVec 32 := Scalar.subi v68 c1_i32_37
  let v84 : BitVec 32 := Scalar.select v82 v83 v68
  let v85 : BitVec 32 := Scalar.subi v84 c0_i32_38
  let c1_i32_39 : BitVec 32 := 1#32
  let v87 : BitVec 32 := Scalar.divsi v85 c1_i32_39
  let v88 : BitVec 32 := Scalar.muli v87 c1_i32_39
  let v89 : BitVec 32 := Scalar.addi c0_i32_38 v88
  let c1_i32_41 : BitVec 32 := 1#32
  let arg9 : BitVec 32 := Scf.iv v89 c1_i32_41 k0_t4
  let v118 : BitVec 32 := Scalar.muli c2_i32_58 arg9
  let v119 : BitVec 32 := Scalar.addi v57 v118
  let c1_i32_59 : BitVec 32 := 1#32
  let v120 : BitVec 32 := Scalar.addi v119 c1_i32_59
  let c512_i32 : BitVec 32 := 512#32
  let v121 : BitVec 32 := Scalar.muli v120 c512_i32
  v121
def k0_off10 (i : grid0.Coords) (k0_t4 : Fin (k0_t4_loop i).trips) (c1_i32_59 : BitVec 32) : Fin 2 → Nat :=
  let arg1 : BitVec 32 := BitVec.ofNat 32 (i 1).val
  let c3_i32 : BitVec 32 := 3#32
  let v0 : BitVec 32 := Scalar.muli arg1 c3_i32
  let c0_i32_19 : BitVec 32 := 0#32
  let v41 : BitVec 1 := Scalar.cmpi .sgt v0 c0_i32_19
  let v42 : BitVec 32 := Scalar.extui v41
  let c0_i32_20 : BitVec 32 := 0#32
  let v43 : BitVec 1 := Scalar.cmpi .slt v0 c0_i32_20
  let v44 : BitVec 32 := Scalar.extui v43
  let v45 : BitVec 32 := Scalar.subi v42 v44
  let c4_i32_18 : BitVec 32 := 4#32
  let c0_i32_21 : BitVec 32 := 0#32
  let v46 : BitVec 1 := Scalar.cmpi .sgt c4_i32_18 c0_i32_21
  let v47 : BitVec 32 := Scalar.extui v46
  let c0_i32_22 : BitVec 32 := 0#32
  let v48 : BitVec 1 := Scalar.cmpi .slt c4_i32_18 c0_i32_22
  let v49 : BitVec 32 := Scalar.extui v48
  let v50 : BitVec 32 := Scalar.subi v47 v49
  let v51 : BitVec 1 := Scalar.cmpi .ne v45 v50
  let v52 : BitVec 32 := Scalar.remsi v0 c4_i32_18
  let c0_i32_23 : BitVec 32 := 0#32
  let v53 : BitVec 1 := Scalar.cmpi .ne v52 c0_i32_23
  let v54 : BitVec 1 := Scalar.andi v51 v53
  let v40 : BitVec 32 := Scalar.divsi v0 c4_i32_18
  let c1_i32_24 : BitVec 32 := 1#32
  let v55 : BitVec 32 := Scalar.subi v40 c1_i32_24
  let v56 : BitVec 32 := Scalar.select v54 v55 v40
  let c4_i32_25 : BitVec 32 := 4#32
  let v57 : BitVec 32 := Scalar.muli v56 c4_i32_25
  let c2_i32_58 : BitVec 32 := 2#32
  let c0_i32_38 : BitVec 32 := 0#32
  let c4_i32_26 : BitVec 32 := 4#32
  let c0_i32_27 : BitVec 32 := 0#32
  let v58 : BitVec 1 := Scalar.cmpi .eq c4_i32_26 c0_i32_27
  let c1_i32_28 : BitVec 32 := 1#32
  let v59 : BitVec 32 := Scalar.select v58 c1_i32_28 c4_i32_26
  let v60 : BitVec 32 := Scalar.remsi v0 v59
  let c0_i32_30 : BitVec 32 := 0#32
  let v62 : BitVec 1 := Scalar.cmpi .slt v60 c0_i32_30
  let c0_i32_31 : BitVec 32 := 0#32
  let v63 : BitVec 1 := Scalar.cmpi .slt v59 c0_i32_31
  let v64 : BitVec 1 := Scalar.xori v62 v63
  let c0_i32_29 : BitVec 32 := 0#32
  let v61 : BitVec 1 := Scalar.cmpi .ne v60 c0_i32_29
  let v65 : BitVec 1 := Scalar.andi v64 v61
  let v66 : BitVec 32 := Scalar.addi v60 v59
  let v67 : BitVec 32 := Scalar.select v65 v66 v60
  let c0_i32_32 : BitVec 32 := 0#32
  let v69 : BitVec 1 := Scalar.cmpi .sgt v67 c0_i32_32
  let v70 : BitVec 32 := Scalar.extui v69
  let c0_i32_33 : BitVec 32 := 0#32
  let v71 : BitVec 1 := Scalar.cmpi .slt v67 c0_i32_33
  let v72 : BitVec 32 := Scalar.extui v71
  let v73 : BitVec 32 := Scalar.subi v70 v72
  let c2_i32 : BitVec 32 := 2#32
  let c0_i32_34 : BitVec 32 := 0#32
  let v74 : BitVec 1 := Scalar.cmpi .sgt c2_i32 c0_i32_34
  let v75 : BitVec 32 := Scalar.extui v74
  let c0_i32_35 : BitVec 32 := 0#32
  let v76 : BitVec 1 := Scalar.cmpi .slt c2_i32 c0_i32_35
  let v77 : BitVec 32 := Scalar.extui v76
  let v78 : BitVec 32 := Scalar.subi v75 v77
  let v79 : BitVec 1 := Scalar.cmpi .ne v73 v78
  let v80 : BitVec 32 := Scalar.remsi v67 c2_i32
  let c0_i32_36 : BitVec 32 := 0#32
  let v81 : BitVec 1 := Scalar.cmpi .ne v80 c0_i32_36
  let v82 : BitVec 1 := Scalar.andi v79 v81
  let v68 : BitVec 32 := Scalar.divsi v67 c2_i32
  let c1_i32_37 : BitVec 32 := 1#32
  let v83 : BitVec 32 := Scalar.subi v68 c1_i32_37
  let v84 : BitVec 32 := Scalar.select v82 v83 v68
  let v85 : BitVec 32 := Scalar.subi v84 c0_i32_38
  let c1_i32_39 : BitVec 32 := 1#32
  let v87 : BitVec 32 := Scalar.divsi v85 c1_i32_39
  let v88 : BitVec 32 := Scalar.muli v87 c1_i32_39
  let v89 : BitVec 32 := Scalar.addi c0_i32_38 v88
  let c1_i32_41 : BitVec 32 := 1#32
  let arg9 : BitVec 32 := Scf.iv v89 c1_i32_41 k0_t4
  let v118 : BitVec 32 := Scalar.muli c2_i32_58 arg9
  let v119 : BitVec 32 := Scalar.addi v57 v118
  let v120 : BitVec 32 := Scalar.addi v119 c1_i32_59
  let c512_i32 : BitVec 32 := 512#32
  let v121 : BitVec 32 := Scalar.muli v120 c512_i32
  let v122 : BitVec 32 := v121
  let v123 : Index := Scalar.indexCast v122
  let c0_60 : Index := 0#32
  ![v123.toNat, 0]
def k0_off11 (i : grid0.Coords) (k0_t4 : Fin (k0_t4_loop i).trips) : Fin 4 → Nat :=
  let c0_71 : Index := 0#32
  let arg1 : BitVec 32 := BitVec.ofNat 32 (i 1).val
  let c3_i32 : BitVec 32 := 3#32
  let v0 : BitVec 32 := Scalar.muli arg1 c3_i32
  let c0_i32_19 : BitVec 32 := 0#32
  let v41 : BitVec 1 := Scalar.cmpi .sgt v0 c0_i32_19
  let v42 : BitVec 32 := Scalar.extui v41
  let c0_i32_20 : BitVec 32 := 0#32
  let v43 : BitVec 1 := Scalar.cmpi .slt v0 c0_i32_20
  let v44 : BitVec 32 := Scalar.extui v43
  let v45 : BitVec 32 := Scalar.subi v42 v44
  let c4_i32_18 : BitVec 32 := 4#32
  let c0_i32_21 : BitVec 32 := 0#32
  let v46 : BitVec 1 := Scalar.cmpi .sgt c4_i32_18 c0_i32_21
  let v47 : BitVec 32 := Scalar.extui v46
  let c0_i32_22 : BitVec 32 := 0#32
  let v48 : BitVec 1 := Scalar.cmpi .slt c4_i32_18 c0_i32_22
  let v49 : BitVec 32 := Scalar.extui v48
  let v50 : BitVec 32 := Scalar.subi v47 v49
  let v51 : BitVec 1 := Scalar.cmpi .ne v45 v50
  let v52 : BitVec 32 := Scalar.remsi v0 c4_i32_18
  let c0_i32_23 : BitVec 32 := 0#32
  let v53 : BitVec 1 := Scalar.cmpi .ne v52 c0_i32_23
  let v54 : BitVec 1 := Scalar.andi v51 v53
  let v40 : BitVec 32 := Scalar.divsi v0 c4_i32_18
  let c1_i32_24 : BitVec 32 := 1#32
  let v55 : BitVec 32 := Scalar.subi v40 c1_i32_24
  let v56 : BitVec 32 := Scalar.select v54 v55 v40
  let c4_i32_25 : BitVec 32 := 4#32
  let v57 : BitVec 32 := Scalar.muli v56 c4_i32_25
  let c2_i32_58 : BitVec 32 := 2#32
  let c0_i32_38 : BitVec 32 := 0#32
  let c4_i32_26 : BitVec 32 := 4#32
  let c0_i32_27 : BitVec 32 := 0#32
  let v58 : BitVec 1 := Scalar.cmpi .eq c4_i32_26 c0_i32_27
  let c1_i32_28 : BitVec 32 := 1#32
  let v59 : BitVec 32 := Scalar.select v58 c1_i32_28 c4_i32_26
  let v60 : BitVec 32 := Scalar.remsi v0 v59
  let c0_i32_30 : BitVec 32 := 0#32
  let v62 : BitVec 1 := Scalar.cmpi .slt v60 c0_i32_30
  let c0_i32_31 : BitVec 32 := 0#32
  let v63 : BitVec 1 := Scalar.cmpi .slt v59 c0_i32_31
  let v64 : BitVec 1 := Scalar.xori v62 v63
  let c0_i32_29 : BitVec 32 := 0#32
  let v61 : BitVec 1 := Scalar.cmpi .ne v60 c0_i32_29
  let v65 : BitVec 1 := Scalar.andi v64 v61
  let v66 : BitVec 32 := Scalar.addi v60 v59
  let v67 : BitVec 32 := Scalar.select v65 v66 v60
  let c0_i32_32 : BitVec 32 := 0#32
  let v69 : BitVec 1 := Scalar.cmpi .sgt v67 c0_i32_32
  let v70 : BitVec 32 := Scalar.extui v69
  let c0_i32_33 : BitVec 32 := 0#32
  let v71 : BitVec 1 := Scalar.cmpi .slt v67 c0_i32_33
  let v72 : BitVec 32 := Scalar.extui v71
  let v73 : BitVec 32 := Scalar.subi v70 v72
  let c2_i32 : BitVec 32 := 2#32
  let c0_i32_34 : BitVec 32 := 0#32
  let v74 : BitVec 1 := Scalar.cmpi .sgt c2_i32 c0_i32_34
  let v75 : BitVec 32 := Scalar.extui v74
  let c0_i32_35 : BitVec 32 := 0#32
  let v76 : BitVec 1 := Scalar.cmpi .slt c2_i32 c0_i32_35
  let v77 : BitVec 32 := Scalar.extui v76
  let v78 : BitVec 32 := Scalar.subi v75 v77
  let v79 : BitVec 1 := Scalar.cmpi .ne v73 v78
  let v80 : BitVec 32 := Scalar.remsi v67 c2_i32
  let c0_i32_36 : BitVec 32 := 0#32
  let v81 : BitVec 1 := Scalar.cmpi .ne v80 c0_i32_36
  let v82 : BitVec 1 := Scalar.andi v79 v81
  let v68 : BitVec 32 := Scalar.divsi v67 c2_i32
  let c1_i32_37 : BitVec 32 := 1#32
  let v83 : BitVec 32 := Scalar.subi v68 c1_i32_37
  let v84 : BitVec 32 := Scalar.select v82 v83 v68
  let v85 : BitVec 32 := Scalar.subi v84 c0_i32_38
  let c1_i32_39 : BitVec 32 := 1#32
  let v87 : BitVec 32 := Scalar.divsi v85 c1_i32_39
  let v88 : BitVec 32 := Scalar.muli v87 c1_i32_39
  let v89 : BitVec 32 := Scalar.addi c0_i32_38 v88
  let c1_i32_41 : BitVec 32 := 1#32
  let arg9 : BitVec 32 := Scf.iv v89 c1_i32_41 k0_t4
  let v118 : BitVec 32 := Scalar.muli c2_i32_58 arg9
  let v119 : BitVec 32 := Scalar.addi v57 v118
  let v142 : Index := Scalar.indexCast v119
  let c0_72 : Index := 0#32
  let c0_73 : Index := 0#32
  ![0, v142.toNat, 0, 0]
def k0_mult13 (i : grid0.Coords) (k0_t4 : Fin (k0_t4_loop i).trips) : BitVec 32 :=
  let arg1 : BitVec 32 := BitVec.ofNat 32 (i 1).val
  let c3_i32 : BitVec 32 := 3#32
  let v0 : BitVec 32 := Scalar.muli arg1 c3_i32
  let c0_i32_19 : BitVec 32 := 0#32
  let v41 : BitVec 1 := Scalar.cmpi .sgt v0 c0_i32_19
  let v42 : BitVec 32 := Scalar.extui v41
  let c0_i32_20 : BitVec 32 := 0#32
  let v43 : BitVec 1 := Scalar.cmpi .slt v0 c0_i32_20
  let v44 : BitVec 32 := Scalar.extui v43
  let v45 : BitVec 32 := Scalar.subi v42 v44
  let c4_i32_18 : BitVec 32 := 4#32
  let c0_i32_21 : BitVec 32 := 0#32
  let v46 : BitVec 1 := Scalar.cmpi .sgt c4_i32_18 c0_i32_21
  let v47 : BitVec 32 := Scalar.extui v46
  let c0_i32_22 : BitVec 32 := 0#32
  let v48 : BitVec 1 := Scalar.cmpi .slt c4_i32_18 c0_i32_22
  let v49 : BitVec 32 := Scalar.extui v48
  let v50 : BitVec 32 := Scalar.subi v47 v49
  let v51 : BitVec 1 := Scalar.cmpi .ne v45 v50
  let v52 : BitVec 32 := Scalar.remsi v0 c4_i32_18
  let c0_i32_23 : BitVec 32 := 0#32
  let v53 : BitVec 1 := Scalar.cmpi .ne v52 c0_i32_23
  let v54 : BitVec 1 := Scalar.andi v51 v53
  let v40 : BitVec 32 := Scalar.divsi v0 c4_i32_18
  let c1_i32_24 : BitVec 32 := 1#32
  let v55 : BitVec 32 := Scalar.subi v40 c1_i32_24
  let v56 : BitVec 32 := Scalar.select v54 v55 v40
  let c4_i32_25 : BitVec 32 := 4#32
  let v57 : BitVec 32 := Scalar.muli v56 c4_i32_25
  let c2_i32_58 : BitVec 32 := 2#32
  let c0_i32_38 : BitVec 32 := 0#32
  let c4_i32_26 : BitVec 32 := 4#32
  let c0_i32_27 : BitVec 32 := 0#32
  let v58 : BitVec 1 := Scalar.cmpi .eq c4_i32_26 c0_i32_27
  let c1_i32_28 : BitVec 32 := 1#32
  let v59 : BitVec 32 := Scalar.select v58 c1_i32_28 c4_i32_26
  let v60 : BitVec 32 := Scalar.remsi v0 v59
  let c0_i32_30 : BitVec 32 := 0#32
  let v62 : BitVec 1 := Scalar.cmpi .slt v60 c0_i32_30
  let c0_i32_31 : BitVec 32 := 0#32
  let v63 : BitVec 1 := Scalar.cmpi .slt v59 c0_i32_31
  let v64 : BitVec 1 := Scalar.xori v62 v63
  let c0_i32_29 : BitVec 32 := 0#32
  let v61 : BitVec 1 := Scalar.cmpi .ne v60 c0_i32_29
  let v65 : BitVec 1 := Scalar.andi v64 v61
  let v66 : BitVec 32 := Scalar.addi v60 v59
  let v67 : BitVec 32 := Scalar.select v65 v66 v60
  let c0_i32_32 : BitVec 32 := 0#32
  let v69 : BitVec 1 := Scalar.cmpi .sgt v67 c0_i32_32
  let v70 : BitVec 32 := Scalar.extui v69
  let c0_i32_33 : BitVec 32 := 0#32
  let v71 : BitVec 1 := Scalar.cmpi .slt v67 c0_i32_33
  let v72 : BitVec 32 := Scalar.extui v71
  let v73 : BitVec 32 := Scalar.subi v70 v72
  let c2_i32 : BitVec 32 := 2#32
  let c0_i32_34 : BitVec 32 := 0#32
  let v74 : BitVec 1 := Scalar.cmpi .sgt c2_i32 c0_i32_34
  let v75 : BitVec 32 := Scalar.extui v74
  let c0_i32_35 : BitVec 32 := 0#32
  let v76 : BitVec 1 := Scalar.cmpi .slt c2_i32 c0_i32_35
  let v77 : BitVec 32 := Scalar.extui v76
  let v78 : BitVec 32 := Scalar.subi v75 v77
  let v79 : BitVec 1 := Scalar.cmpi .ne v73 v78
  let v80 : BitVec 32 := Scalar.remsi v67 c2_i32
  let c0_i32_36 : BitVec 32 := 0#32
  let v81 : BitVec 1 := Scalar.cmpi .ne v80 c0_i32_36
  let v82 : BitVec 1 := Scalar.andi v79 v81
  let v68 : BitVec 32 := Scalar.divsi v67 c2_i32
  let c1_i32_37 : BitVec 32 := 1#32
  let v83 : BitVec 32 := Scalar.subi v68 c1_i32_37
  let v84 : BitVec 32 := Scalar.select v82 v83 v68
  let v85 : BitVec 32 := Scalar.subi v84 c0_i32_38
  let c1_i32_39 : BitVec 32 := 1#32
  let v87 : BitVec 32 := Scalar.divsi v85 c1_i32_39
  let v88 : BitVec 32 := Scalar.muli v87 c1_i32_39
  let v89 : BitVec 32 := Scalar.addi c0_i32_38 v88
  let c1_i32_41 : BitVec 32 := 1#32
  let arg9 : BitVec 32 := Scf.iv v89 c1_i32_41 k0_t4
  let v118 : BitVec 32 := Scalar.muli c2_i32_58 arg9
  let v119 : BitVec 32 := Scalar.addi v57 v118
  let c2_i32_77 : BitVec 32 := 2#32
  let v151 : BitVec 32 := Scalar.addi v119 c2_i32_77
  let c512_i32_78 : BitVec 32 := 512#32
  let v152 : BitVec 32 := Scalar.muli v151 c512_i32_78
  v152
def k0_off12 (i : grid0.Coords) (k0_t4 : Fin (k0_t4_loop i).trips) : Fin 4 → Nat :=
  let c0_91 : Index := 0#32
  let arg1 : BitVec 32 := BitVec.ofNat 32 (i 1).val
  let c3_i32 : BitVec 32 := 3#32
  let v0 : BitVec 32 := Scalar.muli arg1 c3_i32
  let c0_i32_19 : BitVec 32 := 0#32
  let v41 : BitVec 1 := Scalar.cmpi .sgt v0 c0_i32_19
  let v42 : BitVec 32 := Scalar.extui v41
  let c0_i32_20 : BitVec 32 := 0#32
  let v43 : BitVec 1 := Scalar.cmpi .slt v0 c0_i32_20
  let v44 : BitVec 32 := Scalar.extui v43
  let v45 : BitVec 32 := Scalar.subi v42 v44
  let c4_i32_18 : BitVec 32 := 4#32
  let c0_i32_21 : BitVec 32 := 0#32
  let v46 : BitVec 1 := Scalar.cmpi .sgt c4_i32_18 c0_i32_21
  let v47 : BitVec 32 := Scalar.extui v46
  let c0_i32_22 : BitVec 32 := 0#32
  let v48 : BitVec 1 := Scalar.cmpi .slt c4_i32_18 c0_i32_22
  let v49 : BitVec 32 := Scalar.extui v48
  let v50 : BitVec 32 := Scalar.subi v47 v49
  let v51 : BitVec 1 := Scalar.cmpi .ne v45 v50
  let v52 : BitVec 32 := Scalar.remsi v0 c4_i32_18
  let c0_i32_23 : BitVec 32 := 0#32
  let v53 : BitVec 1 := Scalar.cmpi .ne v52 c0_i32_23
  let v54 : BitVec 1 := Scalar.andi v51 v53
  let v40 : BitVec 32 := Scalar.divsi v0 c4_i32_18
  let c1_i32_24 : BitVec 32 := 1#32
  let v55 : BitVec 32 := Scalar.subi v40 c1_i32_24
  let v56 : BitVec 32 := Scalar.select v54 v55 v40
  let c4_i32_25 : BitVec 32 := 4#32
  let v57 : BitVec 32 := Scalar.muli v56 c4_i32_25
  let c2_i32_58 : BitVec 32 := 2#32
  let c0_i32_38 : BitVec 32 := 0#32
  let c4_i32_26 : BitVec 32 := 4#32
  let c0_i32_27 : BitVec 32 := 0#32
  let v58 : BitVec 1 := Scalar.cmpi .eq c4_i32_26 c0_i32_27
  let c1_i32_28 : BitVec 32 := 1#32
  let v59 : BitVec 32 := Scalar.select v58 c1_i32_28 c4_i32_26
  let v60 : BitVec 32 := Scalar.remsi v0 v59
  let c0_i32_30 : BitVec 32 := 0#32
  let v62 : BitVec 1 := Scalar.cmpi .slt v60 c0_i32_30
  let c0_i32_31 : BitVec 32 := 0#32
  let v63 : BitVec 1 := Scalar.cmpi .slt v59 c0_i32_31
  let v64 : BitVec 1 := Scalar.xori v62 v63
  let c0_i32_29 : BitVec 32 := 0#32
  let v61 : BitVec 1 := Scalar.cmpi .ne v60 c0_i32_29
  let v65 : BitVec 1 := Scalar.andi v64 v61
  let v66 : BitVec 32 := Scalar.addi v60 v59
  let v67 : BitVec 32 := Scalar.select v65 v66 v60
  let c0_i32_32 : BitVec 32 := 0#32
  let v69 : BitVec 1 := Scalar.cmpi .sgt v67 c0_i32_32
  let v70 : BitVec 32 := Scalar.extui v69
  let c0_i32_33 : BitVec 32 := 0#32
  let v71 : BitVec 1 := Scalar.cmpi .slt v67 c0_i32_33
  let v72 : BitVec 32 := Scalar.extui v71
  let v73 : BitVec 32 := Scalar.subi v70 v72
  let c2_i32 : BitVec 32 := 2#32
  let c0_i32_34 : BitVec 32 := 0#32
  let v74 : BitVec 1 := Scalar.cmpi .sgt c2_i32 c0_i32_34
  let v75 : BitVec 32 := Scalar.extui v74
  let c0_i32_35 : BitVec 32 := 0#32
  let v76 : BitVec 1 := Scalar.cmpi .slt c2_i32 c0_i32_35
  let v77 : BitVec 32 := Scalar.extui v76
  let v78 : BitVec 32 := Scalar.subi v75 v77
  let v79 : BitVec 1 := Scalar.cmpi .ne v73 v78
  let v80 : BitVec 32 := Scalar.remsi v67 c2_i32
  let c0_i32_36 : BitVec 32 := 0#32
  let v81 : BitVec 1 := Scalar.cmpi .ne v80 c0_i32_36
  let v82 : BitVec 1 := Scalar.andi v79 v81
  let v68 : BitVec 32 := Scalar.divsi v67 c2_i32
  let c1_i32_37 : BitVec 32 := 1#32
  let v83 : BitVec 32 := Scalar.subi v68 c1_i32_37
  let v84 : BitVec 32 := Scalar.select v82 v83 v68
  let v85 : BitVec 32 := Scalar.subi v84 c0_i32_38
  let c1_i32_39 : BitVec 32 := 1#32
  let v87 : BitVec 32 := Scalar.divsi v85 c1_i32_39
  let v88 : BitVec 32 := Scalar.muli v87 c1_i32_39
  let v89 : BitVec 32 := Scalar.addi c0_i32_38 v88
  let c1_i32_41 : BitVec 32 := 1#32
  let arg9 : BitVec 32 := Scf.iv v89 c1_i32_41 k0_t4
  let v118 : BitVec 32 := Scalar.muli c2_i32_58 arg9
  let v119 : BitVec 32 := Scalar.addi v57 v118
  let c1_i32_86 : BitVec 32 := 1#32
  let v163 : BitVec 32 := Scalar.addi v119 c1_i32_86
  let v174 : Index := Scalar.indexCast v163
  let c0_92 : Index := 0#32
  let c0_93 : Index := 0#32
  ![0, v174.toNat, 0, 0]
def k0_cond1 (i : grid0.Coords) : BitVec 1 :=
  let arg1 : BitVec 32 := BitVec.ofNat 32 (i 1).val
  let c3_i32 : BitVec 32 := 3#32
  let v0 : BitVec 32 := Scalar.muli arg1 c3_i32
  let c2_i32_42 : BitVec 32 := 2#32
  let c0_i32_43 : BitVec 32 := 0#32
  let v92 : BitVec 1 := Scalar.cmpi .eq c2_i32_42 c0_i32_43
  let c1_i32_44 : BitVec 32 := 1#32
  let v93 : BitVec 32 := Scalar.select v92 c1_i32_44 c2_i32_42
  let v94 : BitVec 32 := Scalar.remsi v0 v93
  let c0_i32_46 : BitVec 32 := 0#32
  let v96 : BitVec 1 := Scalar.cmpi .slt v94 c0_i32_46
  let c0_i32_47 : BitVec 32 := 0#32
  let v97 : BitVec 1 := Scalar.cmpi .slt v93 c0_i32_47
  let v98 : BitVec 1 := Scalar.xori v96 v97
  let c0_i32_45 : BitVec 32 := 0#32
  let v95 : BitVec 1 := Scalar.cmpi .ne v94 c0_i32_45
  let v99 : BitVec 1 := Scalar.andi v98 v95
  let v100 : BitVec 32 := Scalar.addi v94 v93
  let v101 : BitVec 32 := Scalar.select v99 v100 v94
  let c0_i32_48 : BitVec 32 := 0#32
  let v102 : BitVec 1 := Scalar.cmpi .eq v101 c0_i32_48
  let v103 : BitVec 32 := Scalar.extui v102
  let c0_i32_49 : BitVec 32 := 0#32
  let v104 : BitVec 1 := Scalar.cmpi .ne v103 c0_i32_49
  v104

def k0_mult14 (i : grid0.Coords) : BitVec 32 :=
  let arg1 : BitVec 32 := BitVec.ofNat 32 (i 1).val
  let c3_i32 : BitVec 32 := 3#32
  let v0 : BitVec 32 := Scalar.muli arg1 c3_i32
  let c1_i32_58 : BitVec 32 := 1#32
  let v118 : BitVec 32 := Scalar.addi v0 c1_i32_58
  let c512_i32 : BitVec 32 := 512#32
  let v119 : BitVec 32 := Scalar.muli v118 c512_i32
  v119
def k0_off13 (i : grid0.Coords) (c1_i32_58 : BitVec 32) : Fin 2 → Nat :=
  let arg1 : BitVec 32 := BitVec.ofNat 32 (i 1).val
  let c3_i32 : BitVec 32 := 3#32
  let v0 : BitVec 32 := Scalar.muli arg1 c3_i32
  let v118 : BitVec 32 := Scalar.addi v0 c1_i32_58
  let c512_i32 : BitVec 32 := 512#32
  let v119 : BitVec 32 := Scalar.muli v118 c512_i32
  let v120 : BitVec 32 := v119
  let v121 : Index := Scalar.indexCast v120
  let c0_59 : Index := 0#32
  ![v121.toNat, 0]
def k0_off14 (i : grid0.Coords) (c0_i32_70 : BitVec 32) : Fin 4 → Nat :=
  let c0_71 : Index := 0#32
  let arg1 : BitVec 32 := BitVec.ofNat 32 (i 1).val
  let c3_i32 : BitVec 32 := 3#32
  let v0 : BitVec 32 := Scalar.muli arg1 c3_i32
  let v145 : BitVec 32 := Scalar.addi v0 c0_i32_70
  let v146 : Index := Scalar.indexCast v145
  let c0_72 : Index := 0#32
  let c0_73 : Index := 0#32
  ![0, v146.toNat, 0, 0]
def k0_mult15 (i : grid0.Coords) : BitVec 32 :=
  let arg1 : BitVec 32 := BitVec.ofNat 32 (i 1).val
  let c3_i32 : BitVec 32 := 3#32
  let v0 : BitVec 32 := Scalar.muli arg1 c3_i32
  let c2_i32_77 : BitVec 32 := 2#32
  let v155 : BitVec 32 := Scalar.addi v0 c2_i32_77
  let c512_i32_78 : BitVec 32 := 512#32
  let v156 : BitVec 32 := Scalar.muli v155 c512_i32_78
  v156
def k0_cond2 (i : grid0.Coords) : BitVec 1 :=
  let arg1 : BitVec 32 := BitVec.ofNat 32 (i 1).val
  let c3_i32 : BitVec 32 := 3#32
  let v0 : BitVec 32 := Scalar.muli arg1 c3_i32
  let c2_i32_50 : BitVec 32 := 2#32
  let c0_i32_51 : BitVec 32 := 0#32
  let v105 : BitVec 1 := Scalar.cmpi .eq c2_i32_50 c0_i32_51
  let c1_i32_52 : BitVec 32 := 1#32
  let v106 : BitVec 32 := Scalar.select v105 c1_i32_52 c2_i32_50
  let v107 : BitVec 32 := Scalar.remsi v0 v106
  let c0_i32_54 : BitVec 32 := 0#32
  let v109 : BitVec 1 := Scalar.cmpi .slt v107 c0_i32_54
  let c0_i32_55 : BitVec 32 := 0#32
  let v110 : BitVec 1 := Scalar.cmpi .slt v106 c0_i32_55
  let v111 : BitVec 1 := Scalar.xori v109 v110
  let c0_i32_53 : BitVec 32 := 0#32
  let v108 : BitVec 1 := Scalar.cmpi .ne v107 c0_i32_53
  let v112 : BitVec 1 := Scalar.andi v111 v108
  let v113 : BitVec 32 := Scalar.addi v107 v106
  let v114 : BitVec 32 := Scalar.select v112 v113 v107
  let c1_i32_56 : BitVec 32 := 1#32
  let v115 : BitVec 1 := Scalar.cmpi .eq v114 c1_i32_56
  let v116 : BitVec 32 := Scalar.extui v115
  let c0_i32_57 : BitVec 32 := 0#32
  let v117 : BitVec 1 := Scalar.cmpi .ne v116 c0_i32_57
  v117

def k0_mult16 (i : grid0.Coords) : BitVec 32 :=
  let arg1 : BitVec 32 := BitVec.ofNat 32 (i 1).val
  let c3_i32 : BitVec 32 := 3#32
  let v0 : BitVec 32 := Scalar.muli arg1 c3_i32
  let c0_i32_59 : BitVec 32 := 0#32
  let v119 : BitVec 32 := Scalar.addi v0 c0_i32_59
  let c512_i32 : BitVec 32 := 512#32
  let v120 : BitVec 32 := Scalar.muli v119 c512_i32
  v120
def k0_off15 (i : grid0.Coords) (c0_i32_59 : BitVec 32) : Fin 2 → Nat :=
  let arg1 : BitVec 32 := BitVec.ofNat 32 (i 1).val
  let c3_i32 : BitVec 32 := 3#32
  let v0 : BitVec 32 := Scalar.muli arg1 c3_i32
  let v119 : BitVec 32 := Scalar.addi v0 c0_i32_59
  let c512_i32 : BitVec 32 := 512#32
  let v120 : BitVec 32 := Scalar.muli v119 c512_i32
  let v121 : BitVec 32 := v120
  let v122 : Index := Scalar.indexCast v121
  let c0_60 : Index := 0#32
  ![v122.toNat, 0]
def k0_off16 (i : grid0.Coords) : Fin 4 → Nat :=
  let c0_70 : Index := 0#32
  let arg1 : BitVec 32 := BitVec.ofNat 32 (i 1).val
  let c3_i32 : BitVec 32 := 3#32
  let v0 : BitVec 32 := Scalar.muli arg1 c3_i32
  let c1_i32_58 : BitVec 32 := 1#32
  let v118 : BitVec 32 := Scalar.subi v0 c1_i32_58
  let v139 : Index := Scalar.indexCast v118
  let c0_71 : Index := 0#32
  let c0_72 : Index := 0#32
  ![0, v139.toNat, 0, 0]
def k0_mult17 (i : grid0.Coords) : BitVec 32 :=
  let arg1 : BitVec 32 := BitVec.ofNat 32 (i 1).val
  let c3_i32 : BitVec 32 := 3#32
  let v0 : BitVec 32 := Scalar.muli arg1 c3_i32
  let c1_i32_76 : BitVec 32 := 1#32
  let v148 : BitVec 32 := Scalar.addi v0 c1_i32_76
  let c512_i32_77 : BitVec 32 := 512#32
  let v149 : BitVec 32 := Scalar.muli v148 c512_i32_77
  v149
def k0_off17 (i : grid0.Coords) (c0_i32_89 : BitVec 32) : Fin 4 → Nat :=
  let c0_90 : Index := 0#32
  let arg1 : BitVec 32 := BitVec.ofNat 32 (i 1).val
  let c3_i32 : BitVec 32 := 3#32
  let v0 : BitVec 32 := Scalar.muli arg1 c3_i32
  let v175 : BitVec 32 := Scalar.addi v0 c0_i32_89
  let v176 : Index := Scalar.indexCast v175
  let c0_91 : Index := 0#32
  let c0_92 : Index := 0#32
  ![0, v176.toNat, 0, 0]
def k0_mult18 (i : grid0.Coords) : BitVec 32 :=
  let arg1 : BitVec 32 := BitVec.ofNat 32 (i 1).val
  let c3_i32 : BitVec 32 := 3#32
  let v0 : BitVec 32 := Scalar.muli arg1 c3_i32
  let c2_i32_96 : BitVec 32 := 2#32
  let v185 : BitVec 32 := Scalar.addi v0 c2_i32_96
  let c512_i32_97 : BitVec 32 := 512#32
  let v186 : BitVec 32 := Scalar.muli v185 c512_i32_97
  v186
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1536x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16896x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x33x144x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1536x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S16896x2048 : Shape := ⟨2, ![16896, 2048]⟩
abbrev S8x33x144x512 : Shape := ⟨4, ![8, 33, 144, 512]⟩
abbrev S16896x8x256 : Shape := ⟨3, ![16896, 8, 256]⟩
abbrev S8x16896x256 : Shape := ⟨3, ![8, 16896, 256]⟩
abbrev S8x16896x128 : Shape := ⟨3, ![8, 16896, 128]⟩
abbrev S8x16896x3 : Shape := ⟨3, ![8, 16896, 3]⟩
abbrev S_ : Shape := ⟨0, ![]⟩
abbrev S8x16896 : Shape := ⟨2, ![8, 16896]⟩
abbrev S8x33x128x512 : Shape := ⟨4, ![8, 33, 128, 512]⟩
abbrev S8x33x512x128 : Shape := ⟨4, ![8, 33, 512, 128]⟩
abbrev S8x16896x16896 : Shape := ⟨3, ![8, 16896, 16896]⟩
abbrev S8x16896x1 : Shape := ⟨3, ![8, 16896, 1]⟩
abbrev S8x1x16896 : Shape := ⟨3, ![8, 1, 16896]⟩
abbrev S16896 : Shape := ⟨1, ![16896]⟩
abbrev S1x16896 : Shape := ⟨2, ![1, 16896]⟩
abbrev S16896x1 : Shape := ⟨2, ![16896, 1]⟩
abbrev S16896x16896 : Shape := ⟨2, ![16896, 16896]⟩
abbrev S1x16896x16896 : Shape := ⟨3, ![1, 16896, 16896]⟩
abbrev S16896x8x128 : Shape := ⟨3, ![16896, 8, 128]⟩
abbrev S16896x1024 : Shape := ⟨2, ![16896, 1024]⟩

abbrev nBuf : Space → Nat
  | .hbm => 62
  | .vmem => 0
  | .smem => 0
  | _ => 0

abbrev bufTy : (tb : Table) → Fin (tcTables nBuf tb) → BufTy
  | .hbm, ⟨0, _⟩ => ⟨S16896x2048, .bf16⟩
  | .hbm, ⟨1, _⟩ => ⟨S16896x2048, .bf16⟩
  | .hbm, ⟨2, _⟩ => ⟨S8x33x144x512, .bf16⟩
  | .hbm, ⟨3, _⟩ => ⟨S16896x2048, .f32⟩
  | .hbm, ⟨4, _⟩ => ⟨S16896x8x256, .f32⟩
  | .hbm, ⟨5, _⟩ => ⟨S8x16896x256, .f32⟩
  | .hbm, ⟨6, _⟩ => ⟨S16896x2048, .f32⟩
  | .hbm, ⟨7, _⟩ => ⟨S16896x8x256, .f32⟩
  | .hbm, ⟨8, _⟩ => ⟨S8x16896x256, .f32⟩
  | .hbm, ⟨9, _⟩ => ⟨S8x16896x128, .f32⟩
  | .hbm, ⟨10, _⟩ => ⟨S8x16896x128, .f32⟩
  | .hbm, ⟨11, _⟩ => ⟨S8x16896x3, .f32⟩
  | .hbm, ⟨12, _⟩ => ⟨S_, .f32⟩
  | .hbm, ⟨13, _⟩ => ⟨S8x16896, .f32⟩
  | .hbm, ⟨14, _⟩ => ⟨S8x16896x3, .f32⟩
  | .hbm, ⟨15, _⟩ => ⟨S_, .f32⟩
  | .hbm, ⟨16, _⟩ => ⟨S8x16896, .f32⟩
  | .hbm, ⟨17, _⟩ => ⟨S8x16896, .f32⟩
  | .hbm, ⟨18, _⟩ => ⟨S8x33x144x512, .f32⟩
  | .hbm, ⟨19, _⟩ => ⟨S8x33x128x512, .f32⟩
  | .hbm, ⟨20, _⟩ => ⟨S8x33x512x128, .f32⟩
  | .hbm, ⟨21, _⟩ => ⟨S8x16896x128, .f32⟩
  | .hbm, ⟨22, _⟩ => ⟨S8x16896x16896, .f32⟩
  | .hbm, ⟨23, _⟩ => ⟨S8x16896x1, .f32⟩
  | .hbm, ⟨24, _⟩ => ⟨S8x1x16896, .f32⟩
  | .hbm, ⟨25, _⟩ => ⟨S8x16896x16896, .f32⟩
  | .hbm, ⟨26, _⟩ => ⟨S8x16896x16896, .f32⟩
  | .hbm, ⟨27, _⟩ => ⟨S8x16896x16896, .f32⟩
  | .hbm, ⟨28, _⟩ => ⟨S8x16896x16896, .f32⟩
  | .hbm, ⟨29, _⟩ => ⟨S16896, .i32⟩
  | .hbm, ⟨30, _⟩ => ⟨S1x16896, .i32⟩
  | .hbm, ⟨31, _⟩ => ⟨S16896x1, .i32⟩
  | .hbm, ⟨32, _⟩ => ⟨S16896x16896, .i32⟩
  | .hbm, ⟨33, _⟩ => ⟨S16896x16896, .i32⟩
  | .hbm, ⟨34, _⟩ => ⟨S16896x16896, .i1⟩
  | .hbm, ⟨35, _⟩ => ⟨S1x16896x16896, .i1⟩
  | .hbm, ⟨36, _⟩ => ⟨S_, .f32⟩
  | .hbm, ⟨37, _⟩ => ⟨S_, .f32⟩
  | .hbm, ⟨38, _⟩ => ⟨S8x16896x16896, .f32⟩
  | .hbm, ⟨39, _⟩ => ⟨S8x16896x16896, .f32⟩
  | .hbm, ⟨40, _⟩ => ⟨S_, .f32⟩
  | .hbm, ⟨41, _⟩ => ⟨S_, .f32⟩
  | .hbm, ⟨42, _⟩ => ⟨S8x16896x16896, .i1⟩
  | .hbm, ⟨43, _⟩ => ⟨S8x16896x16896, .f32⟩
  | .hbm, ⟨44, _⟩ => ⟨S8x16896x16896, .f32⟩
  | .hbm, ⟨45, _⟩ => ⟨S_, .f32⟩
  | .hbm, ⟨46, _⟩ => ⟨S8x16896, .f32⟩
  | .hbm, ⟨47, _⟩ => ⟨S_, .f32⟩
  | .hbm, ⟨48, _⟩ => ⟨S8x16896, .f32⟩
  | .hbm, ⟨49, _⟩ => ⟨S8x16896, .f32⟩
  | .hbm, ⟨50, _⟩ => ⟨S8x16896x1, .f32⟩
  | .hbm, ⟨51, _⟩ => ⟨S8x16896x16896, .f32⟩
  | .hbm, ⟨52, _⟩ => ⟨S8x16896x16896, .f32⟩
  | .hbm, ⟨53, _⟩ => ⟨S8x16896x16896, .f32⟩
  | .hbm, ⟨54, _⟩ => ⟨S_, .f32⟩
  | .hbm, ⟨55, _⟩ => ⟨S8x16896, .f32⟩
  | .hbm, ⟨56, _⟩ => ⟨S8x16896x1, .f32⟩
  | .hbm, ⟨57, _⟩ => ⟨S8x16896x16896, .f32⟩
  | .hbm, ⟨58, _⟩ => ⟨S8x16896x16896, .f32⟩
  | .hbm, ⟨59, _⟩ => ⟨S8x16896x128, .f32⟩
  | .hbm, ⟨60, _⟩ => ⟨S16896x8x128, .f32⟩
  | .hbm, ⟨61, _⟩ => ⟨S16896x1024, .f32⟩
  | _, _ => ⟨S16896x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_cst_1 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_cst_2 : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_v34 : Ref sig .tc := ⟨.hbm, 44, rfl⟩
abbrev main_cst_3 : Ref sig .tc := ⟨.hbm, 45, rfl⟩
abbrev main_v35 : Ref sig .tc := ⟨.hbm, 46, rfl⟩
abbrev main_cst_4 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_5 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩

abbrev nD : Nat := 1
abbrev τ : Topo := Topo.v7x

variable {F : FTy → Type} [FloatOps F]
-- ==== Ffn.lean ====
abbrev S16896x2048 : Shape := ⟨2, ![16896, 2048]⟩
abbrev S2048 : Shape := ⟨1, ![2048]⟩
abbrev S4x2048x5632 : Shape := ⟨3, ![4, 2048, 5632]⟩
abbrev S4x5632x2048 : Shape := ⟨3, ![4, 5632, 2048]⟩
abbrev S1x2048 : Shape := ⟨2, ![1, 2048]⟩
abbrev S_ : Shape := ⟨0, ![]⟩
abbrev S768x2048 : Shape := ⟨2, ![768, 2048]⟩
abbrev S1x2048x512 : Shape := ⟨3, ![1, 2048, 512]⟩
abbrev S1x512x2048 : Shape := ⟨3, ![1, 512, 2048]⟩
abbrev S768 : Shape := ⟨1, ![768]⟩
abbrev S768x1 : Shape := ⟨2, ![768, 1]⟩
abbrev S2048x512 : Shape := ⟨2, ![2048, 512]⟩
abbrev S768x512 : Shape := ⟨2, ![768, 512]⟩
abbrev S512x2048 : Shape := ⟨2, ![512, 2048]⟩

abbrev nBuf : Space → Nat
  | .hbm => 12
  | .vmem => 14
  | .smem => 0
  | _ => 0

abbrev bufTy : (tb : Table) → Fin (tcTables nBuf tb) → BufTy
  | .hbm, ⟨0, _⟩ => ⟨S16896x2048, .f32⟩
  | .hbm, ⟨1, _⟩ => ⟨S2048, .f32⟩
  | .hbm, ⟨2, _⟩ => ⟨S2048, .f32⟩
  | .hbm, ⟨3, _⟩ => ⟨S4x2048x5632, .bf16⟩
  | .hbm, ⟨4, _⟩ => ⟨S4x2048x5632, .bf16⟩
  | .hbm, ⟨5, _⟩ => ⟨S4x5632x2048, .bf16⟩
  | .hbm, ⟨6, _⟩ => ⟨S1x2048, .f32⟩
  | .hbm, ⟨7, _⟩ => ⟨S_, .f32⟩
  | .hbm, ⟨8, _⟩ => ⟨S2048, .f32⟩
  | .hbm, ⟨9, _⟩ => ⟨S2048, .f32⟩
  | .hbm, ⟨10, _⟩ => ⟨S1x2048, .f32⟩
  | .hbm, ⟨11, _⟩ => ⟨S16896x2048, .f32⟩
  | .local _ .vmem, ⟨0, _⟩ => ⟨S768x2048, .f32⟩
  | .local _ .vmem, ⟨1, _⟩ => ⟨S768x2048, .f32⟩
  | .local _ .vmem, ⟨2, _⟩ => ⟨S1x2048, .f32⟩
  | .local _ .vmem, ⟨3, _⟩ => ⟨S1x2048, .f32⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x2048x512, .bf16⟩
  | .local _ .vmem, ⟨8, _⟩ => ⟨S1x512x2048, .bf16⟩
  | .local _ .vmem, ⟨9, _⟩ => ⟨S1x512x2048, .bf16⟩
  | .local _ .vmem, ⟨10, _⟩ => ⟨S768x2048, .f32⟩
  | .local _ .vmem, ⟨11, _⟩ => ⟨S768x2048, .f32⟩
  | .local _ .vmem, ⟨12, _⟩ => ⟨S768x2048, .bf16⟩
  | .local _ .vmem, ⟨13, _⟩ => ⟨S768x2048, .f32⟩
  | _, _ => ⟨S16896x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![22, 11], ![false, false]⟩

def k0_cond2 (i : grid0.Coords) : BitVec 1 :=
  let arg1 : BitVec 32 := BitVec.ofNat 32 (i 1).val
  let c10_i32 : BitVec 32 := 10#32
  let v22 : BitVec 1 := Scalar.cmpi .eq arg1 c10_i32
  let v23 : BitVec 32 := Scalar.extui v22
  let c0_i32_17 : BitVec 32 := 0#32
  let v24 : BitVec 1 := Scalar.cmpi .ne v23 c0_i32_17
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S768x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S768x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnReferenceIdeal.lean ====
abbrev S16896x2048 : Shape := ⟨2, ![16896, 2048]⟩
abbrev S2048 : Shape := ⟨1, ![2048]⟩
abbrev S4x2048x5632 : Shape := ⟨3, ![4, 2048, 5632]⟩
abbrev S4x5632x2048 : Shape := ⟨3, ![4, 5632, 2048]⟩
abbrev S1x2048x5632 : Shape := ⟨3, ![1, 2048, 5632]⟩
abbrev S2048x5632 : Shape := ⟨2, ![2048, 5632]⟩
abbrev S1x5632x2048 : Shape := ⟨3, ![1, 5632, 2048]⟩
abbrev S5632x2048 : Shape := ⟨2, ![5632, 2048]⟩
abbrev S_ : Shape := ⟨0, ![]⟩
abbrev S16896 : Shape := ⟨1, ![16896]⟩
abbrev S16896x1 : Shape := ⟨2, ![16896, 1]⟩
abbrev S1x2048 : Shape := ⟨2, ![1, 2048]⟩
abbrev S16896x5632 : Shape := ⟨2, ![16896, 5632]⟩

abbrev nBuf : Space → Nat
  | .hbm => 64
  | .vmem => 0
  | .smem => 0
  | _ => 0

abbrev bufTy : (tb : Table) → Fin (tcTables nBuf tb) → BufTy
  | .hbm, ⟨0, _⟩ => ⟨S16896x2048, .f32⟩
  | .hbm, ⟨1, _⟩ => ⟨S2048, .f32⟩
  | .hbm, ⟨2, _⟩ => ⟨S2048, .f32⟩
  | .hbm, ⟨3, _⟩ => ⟨S4x2048x5632, .bf16⟩
  | .hbm, ⟨4, _⟩ => ⟨S4x2048x5632, .bf16⟩
  | .hbm, ⟨5, _⟩ => ⟨S4x5632x2048, .bf16⟩
  | .hbm, ⟨6, _⟩ => ⟨S1x2048x5632, .bf16⟩
  | .hbm, ⟨7, _⟩ => ⟨S2048x5632, .bf16⟩
  | .hbm, ⟨8, _⟩ => ⟨S2048x5632, .f32⟩
  | .hbm, ⟨9, _⟩ => ⟨S1x2048x5632, .bf16⟩
  | .hbm, ⟨10, _⟩ => ⟨S2048x5632, .bf16⟩
  | .hbm, ⟨11, _⟩ => ⟨S2048x5632, .f32⟩
  | .hbm, ⟨12, _⟩ => ⟨S1x5632x2048, .bf16⟩
  | .hbm, ⟨13, _⟩ => ⟨S5632x2048, .bf16⟩
  | .hbm, ⟨14, _⟩ => ⟨S5632x2048, .f32⟩
  | .hbm, ⟨15, _⟩ => ⟨S16896x2048, .f32⟩
  | .hbm, ⟨16, _⟩ => ⟨S_, .f32⟩
  | .hbm, ⟨17, _⟩ => ⟨S16896, .f32⟩
  | .hbm, ⟨18, _⟩ => ⟨S16896x1, .f32⟩
  | .hbm, ⟨19, _⟩ => ⟨S_, .f32⟩
  | .hbm, ⟨20, _⟩ => ⟨S16896x1, .f32⟩
  | .hbm, ⟨21, _⟩ => ⟨S16896x1, .f32⟩
  | .hbm, ⟨22, _⟩ => ⟨S_, .f32⟩
  | .hbm, ⟨23, _⟩ => ⟨S16896x1, .f32⟩
  | .hbm, ⟨24, _⟩ => ⟨S16896x1, .f32⟩
  | .hbm, ⟨25, _⟩ => ⟨S16896x1, .f32⟩
  | .hbm, ⟨26, _⟩ => ⟨S16896x2048, .f32⟩
  | .hbm, ⟨27, _⟩ => ⟨S16896x2048, .f32⟩
  | .hbm, ⟨28, _⟩ => ⟨S1x2048, .f32⟩
  | .hbm, ⟨29, _⟩ => ⟨S16896x2048, .f32⟩
  | .hbm, ⟨30, _⟩ => ⟨S16896x2048, .f32⟩
  | .hbm, ⟨31, _⟩ => ⟨S16896x5632, .f32⟩
  | .hbm, ⟨32, _⟩ => ⟨S16896x5632, .f32⟩
  | .hbm, ⟨33, _⟩ => ⟨S16896x5632, .f32⟩
  | .hbm, ⟨34, _⟩ => ⟨S_, .f32⟩
  | .hbm, ⟨35, _⟩ => ⟨S16896x5632, .f32⟩
  | .hbm, ⟨36, _⟩ => ⟨S16896x5632, .f32⟩
  | .hbm, ⟨37, _⟩ => ⟨S_, .f32⟩
  | .hbm, ⟨38, _⟩ => ⟨S16896x5632, .f32⟩
  | .hbm, ⟨39, _⟩ => ⟨S16896x5632, .f32⟩
  | .hbm, ⟨40, _⟩ => ⟨S16896x5632, .f32⟩
  | .hbm, ⟨41, _⟩ => ⟨S16896x5632, .f32⟩
  | .hbm, ⟨42, _⟩ => ⟨S16896x5632, .f32⟩
  | .hbm, ⟨43, _⟩ => ⟨S16896x2048, .f32⟩
  | .hbm, ⟨44, _⟩ => ⟨S16896x2048, .f32⟩
  | .hbm, ⟨45, _⟩ => ⟨S_, .f32⟩
  | .hbm, ⟨46, _⟩ => ⟨S16896, .f32⟩
  | .hbm, ⟨47, _⟩ => ⟨S16896x1, .f32⟩
  | .hbm, ⟨48, _⟩ => ⟨S_, .f32⟩
  | .hbm, ⟨49, _⟩ => ⟨S16896x1, .f32⟩
  | .hbm, ⟨50, _⟩ => ⟨S16896x1, .f32⟩
  | .hbm, ⟨51, _⟩ => ⟨S_, .f32⟩
  | .hbm, ⟨52, _⟩ => ⟨S16896x1, .f32⟩
  | .hbm, ⟨53, _⟩ => ⟨S16896x1, .f32⟩
  | .hbm, ⟨54, _⟩ => ⟨S16896x1, .f32⟩
  | .hbm, ⟨55, _⟩ => ⟨S16896x2048, .f32⟩
  | .hbm, ⟨56, _⟩ => ⟨S16896x2048, .f32⟩
  | .hbm, ⟨57, _⟩ => ⟨S1x2048, .f32⟩
  | .hbm, ⟨58, _⟩ => ⟨S16896x2048, .f32⟩
  | .hbm, ⟨59, _⟩ => ⟨S16896x2048, .f32⟩
  | .hbm, ⟨60, _⟩ => ⟨S_, .f32⟩
  | .hbm, ⟨61, _⟩ => ⟨S16896x2048, .f32⟩
  | .hbm, ⟨62, _⟩ => ⟨S16896x2048, .f32⟩
  | .hbm, ⟨63, _⟩ => ⟨S16896x2048, .f32⟩
  | _, _ => ⟨S16896x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_2 : Ref sig .tc := ⟨.hbm, 45, rfl⟩
abbrev main_v28 : Ref sig .tc := ⟨.hbm, 46, rfl⟩
abbrev main_v29 : Ref sig .tc := ⟨.hbm, 47, rfl⟩
abbrev main_cst_3 : Ref sig .tc := ⟨.hbm, 48, rfl⟩
abbrev main_v30 : Ref sig .tc := ⟨.hbm, 49, rfl⟩
abbrev main_v31 : Ref sig .tc := ⟨.hbm, 50, rfl⟩
abbrev main_cst_4 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_5 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩

abbrev nD : Nat := 1
abbrev τ : Topo := Topo.v7x

variable {F : FTy → Type} [FloatOps F]
-- ==== OutProj.lean ====
abbrev S16896x2048 : Shape := ⟨2, ![16896, 2048]⟩
abbrev S16896x1024 : Shape := ⟨2, ![16896, 1024]⟩
abbrev S1024 : Shape := ⟨1, ![1024]⟩
abbrev S2048 : Shape := ⟨1, ![2048]⟩
abbrev S4x2048x2048 : Shape := ⟨3, ![4, 2048, 2048]⟩
abbrev S1x1024 : Shape := ⟨2, ![1, 1024]⟩
abbrev S1x2048 : Shape := ⟨2, ![1, 2048]⟩
abbrev S768x2048 : Shape := ⟨2, ![768, 2048]⟩
abbrev S768x1024 : Shape := ⟨2, ![768, 1024]⟩
abbrev S1x1024x2048 : Shape := ⟨3, ![1, 1024, 2048]⟩
abbrev S768 : Shape := ⟨1, ![768]⟩
abbrev S768x1 : Shape := ⟨2, ![768, 1]⟩
abbrev S1024x2048 : Shape := ⟨2, ![1024, 2048]⟩

abbrev nBuf : Space → Nat
  | .hbm => 11
  | .vmem => 13
  | .smem => 0
  | _ => 0

abbrev bufTy : (tb : Table) → Fin (tcTables nBuf tb) → BufTy
  | .hbm, ⟨0, _⟩ => ⟨S16896x2048, .f32⟩
  | .hbm, ⟨1, _⟩ => ⟨S16896x1024, .f32⟩
  | .hbm, ⟨2, _⟩ => ⟨S16896x1024, .f32⟩
  | .hbm, ⟨3, _⟩ => ⟨S1024, .f32⟩
  | .hbm, ⟨4, _⟩ => ⟨S1024, .f32⟩
  | .hbm, ⟨5, _⟩ => ⟨S2048, .f32⟩
  | .hbm, ⟨6, _⟩ => ⟨S4x2048x2048, .bf16⟩
  | .hbm, ⟨7, _⟩ => ⟨S1x1024, .f32⟩
  | .hbm, ⟨8, _⟩ => ⟨S1x1024, .f32⟩
  | .hbm, ⟨9, _⟩ => ⟨S1x2048, .f32⟩
  | .hbm, ⟨10, _⟩ => ⟨S16896x2048, .f32⟩
  | .local _ .vmem, ⟨0, _⟩ => ⟨S768x2048, .f32⟩
  | .local _ .vmem, ⟨1, _⟩ => ⟨S768x2048, .f32⟩
  | .local _ .vmem, ⟨2, _⟩ => ⟨S768x1024, .f32⟩
  | .local _ .vmem, ⟨3, _⟩ => ⟨S768x1024, .f32⟩
  | .local _ .vmem, ⟨4, _⟩ => ⟨S768x1024, .f32⟩
  | .local _ .vmem, ⟨5, _⟩ => ⟨S768x1024, .f32⟩
  | .local _ .vmem, ⟨6, _⟩ => ⟨S1x1024, .f32⟩
  | .local _ .vmem, ⟨7, _⟩ => ⟨S1x1024, .f32⟩
  | .local _ .vmem, ⟨8, _⟩ => ⟨S1x2048, .f32⟩
  | .local _ .vmem, ⟨9, _⟩ => ⟨S1x1024x2048, .bf16⟩
  | .local _ .vmem, ⟨10, _⟩ => ⟨S1x1024x2048, .bf16⟩
  | .local _ .vmem, ⟨11, _⟩ => ⟨S768x2048, .f32⟩
  | .local _ .vmem, ⟨12, _⟩ => ⟨S768x2048, .f32⟩
  | _, _ => ⟨S16896x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_7 (i : grid0.Coords) : Fin 3 → Nat :=
  let arg0 : BitVec 32 := BitVec.ofNat 32 (i 0).val
  let c3_i32 : BitVec 32 := 3#32
  let c1_i32 : BitVec 32 := 1#32
  let c0_i32 : BitVec 32 := 0#32
  let c0_i32_0 : BitVec 32 := 0#32
  ![c3_i32.toNat, c1_i32.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S768x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S768x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== OutProjReferenceIdeal.lean ====
abbrev S16896x2048 : Shape := ⟨2, ![16896, 2048]⟩
abbrev S16896x1024 : Shape := ⟨2, ![16896, 1024]⟩
abbrev S1024 : Shape := ⟨1, ![1024]⟩
abbrev S2048 : Shape := ⟨1, ![2048]⟩
abbrev S4x2048x2048 : Shape := ⟨3, ![4, 2048, 2048]⟩
abbrev S_ : Shape := ⟨0, ![]⟩
abbrev S16896 : Shape := ⟨1, ![16896]⟩
abbrev S16896x1 : Shape := ⟨2, ![16896, 1]⟩
abbrev S1x1024 : Shape := ⟨2, ![1, 1024]⟩
abbrev S1x2048x2048 : Shape := ⟨3, ![1, 2048, 2048]⟩
abbrev S2048x2048 : Shape := ⟨2, ![2048, 2048]⟩
abbrev S1x2048 : Shape := ⟨2, ![1, 2048]⟩

abbrev nBuf : Space → Nat
  | .hbm => 61
  | .vmem => 0
  | .smem => 0
  | _ => 0

abbrev bufTy : (tb : Table) → Fin (tcTables nBuf tb) → BufTy
  | .hbm, ⟨0, _⟩ => ⟨S16896x2048, .f32⟩
  | .hbm, ⟨1, _⟩ => ⟨S16896x1024, .f32⟩
  | .hbm, ⟨2, _⟩ => ⟨S16896x1024, .f32⟩
  | .hbm, ⟨3, _⟩ => ⟨S1024, .f32⟩
  | .hbm, ⟨4, _⟩ => ⟨S1024, .f32⟩
  | .hbm, ⟨5, _⟩ => ⟨S2048, .f32⟩
  | .hbm, ⟨6, _⟩ => ⟨S4x2048x2048, .bf16⟩
  | .hbm, ⟨7, _⟩ => ⟨S16896x1024, .f32⟩
  | .hbm, ⟨8, _⟩ => ⟨S_, .f32⟩
  | .hbm, ⟨9, _⟩ => ⟨S16896, .f32⟩
  | .hbm, ⟨10, _⟩ => ⟨S16896x1, .f32⟩
  | .hbm, ⟨11, _⟩ => ⟨S_, .f32⟩
  | .hbm, ⟨12, _⟩ => ⟨S16896x1, .f32⟩
  | .hbm, ⟨13, _⟩ => ⟨S16896x1, .f32⟩
  | .hbm, ⟨14, _⟩ => ⟨S_, .f32⟩
  | .hbm, ⟨15, _⟩ => ⟨S16896x1, .f32⟩
  | .hbm, ⟨16, _⟩ => ⟨S16896x1, .f32⟩
  | .hbm, ⟨17, _⟩ => ⟨S16896x1, .f32⟩
  | .hbm, ⟨18, _⟩ => ⟨S16896x1024, .f32⟩
  | .hbm, ⟨19, _⟩ => ⟨S16896x1024, .f32⟩
  | .hbm, ⟨20, _⟩ => ⟨S1x1024, .f32⟩
  | .hbm, ⟨21, _⟩ => ⟨S16896x1024, .f32⟩
  | .hbm, ⟨22, _⟩ => ⟨S16896x1024, .f32⟩
  | .hbm, ⟨23, _⟩ => ⟨S16896x1024, .f32⟩
  | .hbm, ⟨24, _⟩ => ⟨S_, .f32⟩
  | .hbm, ⟨25, _⟩ => ⟨S16896, .f32⟩
  | .hbm, ⟨26, _⟩ => ⟨S16896x1, .f32⟩
  | .hbm, ⟨27, _⟩ => ⟨S_, .f32⟩
  | .hbm, ⟨28, _⟩ => ⟨S16896x1, .f32⟩
  | .hbm, ⟨29, _⟩ => ⟨S16896x1, .f32⟩
  | .hbm, ⟨30, _⟩ => ⟨S_, .f32⟩
  | .hbm, ⟨31, _⟩ => ⟨S16896x1, .f32⟩
  | .hbm, ⟨32, _⟩ => ⟨S16896x1, .f32⟩
  | .hbm, ⟨33, _⟩ => ⟨S16896x1, .f32⟩
  | .hbm, ⟨34, _⟩ => ⟨S16896x1024, .f32⟩
  | .hbm, ⟨35, _⟩ => ⟨S16896x1024, .f32⟩
  | .hbm, ⟨36, _⟩ => ⟨S1x1024, .f32⟩
  | .hbm, ⟨37, _⟩ => ⟨S16896x1024, .f32⟩
  | .hbm, ⟨38, _⟩ => ⟨S16896x1024, .f32⟩
  | .hbm, ⟨39, _⟩ => ⟨S16896x2048, .f32⟩
  | .hbm, ⟨40, _⟩ => ⟨S1x2048x2048, .bf16⟩
  | .hbm, ⟨41, _⟩ => ⟨S2048x2048, .bf16⟩
  | .hbm, ⟨42, _⟩ => ⟨S2048x2048, .f32⟩
  | .hbm, ⟨43, _⟩ => ⟨S16896x2048, .f32⟩
  | .hbm, ⟨44, _⟩ => ⟨S16896x2048, .f32⟩
  | .hbm, ⟨45, _⟩ => ⟨S_, .f32⟩
  | .hbm, ⟨46, _⟩ => ⟨S16896, .f32⟩
  | .hbm, ⟨47, _⟩ => ⟨S16896x1, .f32⟩
  | .hbm, ⟨48, _⟩ => ⟨S_, .f32⟩
  | .hbm, ⟨49, _⟩ => ⟨S16896x1, .f32⟩
  | .hbm, ⟨50, _⟩ => ⟨S16896x1, .f32⟩
  | .hbm, ⟨51, _⟩ => ⟨S_, .f32⟩
  | .hbm, ⟨52, _⟩ => ⟨S16896x1, .f32⟩
  | .hbm, ⟨53, _⟩ => ⟨S16896x1, .f32⟩
  | .hbm, ⟨54, _⟩ => ⟨S16896x1, .f32⟩
  | .hbm, ⟨55, _⟩ => ⟨S16896x2048, .f32⟩
  | .hbm, ⟨56, _⟩ => ⟨S16896x2048, .f32⟩
  | .hbm, ⟨57, _⟩ => ⟨S1x2048, .f32⟩
  | .hbm, ⟨58, _⟩ => ⟨S16896x2048, .f32⟩
  | .hbm, ⟨59, _⟩ => ⟨S16896x2048, .f32⟩
  | .hbm, ⟨60, _⟩ => ⟨S16896x2048, .f32⟩
  | _, _ => ⟨S16896x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩

abbrev nD : Nat := 1
abbrev τ : Topo := Topo.v7x

variable {F : FTy → Type} [FloatOps F]
-- ==== Sample.lean ====
abbrev S16x1024x128 : Shape := ⟨3, ![16, 1024, 128]⟩
abbrev S4x16x4096x8x128 : Shape := ⟨5, ![4, 16, 4096, 8, 128]⟩
abbrev S4x16x8x4096 : Shape := ⟨4, ![4, 16, 8, 4096]⟩
abbrev S4x2048x128 : Shape := ⟨3, ![4, 2048, 128]⟩
abbrev S16896x128 : Shape := ⟨2, ![16896, 128]⟩
abbrev S16896x1024 : Shape := ⟨2, ![16896, 1024]⟩
abbrev S4x16x32768x128 : Shape := ⟨4, ![4, 16, 32768, 128]⟩
abbrev S1x1024x128 : Shape := ⟨3, ![1, 1024, 128]⟩
abbrev S1x1x8192x128 : Shape := ⟨4, ![1, 1, 8192, 128]⟩
abbrev S1x1x8x1024 : Shape := ⟨4, ![1, 1, 8, 1024]⟩
abbrev S1x128x128 : Shape := ⟨3, ![1, 128, 128]⟩
abbrev S16x128 : Shape := ⟨2, ![16, 128]⟩
abbrev S16x1024 : Shape := ⟨2, ![16, 1024]⟩
abbrev S1x128 : Shape := ⟨2, ![1, 128]⟩
abbrev S128x1024 : Shape := ⟨2, ![128, 1024]⟩
abbrev S1024x128 : Shape := ⟨2, ![1024, 128]⟩
abbrev S16x16 : Shape := ⟨2, ![16, 16]⟩
abbrev S128 : Shape := ⟨1, ![128]⟩
abbrev S1x16x128 : Shape := ⟨3, ![1, 16, 128]⟩
abbrev S128x128 : Shape := ⟨2, ![128, 128]⟩
abbrev S128x16 : Shape := ⟨2, ![128, 16]⟩
abbrev S128x8 : Shape := ⟨2, ![128, 8]⟩
abbrev S8x1024 : Shape := ⟨2, ![8, 1024]⟩
abbrev S1x1x1024x128 : Shape := ⟨4, ![1, 1, 1024, 128]⟩
abbrev S1024x1024 : Shape := ⟨2, ![1024, 1024]⟩

abbrev nBuf : Space → Nat
  | .hbm => 11
  | .vmem => 21
  | .smem => 0
  | _ => 0

abbrev bufTy : (tb : Table) → Fin (tcTables nBuf tb) → BufTy
  | .hbm, ⟨0, _⟩ => ⟨S16x1024x128, .bf16⟩
  | .hbm, ⟨1, _⟩ => ⟨S4x16x4096x8x128, .f32⟩
  | .hbm, ⟨2, _⟩ => ⟨S4x16x4096x8x128, .f32⟩
  | .hbm, ⟨3, _⟩ => ⟨S4x16x8x4096, .f32⟩
  | .hbm, ⟨4, _⟩ => ⟨S4x2048x128, .f32⟩
  | .hbm, ⟨5, _⟩ => ⟨S4x2048x128, .f32⟩
  | .hbm, ⟨6, _⟩ => ⟨S16896x128, .f32⟩
  | .hbm, ⟨7, _⟩ => ⟨S16896x1024, .f32⟩
  | .hbm, ⟨8, _⟩ => ⟨S4x16x32768x128, .f32⟩
  | .hbm, ⟨9, _⟩ => ⟨S4x16x32768x128, .f32⟩
  | .hbm, ⟨10, _⟩ => ⟨S16896x1024, .f32⟩
  | .local _ .vmem, ⟨0, _⟩ => ⟨S1x1024x128, .bf16⟩
  | .local _ .vmem, ⟨1, _⟩ => ⟨S1x1024x128, .bf16⟩
  | .local _ .vmem, ⟨2, _⟩ => ⟨S1x1x8192x128, .f32⟩
  | .local _ .vmem, ⟨3, _⟩ => ⟨S1x1x8192x128, .f32⟩
  | .local _ .vmem, ⟨4, _⟩ => ⟨S1x1x8192x128, .f32⟩
  | .local _ .vmem, ⟨5, _⟩ => ⟨S1x1x8192x128, .f32⟩
  | .local _ .vmem, ⟨6, _⟩ => ⟨S1x1x8x1024, .f32⟩
  | .local _ .vmem, ⟨7, _⟩ => ⟨S1x1x8x1024, .f32⟩
  | .local _ .vmem, ⟨8, _⟩ => ⟨S1x128x128, .f32⟩
  | .local _ .vmem, ⟨9, _⟩ => ⟨S1x128x128, .f32⟩
  | .local _ .vmem, ⟨10, _⟩ => ⟨S1x128x128, .f32⟩
  | .local _ .vmem, ⟨11, _⟩ => ⟨S1x128x128, .f32⟩
  | .local _ .vmem, ⟨12, _⟩ => ⟨S16x128, .f32⟩
  | .local _ .vmem, ⟨13, _⟩ => ⟨S16x128, .f32⟩
  | .local _ .vmem, ⟨14, _⟩ => ⟨S16x1024, .f32⟩
  | .local _ .vmem, ⟨15, _⟩ => ⟨S16x1024, .f32⟩
  | .local _ .vmem, ⟨16, _⟩ => ⟨S1x128, .f32⟩
  | .local _ .vmem, ⟨17, _⟩ => ⟨S1x128, .f32⟩
  | .local _ .vmem, ⟨18, _⟩ => ⟨S128x1024, .f32⟩
  | .local _ .vmem, ⟨19, _⟩ => ⟨S1x128, .f32⟩
  | .local _ .vmem, ⟨20, _⟩ => ⟨S1x128, .f32⟩
  | _, _ => ⟨S16x1024x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v342 : BitVec 1 := Scalar.cmpi .eq arg1 c3_i32
  let v343 : BitVec 32 := Scalar.extui v342
  let c0_i32_138 : BitVec 32 := 0#32
  let v344 : BitVec 1 := Scalar.cmpi .ne v343 c0_i32_138
  v344

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c3_i32_0 : BitVec 32 := 3#32
  let c0_i32 : BitVec 32 := 0#32
  let c0_i32_1 : BitVec 32 := 0#32
  ![c3_i32_0.toNat, arg0.toNat, v0.toNat, c0_i32.toNat]

def cc0_transform_2 (i : grid0.Coords) : Fin 4 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c3_i32_0 : BitVec 32 := 3#32
  let c0_i32 : BitVec 32 := 0#32
  let c0_i32_1 : BitVec 32 := 0#32
  ![c3_i32_0.toNat, arg0.toNat, v0.toNat, c0_i32.toNat]

def cc0_transform_3 (i : grid0.Coords) : Fin 4 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c3_i32_0 : BitVec 32 := 3#32
  let c0_i32 : BitVec 32 := 0#32
  let c0_i32_1 : BitVec 32 := 0#32
  ![c3_i32_0.toNat, arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c1025_i32 : BitVec 32 := 1025#32
  let v0 : BitVec 32 := Scalar.addi c1025_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let arg1 : BitVec 32 := BitVec.ofNat 32 (i 1).val
  let c1025_i32 : BitVec 32 := 1025#32
  let v0 : BitVec 32 := Scalar.addi c1025_i32 arg0
  let c0_i32 : BitVec 32 := 0#32
  let c0_i32_0 : BitVec 32 := 0#32
  ![v0.toNat, c0_i32.toNat]

abbrev stage0_0 : Fin 2 → Memref sig .tc .vmem S1x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S16x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S16x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== SampleIdeal.lean ====
variable {F : FTy → Type} [FloatOps F] [Named F]
def κ : String → Option EReal := fun
  | "mask" => some ⊥
  | _ => none
-- ==== Proof.Ffn.Cases.lean ====
/- What one grid point of the feed-forward kernel leaves in its two scratch buffers and in its output block, as the
   named stored values of the point's input blocks and of the scratch the point before left. -/
module

public import proofs.«01_k».proof.Proof.Gen.FfnIdeal.Value
public import Idealize.ShloMosaic.Lib.Pipeline.Value
public import Idealize.ShloMosaic.Lib.Tactic

@[expose] public section

noncomputable section

namespace Cert.FfnProof

open Idealize.ShloMosaic Idealize.ShloMosaic.TcCoe Idealize.SL.Sem
open Cert.FfnIdeal Cert.FfnIdeal.Gen

variable {F : FTy → Type} [FloatOps F]

theorem off_zero : (![0, 0] : Fin 2 → Nat) = fun _ => 0 := funext fun a => by fin_cases a <;> rfl

theorem off_zero3 : (![0, 0, 0] : Fin 3 → Nat) = fun _ => 0 := funext fun a => by fin_cases a <;> rfl

/-- The first point of a row block leaves the normalised rows in the first scratch buffer. -/
theorem normed_first (c : Dev nD) (i : grid0.Coords) (arg2 : Memref sig .tc .vmem S768x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x2048x512 .bf16) (harg5 : arg5.IsWhole)
    (arg6 : Memref sig .tc .vmem S1x2048x512 .bf16) (harg6 : arg6.IsWhole) (arg7 : Memref sig .tc .vmem S1x512x2048 .bf16) (harg7 : arg7.IsWhole) (arg8 : Memref sig .tc .vmem S768x2048 .f32) (harg8 : arg8.IsWhole) (arg9 : Memref sig .tc .vmem S768x2048 .bf16) (harg9 : arg9.IsWhole) (arg10 : Memref sig .tc .vmem S768x2048 .f32) (harg10 : arg10.IsWhole) (hc0 : cond0_0 i) (hc1 : ¬cond0_1 i)
    (x0 : Vec F S768x2048 .f32) (x1 : Vec F S1x2048 .f32) (x2 : Vec F S1x2048 .f32) (x3 : Vec F S1x2048x512 .bf16) (x4 : Vec F S1x2048x512 .bf16) (x5 : Vec F S1x512x2048 .bf16) :
    sout0_A_0 c i arg2 harg2 arg3 harg3 arg4 harg4 arg5 harg5 arg6 harg6 arg7 harg7 arg8 harg8 arg9 harg9 arg10 harg10 hc0 hc1 x0 x1 x2 x3 x4 x5 = k0_pay1 x0 x1 := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4 x5)]
  unfold kernelRun0_A
  dsimp only
  sl_unfold_words
  first
    | rw [View.canon_unit_zero off_zero]
    | rw [View.canon_cons_unit_zero (S := S768x2048) off_zero]
  simp only [View.readCov_unit_zero (S := S768x2048) _ off_zero, View.readAt_eq_ld, harg2.read_unread, harg3.read_unread, harg4.read_unread,
    harg5.read_unread, harg6.read_unread, harg7.read_unread, harg9.read_unread, harg10.read_unread,
    View.ld_unit_zero (S := S768x2048) off_zero, View.ld_unit_zero (S := S1x2048) off_zero,
    View.ld_unit_zero (S := S1x2048x512) off_zero3, View.ld_unit_zero (S := S1x512x2048) off_zero3]

/-- The first point of a row block leaves, in the second scratch buffer, zero plus its tile's contribution. -/
theorem sum_first (c : Dev nD) (i : grid0.Coords) (arg2 : Memref sig .tc .vmem S768x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x2048x512 .bf16) (harg5 : arg5.IsWhole)
    (arg6 : Memref sig .tc .vmem S1x2048x512 .bf16) (harg6 : arg6.IsWhole) (arg7 : Memref sig .tc .vmem S1x512x2048 .bf16) (harg7 : arg7.IsWhole) (arg8 : Memref sig .tc .vmem S768x2048 .f32) (harg8 : arg8.IsWhole) (arg9 : Memref sig .tc .vmem S768x2048 .bf16) (harg9 : arg9.IsWhole) (arg10 : Memref sig .tc .vmem S768x2048 .f32) (harg10 : arg10.IsWhole) (hc0 : cond0_0 i) (hc1 : ¬cond0_1 i)
    (x0 : Vec F S768x2048 .f32) (x1 : Vec F S1x2048 .f32) (x2 : Vec F S1x2048 .f32) (x3 : Vec F S1x2048x512 .bf16) (x4 : Vec F S1x2048x512 .bf16) (x5 : Vec F S1x512x2048 .bf16) :
    sout0_A_1 c i arg2 harg2 arg3 harg3 arg4 harg4 arg5 harg5 arg6 harg6 arg7 harg7 arg8 harg8 arg9 harg9 arg10 harg10 hc0 hc1 x0 x1 x2 x3 x4 x5 = k0_pay3 (k0_pay1 x0 x1) x3 x4 (k0_pay2 (F := F)) x5 := by
  unfold sout0_A_1
  rw [View.read_writes_eq_canon _ _ _ (scover0_A_1 c i arg2 harg2 arg3 harg3 arg4 harg4 arg5 harg5 arg6 harg6 arg7 harg7 arg8 harg8 arg9 harg9 arg10 harg10 hc0 hc1 x0 x1 x2 x3 x4 x5)]
  unfold kernelRun0_A
  dsimp only
  sl_unfold_words
  first
    | rw [View.canon_unit_zero off_zero]
    | rw [View.canon_cons_unit_zero (S := S768x2048) off_zero]
  simp only [View.readCov_unit_zero (S := S768x2048) _ off_zero, View.readAt_eq_ld, harg2.read_unread, harg3.read_unread, harg4.read_unread,
    harg5.read_unread, harg6.read_unread, harg7.read_unread, harg9.read_unread, harg10.read_unread,
    View.ld_unit_zero (S := S768x2048) off_zero, View.ld_unit_zero (S := S1x2048) off_zero,
    View.ld_unit_zero (S := S1x2048x512) off_zero3, View.ld_unit_zero (S := S1x512x2048) off_zero3]

/-- A middle point adds its tile's contribution to the second scratch buffer. -/
theorem sum_mid (c : Dev nD) (i : grid0.Coords) (arg2 : Memref sig .tc .vmem S768x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x2048x512 .bf16) (harg5 : arg5.IsWhole)
    (arg6 : Memref sig .tc .vmem S1x2048x512 .bf16) (harg6 : arg6.IsWhole) (arg7 : Memref sig .tc .vmem S1x512x2048 .bf16) (harg7 : arg7.IsWhole) (arg8 : Memref sig .tc .vmem S768x2048 .f32) (harg8 : arg8.IsWhole) (arg9 : Memref sig .tc .vmem S768x2048 .bf16) (harg9 : arg9.IsWhole) (arg10 : Memref sig .tc .vmem S768x2048 .f32) (harg10 : arg10.IsWhole) (hc0 : ¬cond0_0 i) (hc1 : ¬cond0_1 i)
    (x0 : Vec F S768x2048 .f32) (x1 : Vec F S1x2048 .f32) (x2 : Vec F S1x2048 .f32) (x3 : Vec F S1x2048x512 .bf16) (x4 : Vec F S1x2048x512 .bf16) (x5 : Vec F S1x512x2048 .bf16) (xs0 : Vec F S768x2048 .bf16) (xs1 : Vec F S768x2048 .f32) :
    sout0_B_1 c i arg2 harg2 arg3 harg3 arg4 harg4 arg5 harg5 arg6 harg6 arg7 harg7 arg8 harg8 arg9 harg9 arg10 harg10 hc0 hc1 x0 x1 x2 x3 x4 x5 xs0 xs1 = k0_pay3 xs0 x3 x4 xs1 x5 := by
  unfold sout0_B_1
  rw [View.read_writes_eq_canon _ _ _ (scover0_B_1 c i arg2 harg2 arg3 harg3 arg4 harg4 arg5 harg5 arg6 harg6 arg7 harg7 arg8 harg8 arg9 harg9 arg10 harg10 hc0 hc1 x0 x1 x2 x3 x4 x5 xs0 xs1)]
  unfold kernelRun0_B
  dsimp only
  sl_unfold_words
  first
    | rw [View.canon_unit_zero off_zero]
    | rw [View.canon_cons_unit_zero (S := S768x2048) off_zero]
  simp only [View.readCov_unit_zero (S := S768x2048) _ off_zero, View.readAt_eq_ld, harg2.read_unread, harg3.read_unread, harg4.read_unread,
    harg5.read_unread, harg6.read_unread, harg7.read_unread, harg9.read_unread, harg10.read_unread,
    View.ld_unit_zero (S := S768x2048) off_zero, View.ld_unit_zero (S := S1x2048) off_zero,
    View.ld_unit_zero (S := S1x2048x512) off_zero3, View.ld_unit_zero (S := S1x512x2048) off_zero3]

/-- The last point of a row block adds its tile's contribution to the second scratch buffer. -/
theorem sum_last (c : Dev nD) (i : grid0.Coords) (arg2 : Memref sig .tc .vmem S768x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x2048x512 .bf16) (harg5 : arg5.IsWhole)
    (arg6 : Memref sig .tc .vmem S1x2048x512 .bf16) (harg6 : arg6.IsWhole) (arg7 : Memref sig .tc .vmem S1x512x2048 .bf16) (harg7 : arg7.IsWhole) (arg8 : Memref sig .tc .vmem S768x2048 .f32) (harg8 : arg8.IsWhole) (arg9 : Memref sig .tc .vmem S768x2048 .bf16) (harg9 : arg9.IsWhole) (arg10 : Memref sig .tc .vmem S768x2048 .f32) (harg10 : arg10.IsWhole) (hc0 : ¬cond0_0 i) (hc1 : cond0_1 i)
    (x0 : Vec F S768x2048 .f32) (x1 : Vec F S1x2048 .f32) (x2 : Vec F S1x2048 .f32) (x3 : Vec F S1x2048x512 .bf16) (x4 : Vec F S1x2048x512 .bf16) (x5 : Vec F S1x512x2048 .bf16) (xs0 : Vec F S768x2048 .bf16) (xs1 : Vec F S768x2048 .f32) :
    sout0_C_1 c i arg2 harg2 arg3 harg3 arg4 harg4 arg5 harg5 arg6 harg6 arg7 harg7 arg8 harg8 arg9 harg9 arg10 harg10 hc0 hc1 x0 x1 x2 x3 x4 x5 xs0 xs1 = k0_pay3 xs0 x3 x4 xs1 x5 := by
  unfold sout0_C_1
  rw [View.read_writes_eq_canon _ _ _ (scover0_C_1 c i arg2 harg2 arg3 harg3 arg4 harg4 arg5 harg5 arg6 harg6 arg7 harg7 arg8 harg8 arg9 harg9 arg10 harg10 hc0 hc1 x0 x1 x2 x3 x4 x5 xs0 xs1)]
  unfold kernelRun0_C
  dsimp only
  sl_unfold_words
  first
    | rw [View.canon_unit_zero off_zero]
    | rw [View.canon_cons_unit_zero (S := S768x2048) off_zero]
  simp only [View.readCov_unit_zero (S := S768x2048) _ off_zero, View.readAt_eq_ld, harg2.read_unread, harg3.read_unread, harg4.read_unread,
    harg5.read_unread, harg6.read_unread, harg7.read_unread, harg9.read_unread, harg10.read_unread,
    View.ld_unit_zero (S := S768x2048) off_zero, View.ld_unit_zero (S := S1x2048) off_zero,
    View.ld_unit_zero (S := S1x2048x512) off_zero3, View.ld_unit_zero (S := S1x512x2048) off_zero3]

/-- The last point of a row block writes the block: the rows plus their normalised sum. -/
theorem out_last (c : Dev nD) (i : grid0.Coords) (arg2 : Memref sig .tc .vmem S768x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x2048x512 .bf16) (harg5 : arg5.IsWhole)
    (arg6 : Memref sig .tc .vmem S1x2048x512 .bf16) (harg6 : arg6.IsWhole) (arg7 : Memref sig .tc .vmem S1x512x2048 .bf16) (harg7 : arg7.IsWhole) (arg8 : Memref sig .tc .vmem S768x2048 .f32) (harg8 : arg8.IsWhole) (arg9 : Memref sig .tc .vmem S768x2048 .bf16) (harg9 : arg9.IsWhole) (arg10 : Memref sig .tc .vmem S768x2048 .f32) (harg10 : arg10.IsWhole) (hc0 : ¬cond0_0 i) (hc1 : cond0_1 i)
    (x0 : Vec F S768x2048 .f32) (x1 : Vec F S1x2048 .f32) (x2 : Vec F S1x2048 .f32) (x3 : Vec F S1x2048x512 .bf16) (x4 : Vec F S1x2048x512 .bf16) (x5 : Vec F S1x512x2048 .bf16) (xs0 : Vec F S768x2048 .bf16) (xs1 : Vec F S768x2048 .f32) :
    out0_C_6 c i arg2 harg2 arg3 harg3 arg4 harg4 arg5 harg5 arg6 harg6 arg7 harg7 arg8 harg8 arg9 harg9 arg10 harg10 hc0 hc1 x0 x1 x2 x3 x4 x5 xs0 xs1 = k0_pay4 x0 (k0_pay3 xs0 x3 x4 xs1 x5) x2 := by
  unfold out0_C_6
  rw [View.read_writes_eq_canon _ _ _ (cover0_C_6 c i arg2 harg2 arg3 harg3 arg4 harg4 arg5 harg5 arg6 harg6 arg7 harg7 arg8 harg8 arg9 harg9 arg10 harg10 hc0 hc1 x0 x1 x2 x3 x4 x5 xs0 xs1)]
  unfold kernelRun0_C
  dsimp only
  sl_unfold_words
  first
    | rw [View.canon_unit_zero off_zero]
    | rw [View.canon_cons_unit_zero (S := S768x2048) off_zero]
  simp only [View.readCov_unit_zero (S := S768x2048) _ off_zero, View.readAt_eq_ld, harg2.read_unread, harg3.read_unread, harg4.read_unread,
    harg5.read_unread, harg6.read_unread, harg7.read_unread, harg9.read_unread, harg10.read_unread,
    View.ld_unit_zero (S := S768x2048) off_zero, View.ld_unit_zero (S := S1x2048) off_zero,
    View.ld_unit_zero (S := S1x2048x512) off_zero3, View.ld_unit_zero (S := S1x512x2048) off_zero3]

end Cert.FfnProof

end
-- ==== Proof.Ffn.Blocks.lean ====
/- The feed-forward kernel's input blocks read off the arguments: the row block, the two scales, and the three weight
   tiles of the last layer. -/
module

public import proofs.«01_k».proof.Proof.Gen.FfnIdeal.Value
public import Idealize.ShloMosaic.Lib.Pipeline.Value
public import Idealize.ShloMosaic.Lib.Pointwise
public import Idealize.ShloMosaic.Lib.StableHlo.Run

@[expose] public section

set_option maxRecDepth 16384

noncomputable section

namespace Cert.FfnProof

open Idealize.ShloMosaic Idealize.ShloMosaic.TcCoe Idealize.SL.Sem
open Cert.FfnIdeal Cert.FfnIdeal.Gen

variable (m : (ℓ : Loc nD τ sig) → Buf (Elt Ideal) ℓ)

theorem N_lt (t : Fin cfg0.N) : t.val < 242 := lt_of_lt_of_eq t.isLt (show cfg0.N = 242 from N_0)

/-- The windows' block numbers at each point of the 22 × 11 grid. -/
theorem index_at : ∀ t : Fin cfg0.N, win0_0.index t = ![t.val / 11, 0] ∧ win0_1.index t = ![0, 0] ∧ win0_2.index t = ![0, 0]
    ∧ win0_3.index t = ![3, 0, t.val % 11] ∧ win0_4.index t = ![3, 0, t.val % 11] ∧ win0_5.index t = ![3, t.val % 11, 0] :=
  (by decide +kernel : ∀ t : Fin grid0.N, _)

/-- The first scale as the kernel's call finds it: the argument, laid out as one row. -/
theorem pre_scale (c : Dev nD) (k : Fin 2048) :
    (V m c main_v0 : Vec Ideal S1x2048 .f32) (ix2 0 k) = (m ((c : Thread nD τ).loc main_arg1) : Vec Ideal S2048 .f32) (ix1 k) := by
  have e : (V m c main_v0 : Vec Ideal S1x2048 .f32) = shapeCast S1x2048 (m ((c : Thread nD τ).loc main_arg1) : Vec Ideal S2048 .f32) shapeCasts_S2048_S1x2048 := by
    dsimp only [V]
    after_results_simp <;> rfl
  rw [e]
  pointwise

/-- The second scale as the kernel's call finds it: one half of the argument, laid out as one row. -/
theorem post_scale (c : Dev nD) (k : Fin 2048) :
    (V m c main_v3 : Vec Ideal S1x2048 .f32) (ix2 0 k)
      = Ideal.ofBits .f32 0x3F000000#32 * (m ((c : Thread nD τ).loc main_arg2) : Vec Ideal S2048 .f32) (ix1 k) := by
  have e : (V m c main_v3 : Vec Ideal S1x2048 .f32) = (shapeCast S1x2048 (mulf (broadcastInDim S2048 ![] bcast_S_S2048 (constant S_ .f32 0x3F000000#32) : FVec Ideal S2048 .f32) (m ((c : Thread nD τ).loc main_arg2) : FVec Ideal S2048 .f32)) shapeCasts_S2048_S1x2048 : FVec Ideal S1x2048 .f32) := by
    dsimp only [V]
    after_results_simp <;> rfl
  rw [e]
  pointwise

theorem rows_block (c : Dev nD) (t : Fin cfg0.N) (a : Fin 768) (k : Fin 2048) :
    (iblk m c 0 t : Vec Ideal S768x2048 .f32) (ix2 a k)
      = (m ((c : Thread nD τ).loc main_arg0) : Vec Ideal S16896x2048 .f32) (ix2 ⟨768 * (t.val / 11) + a.val, by have := N_lt t; omega⟩ k) := by
  have hi := (index_at t).1
  unfold iblk
  rw [View.read_apply]
  show V m c main_arg0 _ = _
  rw [V_main_arg0]
  congr 1
  funext b
  apply Fin.ext
  match b with
  | ⟨0, _⟩ => show win0_0.index t 0 * 768 + 1 * a.val = _; rw [hi]; show t.val / 11 * 768 + 1 * a.val = 768 * (t.val / 11) + a.val; omega
  | ⟨1, _⟩ => show win0_0.index t 1 * 2048 + 1 * k.val = _; rw [hi]; show 0 * 2048 + 1 * k.val = k.val; omega

theorem pre_block (c : Dev nD) (t : Fin cfg0.N) (k : Fin 2048) :
    (iblk m c 1 t : Vec Ideal S1x2048 .f32) (ix2 0 k) = (m ((c : Thread nD τ).loc main_arg1) : Vec Ideal S2048 .f32) (ix1 k) := by
  have hi := (index_at t).2.1
  rw [← pre_scale m c k]
  unfold iblk
  rw [View.read_apply]
  show V m c main_v0 _ = _
  congr 1
  funext b
  apply Fin.ext
  match b with
  | ⟨0, _⟩ => show win0_1.index t 0 * 1 + 1 * 0 = _; rw [hi]; rfl
  | ⟨1, _⟩ => show win0_1.index t 1 * 2048 + 1 * k.val = _; rw [hi]; show 0 * 2048 + 1 * k.val = k.val; omega

theorem post_block (c : Dev nD) (t : Fin cfg0.N) (k : Fin 2048) :
    (iblk m c 2 t : Vec Ideal S1x2048 .f32) (ix2 0 k)
      = Ideal.ofBits .f32 0x3F000000#32 * (m ((c : Thread nD τ).loc main_arg2) : Vec Ideal S2048 .f32) (ix1 k) := by
  have hi := (index_at t).2.2.1
  rw [← post_scale m c k]
  unfold iblk
  rw [View.read_apply]
  show V m c main_v3 _ = _
  congr 1
  funext b
  apply Fin.ext
  match b with
  | ⟨0, _⟩ => show win0_2.index t 0 * 1 + 1 * 0 = _; rw [hi]; rfl
  | ⟨1, _⟩ => show win0_2.index t 1 * 2048 + 1 * k.val = _; rw [hi]; show 0 * 2048 + 1 * k.val = k.val; omega

theorem gate_block (c : Dev nD) (t : Fin cfg0.N) (l : Fin 2048) (r : Fin 512) :
    (iblk m c 3 t : Vec Ideal S1x2048x512 .bf16) (ix3 0 l r)
      = (m ((c : Thread nD τ).loc main_arg3) : Vec Ideal S4x2048x5632 .bf16) (ix3 3 l ⟨512 * (t.val % 11) + r.val, by omega⟩) := by
  have hi := (index_at t).2.2.2.1
  unfold iblk
  rw [View.read_apply]
  show V m c main_arg3 _ = _
  rw [V_main_arg3]
  congr 1
  funext b
  apply Fin.ext
  match b with
  | ⟨0, _⟩ => show win0_3.index t 0 * 1 + 1 * 0 = _; rw [hi]; rfl
  | ⟨1, _⟩ => show win0_3.index t 1 * 2048 + 1 * l.val = _; rw [hi]; show 0 * 2048 + 1 * l.val = l.val; omega
  | ⟨2, _⟩ => show win0_3.index t 2 * 512 + 1 * r.val = _; rw [hi]; show t.val % 11 * 512 + 1 * r.val = 512 * (t.val % 11) + r.val; omega

theorem up_block (c : Dev nD) (t : Fin cfg0.N) (l : Fin 2048) (r : Fin 512) :
    (iblk m c 4 t : Vec Ideal S1x2048x512 .bf16) (ix3 0 l r)
      = (m ((c : Thread nD τ).loc main_arg4) : Vec Ideal S4x2048x5632 .bf16) (ix3 3 l ⟨512 * (t.val % 11) + r.val, by omega⟩) := by
  have hi := (index_at t).2.2.2.2.1
  unfold iblk
  rw [View.read_apply]
  show V m c main_arg4 _ = _
  rw [V_main_arg4]
  congr 1
  funext b
  apply Fin.ext
  match b with
  | ⟨0, _⟩ => show win0_4.index t 0 * 1 + 1 * 0 = _; rw [hi]; rfl
  | ⟨1, _⟩ => show win0_4.index t 1 * 2048 + 1 * l.val = _; rw [hi]; show 0 * 2048 + 1 * l.val = l.val; omega
  | ⟨2, _⟩ => show win0_4.index t 2 * 512 + 1 * r.val = _; rw [hi]; show t.val % 11 * 512 + 1 * r.val = 512 * (t.val % 11) + r.val; omega

theorem down_block (c : Dev nD) (t : Fin cfg0.N) (r : Fin 512) (k : Fin 2048) :
    (iblk m c 5 t : Vec Ideal S1x512x2048 .bf16) (ix3 0 r k)
      = (m ((c : Thread nD τ).loc main_arg5) : Vec Ideal S4x5632x2048 .bf16) (ix3 3 ⟨512 * (t.val % 11) + r.val, by omega⟩ k) := by
  have hi := (index_at t).2.2.2.2.2
  unfold iblk
  rw [View.read_apply]
  show V m c main_arg5 _ = _
  rw [V_main_arg5]
  congr 1
  funext b
  apply Fin.ext
  match b with
  | ⟨0, _⟩ => show win0_5.index t 0 * 1 + 1 * 0 = _; rw [hi]; rfl
  | ⟨1, _⟩ => show win0_5.index t 1 * 512 + 1 * r.val = _; rw [hi]; show t.val % 11 * 512 + 1 * r.val = 512 * (t.val % 11) + r.val; omega
  | ⟨2, _⟩ => show win0_5.index t 2 * 2048 + 1 * k.val = _; rw [hi]; show 0 * 2048 + 1 * k.val = k.val; omega

end Cert.FfnProof

end
-- ==== Proof.Ffn.Pay.lean ====
/- The feed-forward kernel's stored values read entry by entry at the ideal instance: the normalised row, one tile's
   contribution to the down projection, the residual with the second normalisation. -/
module

public import proofs.«01_k».proof.Proof.Gen.FfnIdeal.Skeleton
public import Idealize.ShloMosaic.Lib.Pointwise

@[expose] public section

set_option maxRecDepth 16384

noncomputable section

namespace Cert.FfnProof

open Idealize.ShloMosaic Idealize.ShloMosaic.TcCoe
open Cert.FfnIdeal Cert.FfnIdeal.Gen

/-- The factor a row is multiplied by in the root-mean-square norm: one over the root of its mean square plus ε. -/
def invRms (v : Fin 2048 → EReal) : EReal :=
  Ideal.rsqrt (Ideal.div (∑ j, v j * v j) (Ideal.ofBits .f32 0x45000000#32) + Ideal.ofBits .f32 0x358637BD#32)

theorem pay1_apply (x : Vec Ideal S768x2048 .f32) (g : Vec Ideal S1x2048 .f32) (a : Fin 768) (k : Fin 2048) :
    (k0_pay1 x g : FVec Ideal S768x2048 .bf16) (ix2 a k)
      = x (ix2 a k) * invRms (fun j => x (ix2 a j)) * g (ix2 0 k) := by
  unfold_payloads
  unfold invRms
  pointwise

theorem pay2_apply (a : Fin 768) (k : Fin 2048) :
    (k0_pay2 : FVec Ideal S768x2048 .f32) (ix2 a k) = 0 := by
  unfold_payloads
  pointwise

theorem pay4_apply (x y : Vec Ideal S768x2048 .f32) (g : Vec Ideal S1x2048 .f32) (a : Fin 768) (k : Fin 2048) :
    (k0_pay4 x y g : FVec Ideal S768x2048 .f32) (ix2 a k)
      = x (ix2 a k) + y (ix2 a k) * invRms (fun j => y (ix2 a j)) * g (ix2 0 k) := by
  unfold_payloads
  unfold invRms
  pointwise

theorem pay3_apply (xn : Vec Ideal S768x2048 .bf16) (wg wu : Vec Ideal S1x2048x512 .bf16) (s : Vec Ideal S768x2048 .f32)
    (wd : Vec Ideal S1x512x2048 .bf16) (a : Fin 768) (k : Fin 2048) :
    (k0_pay3 xn wg wu s wd : FVec Ideal S768x2048 .f32) (ix2 a k)
      = s (ix2 a k) + ∑ r : Fin 512,
          ((∑ l : Fin 2048, xn (ix2 a l) * wg (ix3 0 l r)) * Ideal.logistic (∑ l : Fin 2048, xn (ix2 a l) * wg (ix3 0 l r))
            * (∑ l : Fin 2048, xn (ix2 a l) * wu (ix3 0 l r))) * wd (ix3 0 r k) := by
  unfold_payloads
  pointwise

end Cert.FfnProof

end
-- ==== Proof.Ffn.Fold.lean ====
/- The feed-forward kernel's result array, entry by entry: over each row block's eleven points the second scratch buffer
   gathers the down projection tile by tile, so that the block written at the last point holds the whole sum. -/
module

public import proofs.«01_k».proof.Proof.Ffn.Cases
public import proofs.«01_k».proof.Proof.Ffn.Blocks
public import proofs.«01_k».proof.Proof.Ffn.Pay

@[expose] public section

set_option maxRecDepth 16384

noncomputable section

namespace Cert.FfnProof

open Idealize.ShloMosaic Idealize.ShloMosaic.TcCoe Idealize.SL.Sem
open Cert.FfnIdeal Cert.FfnIdeal.Gen Cert.FfnIdeal.Value

/-- A sum taken block by block is the sum. -/
theorem sum_blocks (T : ℕ → EReal) (B J : ℕ) :
    ∑ j ∈ Finset.range J, ∑ r : Fin B, T (B * j + r.val) = ∑ n ∈ Finset.range (B * J), T n := by
  induction J with
  | zero => simp
  | succ J ih =>
    rw [Finset.sum_range_succ, ih, Nat.mul_succ, Finset.sum_range_add, Fin.sum_univ_eq_sum_range (fun r => T (B * J + r)) B]

variable (m : (ℓ : Loc nD τ sig) → Buf (Elt Ideal) ℓ) (c : Dev nD)

/-- The arguments as arrays. -/
abbrev argX : FVec Ideal S16896x2048 .f32 := m ((c : Thread nD τ).loc main_arg0)
abbrev argPre : FVec Ideal S2048 .f32 := m ((c : Thread nD τ).loc main_arg1)
abbrev argPost : FVec Ideal S2048 .f32 := m ((c : Thread nD τ).loc main_arg2)
abbrev argG : FVec Ideal S4x2048x5632 .bf16 := m ((c : Thread nD τ).loc main_arg3)
abbrev argU : FVec Ideal S4x2048x5632 .bf16 := m ((c : Thread nD τ).loc main_arg4)
abbrev argD : FVec Ideal S4x5632x2048 .bf16 := m ((c : Thread nD τ).loc main_arg5)

/-- Row `p` normalised and scaled. -/
def rowN (p : Fin 16896) (l : Fin 2048) : EReal :=
  argX m c (ix2 p l) * invRms (fun j => argX m c (ix2 p j)) * argPre m c (ix1 l)

/-- What hidden unit `q` contributes to column `k` of row `p` of the down projection. -/
def unit (p : Fin 16896) (k : Fin 2048) (q : Fin 5632) : EReal :=
  ((∑ l : Fin 2048, rowN m c p l * argG m c (ix3 3 l q)) * Ideal.logistic (∑ l : Fin 2048, rowN m c p l * argG m c (ix3 3 l q))
    * (∑ l : Fin 2048, rowN m c p l * argU m c (ix3 3 l q))) * argD m c (ix3 3 q k)

/-- The same at any natural number: zero past the last unit. -/
def unitAt (p : Fin 16896) (k : Fin 2048) (n : ℕ) : EReal := if h : n < 5632 then unit m c p k ⟨n, h⟩ else 0

/-- The row of the array that row `a` of the block of point `n` is. -/
abbrev rowOf (n : ℕ) (h : n < 242) (a : Fin 768) : Fin 16896 := ⟨768 * (n / 11) + a.val, by omega⟩

/-- One tile's contribution. -/
theorem tile_sum (t : Fin cfg0.N) (xn : Vec Ideal S768x2048 .bf16) (s : Vec Ideal S768x2048 .f32) (a : Fin 768) (k : Fin 2048)
    (hxn : ∀ l, xn (ix2 a l) = rowN m c (rowOf t.val (N_lt t) a) l) :
    (k0_pay3 xn (iblk m c 3 t) (iblk m c 4 t) s (iblk m c 5 t) : FVec Ideal S768x2048 .f32) (ix2 a k)
      = s (ix2 a k) + ∑ r : Fin 512, unitAt m c (rowOf t.val (N_lt t) a) k (512 * (t.val % 11) + r.val) := by
  rw [pay3_apply]
  congr 1
  refine Finset.sum_congr rfl fun r _ => ?_
  have hr : 512 * (t.val % 11) + r.val < 5632 := by omega
  unfold unitAt
  rw [dif_pos hr]
  unfold unit
  simp only [hxn, gate_block m c t, up_block m c t, down_block m c t]

/-- The scratch buffers after point `n`: the normalised rows, and the sum over the tiles so far. -/
theorem scratch_at : ∀ (n : ℕ) (h : n < cfg0.N) (h' : n < 242) (a : Fin 768) (k : Fin 2048),
    (outsAt0 m c n h).2.1 (ix2 a k) = rowN m c (rowOf n h' a) k
    ∧ (outsAt0 m c n h).2.2 (ix2 a k)
      = ∑ j ∈ Finset.range (n % 11 + 1), ∑ r : Fin 512, unitAt m c (rowOf n h' a) k (512 * j + r.val) := by
  have first : ∀ (n : ℕ) (h : n < cfg0.N) (h' : n < 242), n % 11 = 0 → ∀ (a : Fin 768) (k : Fin 2048) acc,
      (stAt0 m c n h acc).2.1 (ix2 a k) = rowN m c (rowOf n h' a) k
      ∧ (stAt0 m c n h acc).2.2 (ix2 a k)
        = ∑ j ∈ Finset.range (n % 11 + 1), ∑ r : Fin 512, unitAt m c (rowOf n h' a) k (512 * j + r.val) := by
    intro n h h' h0 a k acc
    have e := stAt0_A m c ⟨n, h⟩ acc h0 (by dsimp only; omega)
    have hrow : ∀ l, (k0_pay1 (iblk m c 0 ⟨n, h⟩) (iblk m c 1 ⟨n, h⟩) : FVec Ideal S768x2048 .bf16) (ix2 a l) = rowN m c (rowOf n h' a) l := by
      intro l
      rw [pay1_apply, pre_block m c ⟨n, h⟩]
      simp only [rows_block m c ⟨n, h⟩]
      rfl
    constructor
    · refine (congrFun (congrArg (fun z => z.2.1) e) (ix2 a k)).trans ?_
      dsimp only
      rw [normed_first]
      exact hrow k
    · refine (congrFun (congrArg (fun z => z.2.2) e) (ix2 a k)).trans ?_
      dsimp only
      rw [sum_first, tile_sum m c ⟨n, h⟩ _ _ a k hrow, pay2_apply, zero_add, h0]
      simp [h0]
  intro n
  induction n with
  | zero => intro h h' a k; rw [outsAt0_zero]; exact first 0 h h' rfl a k _
  | succ n ih =>
    intro h h' a k
    rw [outsAt0_succ]
    by_cases h0 : (n + 1) % 11 = 0
    · exact first (n + 1) h h' h0 a k _
    have hrow : rowOf (n + 1) h' a = rowOf n (by omega) a := by
      apply Fin.ext; show 768 * ((n + 1) / 11) + a.val = 768 * (n / 11) + a.val; omega
    have hmod : (n + 1) % 11 = n % 11 + 1 := by omega
    have prev := fun k => ih (Nat.lt_of_succ_lt h) (by omega) a k
    have hxn : ∀ l, (outsAt0 m c n (Nat.lt_of_succ_lt h)).2.1 (ix2 a l) = rowN m c (rowOf (n + 1) h' a) l := by
      intro l; rw [hrow]; exact (prev l).1
    have hsum : (k0_pay3 (outsAt0 m c n (Nat.lt_of_succ_lt h)).2.1 (iblk m c 3 ⟨n + 1, h⟩) (iblk m c 4 ⟨n + 1, h⟩) (outsAt0 m c n (Nat.lt_of_succ_lt h)).2.2 (iblk m c 5 ⟨n + 1, h⟩) : FVec Ideal S768x2048 .f32) (ix2 a k)
        = ∑ j ∈ Finset.range ((n + 1) % 11 + 1), ∑ r : Fin 512, unitAt m c (rowOf (n + 1) h' a) k (512 * j + r.val) := by
      rw [tile_sum m c ⟨n + 1, h⟩ _ _ a k hxn, (prev k).2, hmod, hrow, Finset.sum_range_succ _ (n % 11 + 1)]
    by_cases h1 : (n + 1) % 11 = 10
    · have e := stAt0_C m c ⟨n + 1, h⟩ (outsAt0 m c n (Nat.lt_of_succ_lt h)) h0 h1
      constructor
      · refine (congrFun (congrArg (fun z => z.2.1) e) (ix2 a k)).trans ?_
        exact hxn k
      · refine (congrFun (congrArg (fun z => z.2.2) e) (ix2 a k)).trans ?_
        dsimp only
        rw [sum_last]
        exact hsum
    · have e := stAt0_B m c ⟨n + 1, h⟩ (outsAt0 m c n (Nat.lt_of_succ_lt h)) h0 h1
      constructor
      · refine (congrFun (congrArg (fun z => z.2.1) e) (ix2 a k)).trans ?_
        exact hxn k
      · refine (congrFun (congrArg (fun z => z.2.2) e) (ix2 a k)).trans ?_
        dsimp only
        rw [sum_mid]
        exact hsum

/-- The down projection of row `p` at column `k`. -/
def down (p : Fin 16896) (k : Fin 2048) : EReal := ∑ q : Fin 5632, unit m c p k q

theorem down_eq (p : Fin 16896) (k : Fin 2048) :
    ∑ j ∈ Finset.range 11, ∑ r : Fin 512, unitAt m c p k (512 * j + r.val) = down m c p k := by
  rw [sum_blocks, ← Fin.sum_univ_eq_sum_range (fun n => unitAt m c p k n) (512 * 11)]
  unfold down
  refine Finset.sum_congr rfl fun q _ => ?_
  unfold unitAt
  rw [dif_pos q.isLt]

/-- The block written at the last point of a row block. -/
theorem written (n : ℕ) (h : n + 1 < cfg0.N) (h' : n + 1 < 242) (h1 : (n + 1) % 11 = 10) (a : Fin 768) (k : Fin 2048) :
    (outsAt0 m c (n + 1) h).1 (ix2 a k)
      = argX m c (ix2 (rowOf (n + 1) h' a) k) + down m c (rowOf (n + 1) h' a) k
          * invRms (fun j => down m c (rowOf (n + 1) h' a) j) * (Ideal.ofBits .f32 0x3F000000#32 * argPost m c (ix1 k)) := by
  have e := stAt0_C m c ⟨n + 1, h⟩ (outsAt0 m c n (Nat.lt_of_succ_lt h)) (by dsimp only; omega) h1
  have hs : ∀ j, (k0_pay3 (outsAt0 m c n (Nat.lt_of_succ_lt h)).2.1 (iblk m c 3 ⟨n + 1, h⟩) (iblk m c 4 ⟨n + 1, h⟩) (outsAt0 m c n (Nat.lt_of_succ_lt h)).2.2 (iblk m c 5 ⟨n + 1, h⟩) : FVec Ideal S768x2048 .f32) (ix2 a j)
      = down m c (rowOf (n + 1) h' a) j := by
    intro j
    have s := (scratch_at m c (n + 1) h h' a j).2
    rw [outsAt0_succ] at s
    rw [h1, down_eq] at s
    rw [← s]
    refine Eq.trans ?_ (congrFun (congrArg (fun z => z.2.2) e) (ix2 a j)).symm
    dsimp only
    rw [sum_last]
  rw [outsAt0_succ]
  refine (congrFun (congrArg (fun z => z.1) e) (ix2 a k)).trans ?_
  dsimp only
  rw [out_last, pay4_apply, post_block m c ⟨n + 1, h⟩, rows_block m c ⟨n + 1, h⟩]
  simp only [hs]

/-- The result array at row `p`, column `k`. -/
theorem result_apply (p : Fin 16896) (k : Fin 2048) :
    (G6 m c : FVec Ideal S16896x2048 .f32) (ix2 p k)
      = argX m c (ix2 p k) + down m c p k * invRms (fun j => down m c p j) * (Ideal.ofBits .f32 0x3F000000#32 * argPost m c (ix1 k)) := by
  have hp := p.isLt
  have hk := k.isLt
  have hpt : pt6Of (ix2 p k) = (11 * (p.val / 768) + 9) + 1 := by
    show 11 * (1 * (p.val / 768 - 0) + 1 * (k.val / 2048 - 0)) + 10 = _
    omega
  have hN : cfg0.N = 242 := N_0
  have hlt : pt6Of (ix2 p k) < cfg0.N := by rw [hpt, hN]; omega
  unfold G6
  rw [dif_pos hlt, ← outsAt0_sweep m c _ hlt]
  have hl : loc6Of (ix2 p k) = ix2 (⟨p.val % 768, Nat.mod_lt _ (by decide)⟩ : Fin 768) k := by
    funext b
    match b with
    | ⟨0, _⟩ => rfl
    | ⟨1, _⟩ => apply Fin.ext; show k.val % 2048 = k.val; omega
  rw [hl]
  have hr : ∀ h', rowOf ((11 * (p.val / 768) + 9) + 1) h' (⟨p.val % 768, Nat.mod_lt _ (by decide)⟩ : Fin 768) = p := by
    intro h'
    apply Fin.ext
    show 768 * (((11 * (p.val / 768) + 9) + 1) / 11) + p.val % 768 = p.val
    omega
  have w := written m c (11 * (p.val / 768) + 9) (by rw [hN]; omega) (by omega) (by omega) ⟨p.val % 768, Nat.mod_lt _ (by decide)⟩ k
  simp only [hr] at w
  rw [← w]
  congr 2
  simp only [hpt]

end Cert.FfnProof

end
-- ==== Proof.Ffn.Reference.lean ====
/- The feed-forward reference read entry by entry at the ideal instance: normalise, two products, the gated
   activation, the third product, normalise again, half of it added to the rows. -/
module

public import proofs.«01_k».proof.Proof.Gen.FfnReferenceIdeal.Run
public import proofs.«01_k».proof.Proof.Ffn.Pay

@[expose] public section

set_option maxRecDepth 16384

noncomputable section

namespace Cert.FfnProof.Ref

open Idealize.ShloMosaic Idealize.ShloMosaic.TcCoe
open Cert.FfnReferenceIdeal Cert.FfnReferenceIdeal.Gen

/-- The root-mean-square norm of every row, scaled. -/
def normed (y : FVec Ideal S16896x2048 .f32) (g : FVec Ideal S2048 .f32) : FVec Ideal S16896x2048 .f32 :=
  mulf (mulf y (broadcastInDim S16896x2048 ![0, 1] bcast_S16896x1_S16896x2048_0_1 (Host.rsqrt (addf (Host.divf
      (broadcastInDim S16896x1 ![0] bcast_S16896_S16896x1_0 (Host.reduceAdd (mulf y y) (constant S_ .f32 0x00000000#32) reducesTo_S16896x2048_S16896_d1 h_S_))
      (broadcastInDim S16896x1 ![] bcast_S_S16896x1 (constant S_ .f32 0x45000000#32)))
    (broadcastInDim S16896x1 ![] bcast_S_S16896x1 (constant S_ .f32 0x358637BD#32))))))
    (broadcastInDim S16896x2048 ![0, 1] bcast_S1x2048_S16896x2048_0_1 (broadcastInDim S1x2048 ![1] bcast_S2048_S1x2048_1 g))

/-- The rows times the last layer's 2048 × 5632 weights. -/
def widen (y : FVec Ideal S16896x2048 .f32) (w : FVec Ideal S4x2048x5632 .bf16) : FVec Ideal S16896x5632 .f32 :=
  Host.dotGeneral dot_S16896x2048_S2048x5632_S16896x5632_1_0_0_1_n_n none y
    (extf .f32 (shapeCast _ (extractStridedSlice S1x2048x5632 ![3, 0, 0] w slices_S4x2048x5632_S1x2048x5632_3_0_0) shapeCasts_S1x2048x5632_S2048x5632) bitsLt_bf16_f32)

/-- The gated activation a·σ(a)·b. -/
def gated (a b : FVec Ideal S16896x5632 .f32) : FVec Ideal S16896x5632 .f32 :=
  mulf (mulf a (Host.divf (broadcastInDim S16896x5632 ![] bcast_S_S16896x5632 (constant S_ .f32 0x3F800000#32))
    (addf (broadcastInDim S16896x5632 ![] bcast_S_S16896x5632 (constant S_ .f32 0x3F800000#32)) (Host.exp (Host.negf a))))) b

/-- The hidden rows times the last layer's 5632 × 2048 weights. -/
def narrow (h : FVec Ideal S16896x5632 .f32) (w : FVec Ideal S4x5632x2048 .bf16) : FVec Ideal S16896x2048 .f32 :=
  Host.dotGeneral dot_S16896x5632_S5632x2048_S16896x2048_1_0_0_1_n_n none h
    (extf .f32 (shapeCast _ (extractStridedSlice S1x5632x2048 ![3, 0, 0] w slices_S4x5632x2048_S1x5632x2048_3_0_0) shapeCasts_S1x5632x2048_S5632x2048) bitsLt_bf16_f32)

theorem normed_apply (y : FVec Ideal S16896x2048 .f32) (g : FVec Ideal S2048 .f32) (p : Fin 16896) (k : Fin 2048) :
    normed y g (ix2 p k) = y (ix2 p k) * invRms (fun j => y (ix2 p j)) * g (ix1 k) := by
  unfold normed invRms
  pointwise

theorem widen_apply (y : FVec Ideal S16896x2048 .f32) (w : FVec Ideal S4x2048x5632 .bf16) (p : Fin 16896) (q : Fin 5632) :
    widen y w (ix2 p q) = ∑ l : Fin 2048, y (ix2 p l) * w (ix3 3 l q) := by
  unfold widen
  pointwise

theorem gated_apply (a b : FVec Ideal S16896x5632 .f32) (p : Fin 16896) (q : Fin 5632) :
    gated a b (ix2 p q) = a (ix2 p q) * Ideal.logistic (a (ix2 p q)) * b (ix2 p q) := by
  unfold gated
  pointwise
  rfl

theorem narrow_apply (h : FVec Ideal S16896x5632 .f32) (w : FVec Ideal S4x5632x2048 .bf16) (p : Fin 16896) (k : Fin 2048) :
    narrow h w (ix2 p k) = ∑ q : Fin 5632, h (ix2 p q) * w (ix3 3 q k) := by
  unfold narrow
  pointwise

/-- The rows of the down projection, from the arguments. -/
def inner (x : FVec Ideal S16896x2048 .f32) (g : FVec Ideal S2048 .f32) (wg wu : FVec Ideal S4x2048x5632 .bf16)
    (wd : FVec Ideal S4x5632x2048 .bf16) : FVec Ideal S16896x2048 .f32 :=
  narrow (gated (widen (normed x g) wg) (widen (normed x g) wu)) wd

theorem result_eq (m : (ℓ : Loc nD τ sig) → Buf (Elt Ideal) ℓ) (c : Dev nD) :
    (Cert.FfnReferenceIdeal.Value.res_main_v42 m c : FVec Ideal S16896x2048 .f32)
      = addf (m ((c.tc : Thread nD τ).loc main_arg0)) (mulf (broadcastInDim S16896x2048 ![] bcast_S_S16896x2048 (constant S_ .f32 0x3F000000#32))
          (normed (inner (m ((c.tc : Thread nD τ).loc main_arg0)) (m ((c.tc : Thread nD τ).loc main_arg1)) (m ((c.tc : Thread nD τ).loc main_arg3))
            (m ((c.tc : Thread nD τ).loc main_arg4)) (m ((c.tc : Thread nD τ).loc main_arg5))) (m ((c.tc : Thread nD τ).loc main_arg2)))) := by
  unfold Cert.FfnReferenceIdeal.Value.res_main_v42 inner narrow gated widen normed
  rfl

/-- The reference's result at row `p`, column `k`. -/
theorem result_apply (m : (ℓ : Loc nD τ sig) → Buf (Elt Ideal) ℓ) (c : Dev nD) (x : FVec Ideal S16896x2048 .f32) (g₁ g₂ : FVec Ideal S2048 .f32)
    (wg wu : FVec Ideal S4x2048x5632 .bf16) (wd : FVec Ideal S4x5632x2048 .bf16)
    (hx : m ((c.tc : Thread nD τ).loc main_arg0) = x) (h₁ : m ((c.tc : Thread nD τ).loc main_arg1) = g₁) (h₂ : m ((c.tc : Thread nD τ).loc main_arg2) = g₂)
    (hg : m ((c.tc : Thread nD τ).loc main_arg3) = wg) (hu : m ((c.tc : Thread nD τ).loc main_arg4) = wu) (hd : m ((c.tc : Thread nD τ).loc main_arg5) = wd)
    (p : Fin 16896) (k : Fin 2048) :
    (Cert.FfnReferenceIdeal.Value.res_main_v42 m c : FVec Ideal S16896x2048 .f32) (ix2 p k)
      = x (ix2 p k) + Ideal.ofBits .f32 0x3F000000#32 *
          (inner x g₁ wg wu wd (ix2 p k) * invRms (fun j => inner x g₁ wg wu wd (ix2 p j)) * g₂ (ix1 k)) := by
  rw [result_eq, hx, h₁, h₂, hg, hu, hd, ← normed_apply]
  pointwise
  try rfl

theorem inner_apply (x : FVec Ideal S16896x2048 .f32) (g : FVec Ideal S2048 .f32) (wg wu : FVec Ideal S4x2048x5632 .bf16)
    (wd : FVec Ideal S4x5632x2048 .bf16) (p : Fin 16896) (k : Fin 2048) :
    inner x g wg wu wd (ix2 p k) = ∑ q : Fin 5632,
      ((∑ l : Fin 2048, x (ix2 p l) * invRms (fun j => x (ix2 p j)) * g (ix1 l) * wg (ix3 3 l q))
        * Ideal.logistic (∑ l : Fin 2048, x (ix2 p l) * invRms (fun j => x (ix2 p j)) * g (ix1 l) * wg (ix3 3 l q))
        * (∑ l : Fin 2048, x (ix2 p l) * invRms (fun j => x (ix2 p j)) * g (ix1 l) * wu (ix3 3 l q))) * wd (ix3 3 q k) := by
  unfold inner
  rw [narrow_apply]
  simp only [gated_apply, widen_apply, normed_apply]

end Cert.FfnProof.Ref

end
-- ==== Proof.Ffn.Algebraic.lean ====
/- The feed-forward kernel and its reference compute one function over the extended reals: from memories that agree on
   the arguments, equal results. -/
module

public import proofs.«01_k».proof.Proof.Ffn.Fold
public import proofs.«01_k».proof.Proof.Ffn.Reference
public import proofs.«01_k».proof.Defs
public import Idealize.ShloMosaic.Lib.Claim
public import Idealize.ShloMosaic.Lib.Quiescent

@[expose] public section

set_option maxRecDepth 16384

noncomputable section

namespace Cert.FfnProof

open Idealize.ShloMosaic Idealize.ShloMosaic.TcCoe Idealize.SL.Sem

/-- The two result arrays are equal where the arguments are. -/
theorem results_eq (m : (ℓ : Loc Cert.FfnIdeal.nD Cert.FfnIdeal.τ Cert.FfnIdeal.sig) → Buf (Elt Ideal) ℓ)
    (m' : (ℓ : Loc Cert.FfnReferenceIdeal.nD Cert.FfnReferenceIdeal.τ Cert.FfnReferenceIdeal.sig) → Buf (Elt Ideal) ℓ)
    (c : Dev Cert.FfnIdeal.nD) (c' : Dev Cert.FfnReferenceIdeal.nD)
    (h0 : m' ((c'.tc : Thread _ _).loc Cert.FfnReferenceIdeal.main_arg0) = argX m c)
    (h1 : m' ((c'.tc : Thread _ _).loc Cert.FfnReferenceIdeal.main_arg1) = argPre m c)
    (h2 : m' ((c'.tc : Thread _ _).loc Cert.FfnReferenceIdeal.main_arg2) = argPost m c)
    (h3 : m' ((c'.tc : Thread _ _).loc Cert.FfnReferenceIdeal.main_arg3) = argG m c)
    (h4 : m' ((c'.tc : Thread _ _).loc Cert.FfnReferenceIdeal.main_arg4) = argU m c)
    (h5 : m' ((c'.tc : Thread _ _).loc Cert.FfnReferenceIdeal.main_arg5) = argD m c) :
    (Cert.FfnReferenceIdeal.Value.res_main_v42 m' c' : FVec Ideal Cert.FfnIdeal.S16896x2048 .f32) = Cert.FfnIdeal.Value.G6 m c := by
  funext i
  obtain ⟨p, k, rfl⟩ : ∃ (p : Fin 16896) (k : Fin 2048), i = ix2 p k := ⟨i 0, i 1, by funext b; match b with | ⟨0, _⟩ => rfl | ⟨1, _⟩ => rfl⟩
  have hd : ∀ j, Ref.inner (argX m c) (argPre m c) (argG m c) (argU m c) (argD m c) (ix2 p j) = down m c p j := fun j =>
    Ref.inner_apply _ _ _ _ _ p j
  refine (Ref.result_apply m' c' _ _ _ _ _ _ h0 h1 h2 h3 h4 h5 p k).trans ?_
  rw [result_apply m c p k]
  simp only [hd]
  congr 1
  rw [← mul_assoc, mul_comm (Ideal.ofBits .f32 0x3F000000#32), mul_assoc]

/-- The kernel's run and the reference's run end with one result array, the arguments unchanged. -/
theorem algebraic : @Cert.algebraic_FfnIdeal_FfnReferenceIdeal Cert.FfnIdeal.Gen.facts Cert.FfnReferenceIdeal.Gen.facts := by
  intro m g m' g' _ h
  refine ⟨fun c => Cert.FfnIdeal.Value.G6 m c, Cert.FfnIdeal.Value.run m g, ?_⟩
  refine (θ_run _ _ _).mono (fun r hr c => ⟨(hr c).1.trans ?_, (hr c).2⟩) (Cert.FfnReferenceIdeal.Value.run m' g')
  exact results_eq m m' c c (h c).1 (h c).2.1 (h c).2.2.1 (h c).2.2.2.1 (h c).2.2.2.2.1 (h c).2.2.2.2.2

/-- The reference's run ends with every semaphore counter at zero and the arguments unchanged. -/
theorem reference_frame : @Cert.quiescent_FfnReferenceIdeal Cert.FfnReferenceIdeal.Gen.facts := fun m g _ =>
  (θ_run _ _ _).mono (fun r h => ⟨fun c => (h c).2, sem_eq_zero_of_no_sems (by decide) r.2⟩) (Cert.FfnReferenceIdeal.Value.run m g)

end Cert.FfnProof

end
-- ==== Proof.OutProj.Kernel.lean ====
/- The output projection's kernel read entry by entry at the ideal instance: the two normed streams, their products with the
   two halves of the weights, the norm of the sum added to the rows. -/
module

public import proofs.«01_k».proof.Proof.Gen.OutProjIdeal.Value
public import Idealize.ShloMosaic.Lib.Pipeline.Value
public import Idealize.ShloMosaic.Lib.Pointwise
public import Idealize.ShloMosaic.Lib.StableHlo.Run

@[expose] public section

set_option maxRecDepth 16384

noncomputable section

namespace Cert.OutProof

open Idealize.ShloMosaic Idealize.ShloMosaic.TcCoe Idealize.SL.Sem
open Cert.OutProjIdeal Cert.OutProjIdeal.Gen

/-! ## The stored values -/

/-- The factor a row is multiplied by in the root-mean-square norm: one over the root of its mean square plus ε; `w` is the
    row's length as a float word. -/
def invRms {n : ℕ} (w : BitVec 32) (v : Fin n → EReal) : EReal :=
  Ideal.rsqrt (Ideal.div (∑ j, v j * v j) (Ideal.ofBits .f32 w) + Ideal.ofBits .f32 0x358637BD#32)

/-- A normed and scaled row of 1024. -/
def unitRow (v g : Fin 1024 → EReal) (l : Fin 1024) : EReal := v l * invRms 0x44800000#32 v * g l

/-- Column `k` of the two streams' product with the weights. -/
def mixed (a s ga gs : Fin 1024 → EReal) (wa ws : Fin 1024 → Fin 2048 → EReal) (k : Fin 2048) : EReal :=
  (∑ l, unitRow a ga l * wa l k) + ∑ l, unitRow s gs l * ws l k

theorem pay2_apply (x : Vec Ideal S768x1024 .f32) (g : Vec Ideal S1x1024 .f32) (a : Fin 768) (l : Fin 1024) :
    (k0_pay2 x g : FVec Ideal S768x1024 .bf16) (ix2 a l) = unitRow (fun j => x (ix2 a j)) (fun j => g (ix2 0 j)) l := by
  unfold_payloads
  unfold unitRow invRms
  pointwise

theorem pay3_apply (x : Vec Ideal S768x1024 .f32) (g : Vec Ideal S1x1024 .f32) (w : Vec Ideal S1x1024x2048 .bf16) (a : Fin 768) (k : Fin 2048) :
    (k0_pay3 x g w : FVec Ideal S768x2048 .f32) (ix2 a k)
      = ∑ l : Fin 1024, unitRow (fun j => x (ix2 a j)) (fun j => g (ix2 0 j)) l * w (ix3 0 l k) := by
  unfold_payloads
  unfold unitRow invRms
  pointwise

theorem pay4_apply (w : Vec Ideal S1x1024x2048 .bf16) (l : Fin 1024) (k : Fin 2048) :
    (k0_pay4 w : FVec Ideal S1024x2048 .bf16) (ix2 l k) = w (ix3 0 l k) := by
  unfold_payloads
  pointwise

theorem pay1_apply (s : FVec Ideal S768x1024 .bf16) (p : FVec Ideal S768x2048 .f32) (w : FVec Ideal S1024x2048 .bf16)
    (x : Vec Ideal S768x2048 .f32) (g : Vec Ideal S1x2048 .f32) (a : Fin 768) (k : Fin 2048) :
    (k0_pay1 s p w (constant S768x2048 .f32 0x00000000#32) x g : FVec Ideal S768x2048 .f32) (ix2 a k)
      = x (ix2 a k) + (p (ix2 a k) + ∑ l : Fin 1024, s (ix2 a l) * w (ix2 l k))
          * invRms 0x45000000#32 (fun j : Fin 2048 => p (ix2 a j) + ∑ l : Fin 1024, s (ix2 a l) * w (ix2 l j)) * g (ix2 0 k) := by
  unfold_payloads
  unfold invRms
  pointwise

theorem off_zero : (![0, 0] : Fin 2 → Nat) = fun _ => 0 := funext fun a => by fin_cases a <;> rfl

theorem off_zero3 : (![0, 0, 0] : Fin 3 → Nat) = fun _ => 0 := funext fun a => by fin_cases a <;> rfl

/-- The block a point writes. -/
theorem out_apply (x0 : Vec Ideal S768x2048 .f32) (x1 x2 : Vec Ideal S768x1024 .f32) (x3 x4 : Vec Ideal S1x1024 .f32) (x5 : Vec Ideal S1x2048 .f32)
    (x6 x7 : Vec Ideal S1x1024x2048 .bf16) (a : Fin 768) (k : Fin 2048) :
    (out0_8 x0 x1 x2 x3 x4 x5 x6 x7 : FVec Ideal S768x2048 .f32) (ix2 a k)
      = x0 (ix2 a k) + mixed (fun j => x1 (ix2 a j)) (fun j => x2 (ix2 a j)) (fun j => x3 (ix2 0 j)) (fun j => x4 (ix2 0 j))
            (fun l j => x6 (ix3 0 l j)) (fun l j => x7 (ix3 0 l j)) k
          * invRms 0x45000000#32 (mixed (fun j => x1 (ix2 a j)) (fun j => x2 (ix2 a j)) (fun j => x3 (ix2 0 j)) (fun j => x4 (ix2 0 j))
            (fun l j => x6 (ix3 0 l j)) (fun l j => x7 (ix3 0 l j))) * x5 (ix2 0 k) := by
  have e : out0_8 x0 x1 x2 x3 x4 x5 x6 x7
      = k0_pay1 (k0_pay2 x2 x4) (k0_pay3 x1 x3 x6) (k0_pay4 x7) (constant S768x2048 .f32 0x00000000#32) x0 x5 := by
    unfold out0_8 r0_0 r0_1 r0_2 r0_3 r0_4
    rw [View.canon_unit_zero off_zero]
    simp only [View.ld_unit_zero (S := S768x1024) off_zero, View.ld_unit_zero (S := S1x1024) off_zero, View.ld_unit_zero (S := S768x2048) off_zero,
      View.ld_unit_zero (S := S1x2048) off_zero, View.ld_unit_zero (S := S1x1024x2048) off_zero3]
  rw [e, pay1_apply]
  simp only [pay2_apply, pay3_apply, pay4_apply]
  rfl

/-! ## The input blocks -/

variable (m : (ℓ : Loc nD τ sig) → Buf (Elt Ideal) ℓ) (ρ : Dev nD → PrngReg)

theorem N_lt (t : Fin cfg0.N) : t.val < 22 := lt_of_lt_of_eq t.isLt (show cfg0.N = 22 from N_0)

/-- The windows' block numbers at each of the 22 points. -/
theorem index_at : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![3, 0, 0]
    ∧ win0_7.index t = ![3, 1, 0] ∧ win0_8.index t = ![t.val, 0] :=
  (by decide +kernel : ∀ t : Fin grid0.N, _)

/-- The arguments as arrays. -/
abbrev argX (c : Dev nD) : FVec Ideal S16896x2048 .f32 := m ((c : Thread nD τ).loc main_arg0)
abbrev argA (c : Dev nD) : FVec Ideal S16896x1024 .f32 := m ((c : Thread nD τ).loc main_arg1)
abbrev argS (c : Dev nD) : FVec Ideal S16896x1024 .f32 := m ((c : Thread nD τ).loc main_arg2)
abbrev argGa (c : Dev nD) : FVec Ideal S1024 .f32 := m ((c : Thread nD τ).loc main_arg3)
abbrev argGs (c : Dev nD) : FVec Ideal S1024 .f32 := m ((c : Thread nD τ).loc main_arg4)
abbrev argGp (c : Dev nD) : FVec Ideal S2048 .f32 := m ((c : Thread nD τ).loc main_arg5)
abbrev argW (c : Dev nD) : FVec Ideal S4x2048x2048 .bf16 := m ((c : Thread nD τ).loc main_arg6)

theorem attn_scale (c : Dev nD) (k : Fin 1024) : (V m c main_v0 : Vec Ideal S1x1024 .f32) (ix2 0 k) = argGa m c (ix1 k) := by
  have e : (V m c main_v0 : Vec Ideal S1x1024 .f32) = shapeCast S1x1024 (argGa m c) shapeCasts_S1024_S1x1024 := by
    dsimp only [V]
    after_results_simp <;> rfl
  rw [e]
  pointwise

theorem ssm_scale (c : Dev nD) (k : Fin 1024) : (V m c main_v1 : Vec Ideal S1x1024 .f32) (ix2 0 k) = argGs m c (ix1 k) := by
  have e : (V m c main_v1 : Vec Ideal S1x1024 .f32) = shapeCast S1x1024 (argGs m c) shapeCasts_S1024_S1x1024 := by
    dsimp only [V]
    after_results_simp <;> rfl
  rw [e]
  pointwise

theorem post_scale (c : Dev nD) (k : Fin 2048) : (V m c main_v2 : Vec Ideal S1x2048 .f32) (ix2 0 k) = argGp m c (ix1 k) := by
  have e : (V m c main_v2 : Vec Ideal S1x2048 .f32) = shapeCast S1x2048 (argGp m c) shapeCasts_S2048_S1x2048 := by
    dsimp only [V]
    after_results_simp <;> rfl
  rw [e]
  pointwise

theorem rows_block (c : Dev nD) (t : Fin cfg0.N) (a : Fin 768) (k : Fin 2048) :
    (iblk m c 0 t : Vec Ideal S768x2048 .f32) (ix2 a k) = argX m c (ix2 ⟨768 * t.val + a.val, by have := N_lt t; omega⟩ k) := by
  have hi := (index_at t).1
  unfold iblk
  rw [View.read_apply]
  show V m c main_arg0 _ = _
  rw [V_main_arg0]
  congr 1
  funext b
  apply Fin.ext
  match b with
  | ⟨0, _⟩ => show win0_0.index t 0 * 768 + 1 * a.val = _; rw [hi]; show t.val * 768 + 1 * a.val = 768 * t.val + a.val; omega
  | ⟨1, _⟩ => show win0_0.index t 1 * 2048 + 1 * k.val = _; rw [hi]; show 0 * 2048 + 1 * k.val = k.val; omega

theorem attn_block (c : Dev nD) (t : Fin cfg0.N) (a : Fin 768) (k : Fin 1024) :
    (iblk m c 1 t : Vec Ideal S768x1024 .f32) (ix2 a k) = argA m c (ix2 ⟨768 * t.val + a.val, by have := N_lt t; omega⟩ k) := by
  have hi := (index_at t).2.1
  unfold iblk
  rw [View.read_apply]
  show V m c main_arg1 _ = _
  rw [V_main_arg1]
  congr 1
  funext b
  apply Fin.ext
  match b with
  | ⟨0, _⟩ => show win0_1.index t 0 * 768 + 1 * a.val = _; rw [hi]; show t.val * 768 + 1 * a.val = 768 * t.val + a.val; omega
  | ⟨1, _⟩ => show win0_1.index t 1 * 1024 + 1 * k.val = _; rw [hi]; show 0 * 1024 + 1 * k.val = k.val; omega

theorem ssm_block (c : Dev nD) (t : Fin cfg0.N) (a : Fin 768) (k : Fin 1024) :
    (iblk m c 2 t : Vec Ideal S768x1024 .f32) (ix2 a k) = argS m c (ix2 ⟨768 * t.val + a.val, by have := N_lt t; omega⟩ k) := by
  have hi := (index_at t).2.2.1
  unfold iblk
  rw [View.read_apply]
  show V m c main_arg2 _ = _
  rw [V_main_arg2]
  congr 1
  funext b
  apply Fin.ext
  match b with
  | ⟨0, _⟩ => show win0_2.index t 0 * 768 + 1 * a.val = _; rw [hi]; show t.val * 768 + 1 * a.val = 768 * t.val + a.val; omega
  | ⟨1, _⟩ => show win0_2.index t 1 * 1024 + 1 * k.val = _; rw [hi]; show 0 * 1024 + 1 * k.val = k.val; omega

theorem attn_scale_block (c : Dev nD) (t : Fin cfg0.N) (k : Fin 1024) :
    (iblk m c 3 t : Vec Ideal S1x1024 .f32) (ix2 0 k) = argGa m c (ix1 k) := by
  have hi := (index_at t).2.2.2.1
  rw [← attn_scale m c k]
  unfold iblk
  rw [View.read_apply]
  show V m c main_v0 _ = _
  congr 1
  funext b
  apply Fin.ext
  match b with
  | ⟨0, _⟩ => show win0_3.index t 0 * 1 + 1 * 0 = _; rw [hi]; rfl
  | ⟨1, _⟩ => show win0_3.index t 1 * 1024 + 1 * k.val = _; rw [hi]; show 0 * 1024 + 1 * k.val = k.val; omega

theorem ssm_scale_block (c : Dev nD) (t : Fin cfg0.N) (k : Fin 1024) :
    (iblk m c 4 t : Vec Ideal S1x1024 .f32) (ix2 0 k) = argGs m c (ix1 k) := by
  have hi := (index_at t).2.2.2.2.1
  rw [← ssm_scale m c k]
  unfold iblk
  rw [View.read_apply]
  show V m c main_v1 _ = _
  congr 1
  funext b
  apply Fin.ext
  match b with
  | ⟨0, _⟩ => show win0_4.index t 0 * 1 + 1 * 0 = _; rw [hi]; rfl
  | ⟨1, _⟩ => show win0_4.index t 1 * 1024 + 1 * k.val = _; rw [hi]; show 0 * 1024 + 1 * k.val = k.val; omega

theorem post_scale_block (c : Dev nD) (t : Fin cfg0.N) (k : Fin 2048) :
    (iblk m c 5 t : Vec Ideal S1x2048 .f32) (ix2 0 k) = argGp m c (ix1 k) := by
  have hi := (index_at t).2.2.2.2.2.1
  rw [← post_scale m c k]
  unfold iblk
  rw [View.read_apply]
  show V m c main_v2 _ = _
  congr 1
  funext b
  apply Fin.ext
  match b with
  | ⟨0, _⟩ => show win0_5.index t 0 * 1 + 1 * 0 = _; rw [hi]; rfl
  | ⟨1, _⟩ => show win0_5.index t 1 * 2048 + 1 * k.val = _; rw [hi]; show 0 * 2048 + 1 * k.val = k.val; omega

theorem upper_block (c : Dev nD) (t : Fin cfg0.N) (l : Fin 1024) (k : Fin 2048) :
    (iblk m c 6 t : Vec Ideal S1x1024x2048 .bf16) (ix3 0 l k) = argW m c (ix3 3 ⟨l.val, by omega⟩ k) := by
  have hi := (index_at t).2.2.2.2.2.2.1
  unfold iblk
  rw [View.read_apply]
  show V m c main_arg6 _ = _
  rw [V_main_arg6]
  congr 1
  funext b
  apply Fin.ext
  match b with
  | ⟨0, _⟩ => show win0_6.index t 0 * 1 + 1 * 0 = _; rw [hi]; rfl
  | ⟨1, _⟩ => show win0_6.index t 1 * 1024 + 1 * l.val = _; rw [hi]; show 0 * 1024 + 1 * l.val = l.val; omega
  | ⟨2, _⟩ => show win0_6.index t 2 * 2048 + 1 * k.val = _; rw [hi]; show 0 * 2048 + 1 * k.val = k.val; omega

theorem lower_block (c : Dev nD) (t : Fin cfg0.N) (l : Fin 1024) (k : Fin 2048) :
    (iblk m c 7 t : Vec Ideal S1x1024x2048 .bf16) (ix3 0 l k) = argW m c (ix3 3 ⟨1024 + l.val, by omega⟩ k) := by
  have hi := (index_at t).2.2.2.2.2.2.2.1
  unfold iblk
  rw [View.read_apply]
  show V m c main_arg6 _ = _
  rw [V_main_arg6]
  congr 1
  funext b
  apply Fin.ext
  match b with
  | ⟨0, _⟩ => show win0_7.index t 0 * 1 + 1 * 0 = _; rw [hi]; rfl
  | ⟨1, _⟩ => show win0_7.index t 1 * 1024 + 1 * l.val = _; rw [hi]; show 1 * 1024 + 1 * l.val = 1024 + l.val; omega
  | ⟨2, _⟩ => show win0_7.index t 2 * 2048 + 1 * k.val = _; rw [hi]; show 0 * 2048 + 1 * k.val = k.val; omega

/-! ## The output array -/

/-- Row `p` of the two streams' product with the last layer's weights. -/
def mixedRow (xa xs : FVec Ideal S16896x1024 .f32) (ga gs : FVec Ideal S1024 .f32) (w : FVec Ideal S4x2048x2048 .bf16) (p : Fin 16896) :
    Fin 2048 → EReal :=
  mixed (fun j => xa (ix2 p j)) (fun j => xs (ix2 p j)) (fun j => ga (ix1 j)) (fun j => gs (ix1 j))
    (fun l j => w (ix3 3 ⟨l.val, by omega⟩ j)) (fun l j => w (ix3 3 ⟨1024 + l.val, by omega⟩ j))

/-- The result array once every point has written its block. -/
def result (c : Dev nD) : FVec Ideal S16896x2048 .f32 := (dats m 0 c).arrAt 8 cfg0.N

theorem flush_all : ∀ t : Fin cfg0.N, (cfg0.win 8).flush t = true :=
  (by decide +kernel : ∀ t : Fin grid0.N, win0_8.flush t = true)

theorem result_block (c : Dev nD) (t : Fin cfg0.N) (a : Fin 768) (k : Fin 2048) :
    result m c (ix2 ⟨768 * t.val + a.val, by have := N_lt t; omega⟩ k)
      = out0_8 (iblk m c 0 t) (iblk m c 1 t) (iblk m c 2 t) (iblk m c 3 t) (iblk m c 4 t) (iblk m c 5 t) (iblk m c 6 t) (iblk m c 7 t) (ix2 a k) := by
  have hi := (index_at t).2.2.2.2.2.2.2.2
  have e := congrFun (Cert.OutProjIdeal.Value.blocks8 m c t (flush_all t)) (ix2 a k)
  rw [View.read_apply] at e
  refine Eq.trans ?_ (e.trans ?_)
  · unfold result
    show (dats m 0 c).arrAt 8 cfg0.N _ = (dats m 0 c).arrAt 8 cfg0.N _
    congr 1
    funext b
    apply Fin.ext
    match b with
    | ⟨0, _⟩ => show _ = win0_8.index t 0 * 768 + 1 * a.val; rw [hi]; show 768 * t.val + a.val = t.val * 768 + 1 * a.val; omega
    | ⟨1, _⟩ => show _ = win0_8.index t 1 * 2048 + 1 * k.val; rw [hi]; show k.val = 0 * 2048 + 1 * k.val; omega
  · show (dats m 0 c).after 8 t _ = _
    rw [after0_8]
    rfl

/-- The result at row `p`, column `k`. -/
theorem result_apply (c : Dev nD) (p : Fin 16896) (k : Fin 2048) :
    result m c (ix2 p k) = argX m c (ix2 p k) + mixedRow (argA m c) (argS m c) (argGa m c) (argGs m c) (argW m c) p k
      * invRms 0x45000000#32 (mixedRow (argA m c) (argS m c) (argGa m c) (argGs m c) (argW m c) p) * argGp m c (ix1 k) := by
  have hN : cfg0.N = 22 := N_0
  have ep : p = ⟨768 * (⟨p.val / 768, by omega⟩ : Fin cfg0.N).val + (⟨p.val % 768, by omega⟩ : Fin 768).val, by dsimp only; omega⟩ :=
    Fin.ext (show p.val = 768 * (p.val / 768) + p.val % 768 by omega)
  have e := result_block m c ⟨p.val / 768, by omega⟩ ⟨p.val % 768, by omega⟩ k
  rw [out_apply] at e
  simp only [rows_block, attn_block, ssm_block, attn_scale_block, ssm_scale_block, post_scale_block, upper_block, lower_block] at e
  rw [← ep] at e
  exact e

end Cert.OutProof

end
-- ==== Proof.OutProj.Reference.lean ====
/- The output projection's reference read entry by entry at the ideal instance. -/
module

public import proofs.«01_k».proof.Proof.Gen.OutProjReferenceIdeal.Run
public import proofs.«01_k».proof.Proof.OutProj.Kernel

@[expose] public section

set_option maxRecDepth 16384

noncomputable section

namespace Cert.OutProof.Ref

open Idealize.ShloMosaic Idealize.ShloMosaic.TcCoe
open Cert.OutProjReferenceIdeal Cert.OutProjReferenceIdeal.Gen

/-- The root-mean-square norm of every row of 1024, scaled. -/
def normed (y : FVec Ideal S16896x1024 .f32) (g : FVec Ideal S1024 .f32) : FVec Ideal S16896x1024 .f32 :=
  mulf (mulf y (broadcastInDim S16896x1024 ![0, 1] bcast_S16896x1_S16896x1024_0_1 (Host.rsqrt (addf (Host.divf
      (broadcastInDim S16896x1 ![0] bcast_S16896_S16896x1_0 (Host.reduceAdd (mulf y y) (constant S_ .f32 0x00000000#32) reducesTo_S16896x1024_S16896_d1 h_S_))
      (broadcastInDim S16896x1 ![] bcast_S_S16896x1 (constant S_ .f32 0x44800000#32)))
    (broadcastInDim S16896x1 ![] bcast_S_S16896x1 (constant S_ .f32 0x358637BD#32))))))
    (broadcastInDim S16896x1024 ![0, 1] bcast_S1x1024_S16896x1024_0_1 (broadcastInDim S1x1024 ![1] bcast_S1024_S1x1024_1 g))

/-- The same of rows of 2048. -/
def normedWide (y : FVec Ideal S16896x2048 .f32) (g : FVec Ideal S2048 .f32) : FVec Ideal S16896x2048 .f32 :=
  mulf (mulf y (broadcastInDim S16896x2048 ![0, 1] bcast_S16896x1_S16896x2048_0_1 (Host.rsqrt (addf (Host.divf
      (broadcastInDim S16896x1 ![0] bcast_S16896_S16896x1_0 (Host.reduceAdd (mulf y y) (constant S_ .f32 0x00000000#32) reducesTo_S16896x2048_S16896_d1 h_S_))
      (broadcastInDim S16896x1 ![] bcast_S_S16896x1 (constant S_ .f32 0x45000000#32)))
    (broadcastInDim S16896x1 ![] bcast_S_S16896x1 (constant S_ .f32 0x358637BD#32))))))
    (broadcastInDim S16896x2048 ![0, 1] bcast_S1x2048_S16896x2048_0_1 (broadcastInDim S1x2048 ![1] bcast_S2048_S1x2048_1 g))

/-- Two streams side by side. -/
def joined (a s : FVec Ideal S16896x1024 .f32) : FVec Ideal S16896x2048 .f32 :=
  concatenate S16896x2048 1 [⟨S16896x1024, a⟩, ⟨S16896x1024, s⟩] concatenates_S16896x1024_S16896x1024_S16896x2048_d1

/-- Rows times the last layer's weights. -/
def project (y : FVec Ideal S16896x2048 .f32) (w : FVec Ideal S4x2048x2048 .bf16) : FVec Ideal S16896x2048 .f32 :=
  Host.dotGeneral dot_S16896x2048_S2048x2048_S16896x2048_1_0_0_1_n_n none y
    (extf .f32 (shapeCast _ (extractStridedSlice S1x2048x2048 ![3, 0, 0] w slices_S4x2048x2048_S1x2048x2048_3_0_0) shapeCasts_S1x2048x2048_S2048x2048) bitsLt_bf16_f32)

theorem normed_apply (y : FVec Ideal S16896x1024 .f32) (g : FVec Ideal S1024 .f32) (p : Fin 16896) (l : Fin 1024) :
    normed y g (ix2 p l) = unitRow (fun j => y (ix2 p j)) (fun j => g (ix1 j)) l := by
  unfold normed unitRow invRms
  pointwise

theorem normedWide_apply (y : FVec Ideal S16896x2048 .f32) (g : FVec Ideal S2048 .f32) (p : Fin 16896) (k : Fin 2048) :
    normedWide y g (ix2 p k) = y (ix2 p k) * invRms 0x45000000#32 (fun j => y (ix2 p j)) * g (ix1 k) := by
  unfold normedWide invRms
  pointwise

theorem project_apply (y : FVec Ideal S16896x2048 .f32) (w : FVec Ideal S4x2048x2048 .bf16) (p : Fin 16896) (k : Fin 2048) :
    project y w (ix2 p k) = ∑ l : Fin 2048, y (ix2 p l) * w (ix3 3 l k) := by
  unfold project
  pointwise

theorem joined_left (a s : FVec Ideal S16896x1024 .f32) (p : Fin 16896) (l : Fin 1024) :
    joined a s (ix2 p ⟨l.val, by omega⟩) = a (ix2 p l) := by
  unfold joined
  pointwise
  try simp

theorem joined_right (a s : FVec Ideal S16896x1024 .f32) (p : Fin 16896) (l : Fin 1024) :
    joined a s (ix2 p ⟨1024 + l.val, by omega⟩) = s (ix2 p l) := by
  unfold joined
  pointwise
  try simp

theorem sum_halves (f : Fin 2048 → EReal) : ∑ l, f l = (∑ l : Fin 1024, f ⟨l.val, by omega⟩) + ∑ l : Fin 1024, f ⟨1024 + l.val, by omega⟩ :=
  Fin.sum_univ_add (a := 1024) (b := 1024) f

/-- The reference's product of the two normed streams with the weights, at a row. -/
theorem mixed_apply (xa xs : FVec Ideal S16896x1024 .f32) (ga gs : FVec Ideal S1024 .f32) (w : FVec Ideal S4x2048x2048 .bf16) (p : Fin 16896) (k : Fin 2048) :
    project (joined (normed xa ga) (normed xs gs)) w (ix2 p k) = mixedRow xa xs ga gs w p k := by
  rw [project_apply, sum_halves]
  simp only [joined_left, joined_right, normed_apply]
  rfl

theorem result_eq (m : (ℓ : Loc nD τ sig) → Buf (Elt Ideal) ℓ) (c : Dev nD) :
    (Cert.OutProjReferenceIdeal.Value.res_main_v44 m c : FVec Ideal S16896x2048 .f32)
      = addf (m ((c.tc : Thread nD τ).loc main_arg0)) (normedWide (project (joined (normed (m ((c.tc : Thread nD τ).loc main_arg1)) (m ((c.tc : Thread nD τ).loc main_arg3)))
          (normed (m ((c.tc : Thread nD τ).loc main_arg2)) (m ((c.tc : Thread nD τ).loc main_arg4)))) (m ((c.tc : Thread nD τ).loc main_arg6)))
        (m ((c.tc : Thread nD τ).loc main_arg5))) := by
  unfold Cert.OutProjReferenceIdeal.Value.res_main_v44 normedWide project joined normed
  rfl

/-- The reference's result at row `p`, column `k`. -/
theorem result_apply (x : FVec Ideal S16896x2048 .f32) (xa xs : FVec Ideal S16896x1024 .f32) (ga gs : FVec Ideal S1024 .f32) (gp : FVec Ideal S2048 .f32)
    (w : FVec Ideal S4x2048x2048 .bf16) (p : Fin 16896) (k : Fin 2048) :
    (addf x (normedWide (project (joined (normed xa ga) (normed xs gs)) w) gp) : FVec Ideal S16896x2048 .f32) (ix2 p k)
      = x (ix2 p k) + mixedRow xa xs ga gs w p k * invRms 0x45000000#32 (mixedRow xa xs ga gs w p) * gp (ix1 k) := by
  have e := normedWide_apply (project (joined (normed xa ga) (normed xs gs)) w) gp p k
  simp only [mixed_apply] at e
  exact congrArg (x (ix2 p k) + ·) e

end Cert.OutProof.Ref

end
-- ==== Proof.OutProj.Algebraic.lean ====
/- The output projection's kernel and its reference compute one function over the extended reals. -/
module

public import proofs.«01_k».proof.Proof.OutProj.Reference
public import proofs.«01_k».proof.Defs
public import Idealize.ShloMosaic.Lib.Claim
public import Idealize.ShloMosaic.Lib.Quiescent

@[expose] public section

set_option maxRecDepth 16384

noncomputable section

namespace Cert.OutProof

open Idealize.ShloMosaic Idealize.ShloMosaic.TcCoe Idealize.SL.Sem

/-- The two result arrays are equal where the arguments are. -/
theorem results_eq (m : (ℓ : Loc Cert.OutProjIdeal.nD Cert.OutProjIdeal.τ Cert.OutProjIdeal.sig) → Buf (Elt Ideal) ℓ)
    (m' : (ℓ : Loc Cert.OutProjReferenceIdeal.nD Cert.OutProjReferenceIdeal.τ Cert.OutProjReferenceIdeal.sig) → Buf (Elt Ideal) ℓ)
    (c : Dev Cert.OutProjIdeal.nD) (c' : Dev Cert.OutProjReferenceIdeal.nD)
    (h0 : m' ((c'.tc : Thread _ _).loc Cert.OutProjReferenceIdeal.main_arg0) = argX m c)
    (h1 : m' ((c'.tc : Thread _ _).loc Cert.OutProjReferenceIdeal.main_arg1) = argA m c)
    (h2 : m' ((c'.tc : Thread _ _).loc Cert.OutProjReferenceIdeal.main_arg2) = argS m c)
    (h3 : m' ((c'.tc : Thread _ _).loc Cert.OutProjReferenceIdeal.main_arg3) = argGa m c)
    (h4 : m' ((c'.tc : Thread _ _).loc Cert.OutProjReferenceIdeal.main_arg4) = argGs m c)
    (h5 : m' ((c'.tc : Thread _ _).loc Cert.OutProjReferenceIdeal.main_arg5) = argGp m c)
    (h6 : m' ((c'.tc : Thread _ _).loc Cert.OutProjReferenceIdeal.main_arg6) = argW m c) :
    (Cert.OutProjReferenceIdeal.Value.res_main_v44 m' c' : FVec Ideal Cert.OutProjIdeal.S16896x2048 .f32) = result m c := by
  have e := Ref.result_eq m' c'
  rw [h0, h1, h2, h3, h4, h5, h6] at e
  refine e.trans ?_
  funext i
  obtain ⟨p, k, rfl⟩ : ∃ (p : Fin 16896) (k : Fin 2048), i = ix2 p k := ⟨i 0, i 1, by funext b; match b with | ⟨0, _⟩ => rfl | ⟨1, _⟩ => rfl⟩
  exact (Ref.result_apply _ _ _ _ _ _ _ p k).trans (result_apply m c p k).symm

/-- The kernel's run and the reference's run end with one result array, the arguments unchanged. -/
theorem algebraic : @Cert.algebraic_OutProjIdeal_OutProjReferenceIdeal Cert.OutProjIdeal.Gen.facts Cert.OutProjReferenceIdeal.Gen.facts := by
  intro m g m' g' _ h
  refine ⟨fun c => result m c, Cert.OutProjIdeal.Value.run_blocks m g, ?_⟩
  refine (θ_run _ _ _).mono (fun r hr c => ⟨(hr c).1.trans ?_, (hr c).2⟩) (Cert.OutProjReferenceIdeal.Value.run m' g')
  exact results_eq m m' c c (h c).1 (h c).2.1 (h c).2.2.1 (h c).2.2.2.1 (h c).2.2.2.2.1 (h c).2.2.2.2.2.1 (h c).2.2.2.2.2.2

/-- The reference's run ends with every semaphore counter at zero and the arguments unchanged. -/
theorem reference_frame : @Cert.quiescent_OutProjReferenceIdeal Cert.OutProjReferenceIdeal.Gen.facts := fun m g _ =>
  (θ_run _ _ _).mono (fun r h => ⟨fun c => (h c).2, sem_eq_zero_of_no_sems (by decide) r.2⟩) (Cert.OutProjReferenceIdeal.Value.run m g)

end Cert.OutProof

end
-- ==== Proof.Attn.TailA.lean ====
/- What the case of an even number of earlier blocks does after the loops: the three blocks on the diagonal, then the division. -/
module

public import proofs.«01_k».proof.Proof.Gen.KernelIdeal.Frame.Runs
public import Idealize.ShloMosaic.Lib.Pipeline.Value

@[expose] public section

set_option maxRecDepth 16384

noncomputable section

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

/-- The accumulator, the levels and the staged logits through the three diagonal blocks, from the level, the first block's logits and the accumulator. -/
def accT (x0 : Vec F S1536x256 .bf16) (K₁ K₂ : Vec F S512x256 .bf16) (V₀ V₁ V₂ : Vec F S1x1x144x512 .bf16)
    (m : FVec F S1x1536 .f32) (s : FVec F S512x1536 .f32) (a : FVec F S144x1536 .f32) : FVec F S144x1536 .f32 :=
  let a0 : FVec F S144x1536 .f32 := k0_pay48 m s a V₀
  let s1 : FVec F S512x1024 .f32 := k0_pay45 K₁ (View.ld x0 (Rect.unit (s := S1536x256) ![512, 0] S1024x256.size inb_S1536x256_S1024x256_512_0))
  let s2 : FVec F S512x512 .f32 := k0_pay49 K₂ (View.ld x0 (Rect.unit (s := S1536x256) ![1024, 0] S512x256.size inb_S1536x256_S512x256_1024_0))
  let m0 : FVec F S1x1536 .f32 := k0_pay47 m s
  let m1 : FVec F S1x1024 .f32 := k0_pay52 m0 s1
  let a1 : FVec F S144x1024 .f32 := k0_pay53 m0 s1 (View.ld a0 (Rect.unit (s := S144x1536) ![0, 512] S144x1024.size inb_S144x1536_S144x1024_0_512)) V₁
  let P : List (View.Piece (Elt F) S144x1536 .f32) :=
    [⟨Rect.unit (s := S144x1536) ![0, 512] S144x1024.size inb_S144x1536_S144x1024_0_512, a1⟩,
      ⟨Rect.unit (s := S144x1536) ![0, 0] S144x1536.size inb_S144x1536_S144x1536_0_0, a0⟩]
  let a2 : FVec F S144x512 .f32 := k0_pay54 m0 m1 s2
    (View.ld (View.canon P) (Rect.unit (s := S144x1536) ![0, 1024] S144x512.size inb_S144x1536_S144x512_0_1024)) V₂
  View.canon ((⟨Rect.unit (s := S144x1536) ![0, 1024] S144x512.size inb_S144x1536_S144x512_0_1024, a2⟩ : View.Piece (Elt F) S144x1536 .f32) :: P)

/-- The same at the blocks the case of an even number of earlier blocks reads. -/
def accA (i : grid0.Coords) (h : k0_cond1 i = 1#1) (x0 : Vec F S1536x256 .bf16) (x1 : Vec F S16896x256 .bf16) (x2 : Vec F S1x33x144x512 .bf16)
    (m : FVec F S1x1536 .f32) (s : FVec F S512x1536 .f32) (a : FVec F S144x1536 .f32) : FVec F S144x1536 .f32 :=
  accT x0 (View.ld x1 (Rect.unit (s := S16896x256) (k0_off13 i 1#32) S512x256.size (k0_off13_inb i h 0)))
    (View.ld x1 (Rect.unit (s := S16896x256) (k0_off13 i 2#32) S512x256.size (k0_off13_inb i h 1)))
    (View.ld x2 (Rect.unit (s := S1x33x144x512) (k0_off14 i 0#32) S1x1x144x512.size (k0_off14_inb i h 0)))
    (View.ld x2 (Rect.unit (s := S1x33x144x512) (k0_off14 i 1#32) S1x1x144x512.size (k0_off14_inb i h 1)))
    (View.ld x2 (Rect.unit (s := S1x33x144x512) (k0_off14 i 2#32) S1x1x144x512.size (k0_off14_inb i h 2))) m s a

/-- The block of results: the accumulated values over the accumulated weights. -/
def quot (a : FVec F S144x1536 .f32) : Vec F S1536x128 .f32 :=
  k0_pay55 (View.ld a (Rect.unit (s := S144x1536) ![0, 0] S128x1536.size inb_S144x1536_S128x1536_0_0))
    (View.ld a (Rect.unit (s := S144x1536) ![128, 0] S1x1536.size inb_S144x1536_S1x1536_128_0))

/-- A buffer last stored whole reads as that store's payload, whatever came before. -/
theorem read_whole {sig : RefSig} {κ : Kind} {sp : Space} {S : Shape} {e : EltTy} {Val : EltTy → Type}
    (v : View sig κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h
  funext y
  have e := View.read_writes_cons_emb v f (Rect.whole S) w L y
  rw [Rect.emb_whole_apply] at e
  exact e

theorem off2_zero : (![0, 0] : Fin 2 → ℕ) = fun _ => 0 := funext fun a => by fin_cases a <;> rfl

set_option maxHeartbeats 4000000 in
/-- The run of the tail, from any contents of the buffers. -/
theorem tailA_run (c : Dev nD) (i : grid0.Coords) (arg2 : Memref sig .tc .vmem S1536x256 .bf16) (harg2 : arg2.IsWhole) (arg3 : Memref sig .tc .vmem S16896x256 .bf16) (harg3 : arg3.IsWhole) (arg4 : Memref sig .tc .vmem S1x33x144x512 .bf16) (harg4 : arg4.IsWhole) (arg5 : Memref sig .tc .vmem S1536x128 .f32) (harg5 : arg5.IsWhole) (arg6 : Memref sig .tc .vmem S512x1536 .f32) (harg6 : arg6.IsWhole) (arg7 : Memref sig .tc .vmem S512x1536 .f32) (harg7 : arg7.IsWhole) (arg8 : Memref sig .tc .vmem S144x1536 .f32) (harg8 : arg8.IsWhole) (v0 : BitVec 32) (m : FVec F S1x1536 .f32) (h : k0_cond1 i = 1#1) (E : Set ℕ)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) :
    iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8))
      ⊢ wp frame (wpE (defs₀ (F := F)) Variants.none (c : Thread nD τ) none) E (k0_part11 (F := F) i arg2 harg2 arg3 harg3 arg4 harg4 arg5 harg5 arg6 harg6 arg7 harg7 arg8 harg8 v0 m h)
          (fun _ => (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (∃ f, (arg5.view.loc (c : Thread nD τ) ↦[arg5.view.set]{fullShare} f) ∗ ⌜arg5.view.read (Elt F) f = quot (accA i h (arg2.view.read (Elt F) X2) (arg3.view.read (Elt F) X3) (arg4.view.read (Elt F) X4) m (arg6.view.read (Elt F) X6) (arg8.view.read (Elt F) X8))⌝) ∗ (∃ f, (arg6.view.loc (c : Thread nD τ) ↦[arg6.view.set]{fullShare} f)) ∗ (∃ f, (arg7.view.loc (c : Thread nD τ) ↦[arg7.view.set]{fullShare} f)) ∗ (∃ f, (arg8.view.loc (c : Thread nD τ) ↦[arg8.view.set]{fullShare} f))) : sProp 𝕄)) := by
  simp only [k0_part11_eq_skeleton]; unfold k0_part11_skel
  simp only [k0_part9_eq_skeleton, k0_part10_eq_skeleton]
  iintro ⟨H2, H3, H4, H5, H6, H7, H8⟩
  sl_exec
  sl_step
  isplitl [H2]; · iexact H2
  isplitl [H3]; · iexact H3
  isplitl [H4]; · iexact H4
  isplitl [H5]
  · iexists _
    isplitl [H5]; · iexact H5
    ipureintro
    rw [read_whole (S := S1536x128) _ _ off2_zero]
    sl_unfold_words
    simp only [View.readCov_cons_toLoadRect, View.readAt_eq_ld, View.ld_unit_zero (S := S512x1536) off2_zero, View.ld_unit_zero (S := S144x1536) off2_zero]
    simp only [View.readCov_eq_canon', View.canon_unit_zero (S := S144x1536) off2_zero]
    unfold quot accA accT
    rfl
  isplitl [H6]; · iexists _; iexact H6
  isplitl [H7]; · iexists _; iexact H7
  iexists _; iexact H8

end Cert.Attn

end
-- ==== Proof.Attn.Trip.lean ====
/- What one trip of the kernel's pair loops leaves: the carried row maximum and level, the logits staged for the next
   block and the accumulator, as the two-block step of the online softmax over what the trip found. -/
module

public import proofs.«01_k».proof.Proof.Gen.KernelIdeal.Loops
public import Idealize.ShloMosaic.Lib.Pipeline.FrameBody
public import Idealize.ShloMosaic.Lib.Pipeline.Value
public import proofs.«01_k».proof.Proof.Attn.TailA

@[expose] public section

set_option maxRecDepth 100000

noncomputable section

namespace Cert.Attn

open Idealize.ShloMosaic Idealize.ShloMosaic.TcCoe
open Cert.KernelIdeal Cert.KernelIdeal.Gen

variable {F : FTy → Type} [FloatOps F] [Named F]

/-- The running state: the staged block's row maxima, the level, the staged logits, the accumulator. -/
abbrev St (F : FTy → Type) : Type := FVec F S1x1536 .f32 × FVec F S1x1536 .f32 × FVec F S512x1536 .f32 × FVec F S144x1536 .f32

/-- The logits of a key block against the queries. -/
abbrev logit (K : FVec F S512x256 .bf16) (Q : FVec F S1536x256 .bf16) : FVec F S512x1536 .f32 := k0_pay4 K Q
/-- Their maxima over the block. -/
abbrev lmax (K : FVec F S512x256 .bf16) (Q : FVec F S1536x256 .bf16) : FVec F S1x1536 .f32 := k0_pay5 K Q
/-- The level after a block. -/
abbrev level (mA m : FVec F S1x1536 .f32) : FVec F S1x1536 .f32 := k0_pay6 mA m
/-- The accumulator after a block. -/
abbrev accum (mA m : FVec F S1x1536 .f32) (s : FVec F S512x1536 .f32) (a : FVec F S144x1536 .f32)
    (V : Vec F S1x1x144x512 .bf16) : FVec F S144x1536 .f32 := k0_pay7 mA m s a V

theorem accum_congr {mA mA' m m' : FVec F S1x1536 .f32} {s s' : FVec F S512x1536 .f32} {a a' : FVec F S144x1536 .f32}
    {V V' : Vec F S1x1x144x512 .bf16} (h₁ : mA = mA') (h₂ : m = m') (h₃ : s = s') (h₄ : a = a') (h₅ : V = V') :
    accum mA m s a V = accum mA' m' s' a' V' := by rw [h₁, h₂, h₃, h₄, h₅]

/-- Two blocks: the staged one and the one after it; a third is staged. -/
def pairStep (Q : FVec F S1536x256 .bf16) (K₁ K₂ : FVec F S512x256 .bf16) (V₀ V₁ : Vec F S1x1x144x512 .bf16)
    (x : St F) : St F :=
  (lmax K₂ Q, level (lmax K₁ Q) (level x.1 x.2.1), logit K₂ Q,
    accum (lmax K₁ Q) (level x.1 x.2.1) (logit K₁ Q) (accum x.1 x.2.1 x.2.2.1 x.2.2.2 V₀) V₁)

set_option maxHeartbeats 1000000 in
/-- One trip of loop 1. -/
theorem trip1_eq (𝒱 : Variants) (c : Dev nD) (bd : Option 𝒱.V) (i : grid0.Coords) (arg2 : Memref sig .tc .vmem S1536x256 .bf16) (harg2 : arg2.IsWhole) (arg3 : Memref sig .tc .vmem S16896x256 .bf16) (harg3 : arg3.IsWhole) (arg4 : Memref sig .tc .vmem S1x33x144x512 .bf16) (harg4 : arg4.IsWhole) (arg5 : Memref sig .tc .vmem S1536x128 .f32) (harg5 : arg5.IsWhole) (arg6 : Memref sig .tc .vmem S512x1536 .f32) (harg6 : arg6.IsWhole) (arg7 : Memref sig .tc .vmem S512x1536 .f32) (harg7 : arg7.IsWhole) (arg8 : Memref sig .tc .vmem S144x1536 .f32) (harg8 : arg8.IsWhole) (v0 : BitVec 32) (v14 : FVec F S1x1536 .f32) (v15 : FVec F S1x1536 .f32) (c0_i32_14 : BitVec 32) (v33 : BitVec 32) (X_arg2 : BufTy.Contents (Elt F) arg2.view.ty) (X_arg3 : BufTy.Contents (Elt F) arg3.view.ty) (X_arg4 : BufTy.Contents (Elt F) arg4.view.ty)
    (k : Fin (k0_t1_loop i).trips) (acc : FVec F S1x1536 .f32 × FVec F S1x1536 .f32) (f6 : BufTy.Contents (Elt F) arg6.view.ty)
    (f7 : BufTy.Contents (Elt F) arg7.view.ty) (f8 : BufTy.Contents (Elt F) arg8.view.ty) :
    (((tripR_k0_t1 (F := F) 𝒱 c bd i arg2 harg2 arg3 harg3 arg4 harg4 arg5 harg5 arg6 harg6 arg7 harg7 arg8 harg8 v0 v14 v15 c0_i32_14 v33 X_arg2 X_arg3 X_arg4 k acc f6 f7 f8).1, (tripR_k0_t1 (F := F) 𝒱 c bd i arg2 harg2 arg3 harg3 arg4 harg4 arg5 harg5 arg6 harg6 arg7 harg7 arg8 harg8 v0 v14 v15 c0_i32_14 v33 X_arg2 X_arg3 X_arg4 k acc f6 f7 f8).2,
      arg6.view.read (Elt F) (arg6.view.writes (Elt F) f6 (tripL_k0_t1 (F := F) 𝒱 c bd i arg2 harg2 arg3 harg3 arg4 harg4 arg5 harg5 arg6 harg6 arg7 harg7 arg8 harg8 v0 v14 v15 c0_i32_14 v33 X_arg2 X_arg3 X_arg4 k acc f6 f7 f8).1),
      arg8.view.read (Elt F) (arg8.view.writes (Elt F) f8 (tripL_k0_t1 (F := F) 𝒱 c bd i arg2 harg2 arg3 harg3 arg4 harg4 arg5 harg5 arg6 harg6 arg7 harg7 arg8 harg8 v0 v14 v15 c0_i32_14 v33 X_arg2 X_arg3 X_arg4 k acc f6 f7 f8).2.2)) : St F)
      = pairStep (arg2.view.read (Elt F) X_arg2)
          (View.ld (arg3.view.read (Elt F) X_arg3) (Rect.unit (s := S16896x256) (k0_off1 i k 2#32 1#32) S512x256.size (k0_off1_inb i k 1 0))) (View.ld (arg3.view.read (Elt F) X_arg3) (Rect.unit (s := S16896x256) (k0_off1 i k 2#32 2#32) S512x256.size (k0_off1_inb i k 1 1)))
          (View.ld (arg4.view.read (Elt F) X_arg4) (Rect.unit (s := S1x33x144x512) (k0_off2 i k 2#32) S1x1x144x512.size (k0_off2_inb i k 1))) (View.ld (arg4.view.read (Elt F) X_arg4) (Rect.unit (s := S1x33x144x512) (k0_off3 i k 2#32) S1x1x144x512.size (k0_off3_inb i k 1)))
        (pairStep (arg2.view.read (Elt F) X_arg2)
          (View.ld (arg3.view.read (Elt F) X_arg3) (Rect.unit (s := S16896x256) (k0_off1 i k 0#32 1#32) S512x256.size (k0_off1_inb i k 0 0))) (View.ld (arg3.view.read (Elt F) X_arg3) (Rect.unit (s := S16896x256) (k0_off1 i k 0#32 2#32) S512x256.size (k0_off1_inb i k 0 1)))
          (View.ld (arg4.view.read (Elt F) X_arg4) (Rect.unit (s := S1x33x144x512) (k0_off2 i k 0#32) S1x1x144x512.size (k0_off2_inb i k 0))) (View.ld (arg4.view.read (Elt F) X_arg4) (Rect.unit (s := S1x33x144x512) (k0_off3 i k 0#32) S1x1x144x512.size (k0_off3_inb i k 0)))
          (acc.1, acc.2, arg6.view.read (Elt F) f6, arg8.view.read (Elt F) f8)) := by
  unfold tripR_k0_t1 tripL_k0_t1 trip_k0_t1
  dsimp only
  sl_unfold_words
  simp only [View.readCov, View.readAt_eq_ld, View.ld_unit_zero (S := S512x1536) off2_zero,
    View.ld_unit_zero (S := S144x1536) off2_zero, View.ld_unit_zero (S := S1536x256) off2_zero,
    read_whole (S := S512x1536) _ _ off2_zero, read_whole (S := S144x1536) _ _ off2_zero]
  unfold pairStep
  dsimp only [lmax, logit, level, accum, k0_pay4, k0_pay5, k0_pay6, k0_pay7, k0_pay75, k0_pay76, k0_pay77, k0_pay78, k0_pay3]

set_option maxHeartbeats 1000000 in
/-- One trip of loop 3. -/
theorem trip3_eq (𝒱 : Variants) (c : Dev nD) (bd : Option 𝒱.V) (i : grid0.Coords) (arg2 : Memref sig .tc .vmem S1536x256 .bf16) (harg2 : arg2.IsWhole) (arg3 : Memref sig .tc .vmem S16896x256 .bf16) (harg3 : arg3.IsWhole) (arg4 : Memref sig .tc .vmem S1x33x144x512 .bf16) (harg4 : arg4.IsWhole) (arg5 : Memref sig .tc .vmem S1536x128 .f32) (harg5 : arg5.IsWhole) (arg6 : Memref sig .tc .vmem S512x1536 .f32) (harg6 : arg6.IsWhole) (arg7 : Memref sig .tc .vmem S512x1536 .f32) (harg7 : arg7.IsWhole) (arg8 : Memref sig .tc .vmem S144x1536 .f32) (harg8 : arg8.IsWhole) (v0 : BitVec 32) (v39_0 : FVec F S1x1536 .f32) (v39_1 : FVec F S1x1536 .f32) (v57 : BitVec 32) (v67 : BitVec 32) (c2_i32 : BitVec 32) (v68 : BitVec 32) (v73 : BitVec 32) (c0_i32_34 : BitVec 32) (X_arg2 : BufTy.Contents (Elt F) arg2.view.ty) (X_arg3 : BufTy.Contents (Elt F) arg3.view.ty) (X_arg4 : BufTy.Contents (Elt F) arg4.view.ty)
    (k : Fin (k0_t3_loop i).trips) (acc : FVec F S1x1536 .f32 × FVec F S1x1536 .f32) (f6 : BufTy.Contents (Elt F) arg6.view.ty)
    (f7 : BufTy.Contents (Elt F) arg7.view.ty) (f8 : BufTy.Contents (Elt F) arg8.view.ty) :
    (((tripR_k0_t3 (F := F) 𝒱 c bd i arg2 harg2 arg3 harg3 arg4 harg4 arg5 harg5 arg6 harg6 arg7 harg7 arg8 harg8 v0 v39_0 v39_1 v57 v67 c2_i32 v68 v73 c0_i32_34 X_arg2 X_arg3 X_arg4 k acc f6 f7 f8).1, (tripR_k0_t3 (F := F) 𝒱 c bd i arg2 harg2 arg3 harg3 arg4 harg4 arg5 harg5 arg6 harg6 arg7 harg7 arg8 harg8 v0 v39_0 v39_1 v57 v67 c2_i32 v68 v73 c0_i32_34 X_arg2 X_arg3 X_arg4 k acc f6 f7 f8).2,
      arg6.view.read (Elt F) (arg6.view.writes (Elt F) f6 (tripL_k0_t3 (F := F) 𝒱 c bd i arg2 harg2 arg3 harg3 arg4 harg4 arg5 harg5 arg6 harg6 arg7 harg7 arg8 harg8 v0 v39_0 v39_1 v57 v67 c2_i32 v68 v73 c0_i32_34 X_arg2 X_arg3 X_arg4 k acc f6 f7 f8).1),
      arg8.view.read (Elt F) (arg8.view.writes (Elt F) f8 (tripL_k0_t3 (F := F) 𝒱 c bd i arg2 harg2 arg3 harg3 arg4 harg4 arg5 harg5 arg6 harg6 arg7 harg7 arg8 harg8 v0 v39_0 v39_1 v57 v67 c2_i32 v68 v73 c0_i32_34 X_arg2 X_arg3 X_arg4 k acc f6 f7 f8).2.2)) : St F)
      = pairStep (arg2.view.read (Elt F) X_arg2)
          (View.ld (arg3.view.read (Elt F) X_arg3) (Rect.unit (s := S16896x256) (k0_off7 i k 1#32) S512x256.size (k0_off7_inb i k 0))) (View.ld (arg3.view.read (Elt F) X_arg3) (Rect.unit (s := S16896x256) (k0_off7 i k 2#32) S512x256.size (k0_off7_inb i k 1)))
          (View.ld (arg4.view.read (Elt F) X_arg4) (Rect.unit (s := S1x33x144x512) (k0_off8 i k) S1x1x144x512.size (k0_off8_inb i k))) (View.ld (arg4.view.read (Elt F) X_arg4) (Rect.unit (s := S1x33x144x512) (k0_off9 i k) S1x1x144x512.size (k0_off9_inb i k)))
          (acc.1, acc.2, arg6.view.read (Elt F) f6, arg8.view.read (Elt F) f8) := by
  unfold tripR_k0_t3 tripL_k0_t3 trip_k0_t3
  dsimp only
  sl_unfold_words
  simp only [View.readCov, View.readAt_eq_ld, View.ld_unit_zero (S := S512x1536) off2_zero,
    View.ld_unit_zero (S := S144x1536) off2_zero, View.ld_unit_zero (S := S1536x256) off2_zero,
    read_whole (S := S512x1536) _ _ off2_zero, read_whole (S := S144x1536) _ _ off2_zero]
  rfl

end Cert.Attn

end
-- ==== Proof.Attn.State.lean ====
/- The loops over the earlier blocks as repeated steps of the running state. -/
module

public import proofs.«01_k».proof.Proof.Attn.Trip

@[expose] public section

set_option maxRecDepth 16384

noncomputable section

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

/-- What trip `k` of loop 1 does to the running state. -/
def stepL1 (i : grid0.Coords) (x0 : Vec F S1536x256 .bf16) (x1 : Vec F S16896x256 .bf16) (x2 : Vec F S1x33x144x512 .bf16)
    (k : Fin (k0_t1_loop i).trips) (s : St F) : St F :=
  pairStep x0
          (View.ld x1 (Rect.unit (s := S16896x256) (k0_off1 i k 2#32 1#32) S512x256.size (k0_off1_inb i k 1 0))) (View.ld x1 (Rect.unit (s := S16896x256) (k0_off1 i k 2#32 2#32) S512x256.size (k0_off1_inb i k 1 1)))
          (View.ld x2 (Rect.unit (s := S1x33x144x512) (k0_off2 i k 2#32) S1x1x144x512.size (k0_off2_inb i k 1))) (View.ld x2 (Rect.unit (s := S1x33x144x512) (k0_off3 i k 2#32) S1x1x144x512.size (k0_off3_inb i k 1)))
          (pairStep x0
          (View.ld x1 (Rect.unit (s := S16896x256) (k0_off1 i k 0#32 1#32) S512x256.size (k0_off1_inb i k 0 0))) (View.ld x1 (Rect.unit (s := S16896x256) (k0_off1 i k 0#32 2#32) S512x256.size (k0_off1_inb i k 0 1)))
          (View.ld x2 (Rect.unit (s := S1x33x144x512) (k0_off2 i k 0#32) S1x1x144x512.size (k0_off2_inb i k 0))) (View.ld x2 (Rect.unit (s := S1x33x144x512) (k0_off3 i k 0#32) S1x1x144x512.size (k0_off3_inb i k 0)))
          s)

/-- The running state after `k` trips of loop 1. -/
def runL1 (i : grid0.Coords) (x0 : Vec F S1536x256 .bf16) (x1 : Vec F S16896x256 .bf16) (x2 : Vec F S1x33x144x512 .bf16) (s : St F) : ℕ → St F
  | 0 => s
  | k + 1 => if h : k < (k0_t1_loop i).trips then stepL1 i x0 x1 x2 ⟨k, h⟩ (runL1 i x0 x1 x2 s k) else runL1 i x0 x1 x2 s k

set_option maxHeartbeats 1000000 in
theorem st1_eq (𝒱 : Variants) (c : Dev nD) (bd : Option 𝒱.V) (i : grid0.Coords) (arg2 : Memref sig .tc .vmem S1536x256 .bf16) (harg2 : arg2.IsWhole) (arg3 : Memref sig .tc .vmem S16896x256 .bf16) (harg3 : arg3.IsWhole) (arg4 : Memref sig .tc .vmem S1x33x144x512 .bf16) (harg4 : arg4.IsWhole) (arg5 : Memref sig .tc .vmem S1536x128 .f32) (harg5 : arg5.IsWhole) (arg6 : Memref sig .tc .vmem S512x1536 .f32) (harg6 : arg6.IsWhole) (arg7 : Memref sig .tc .vmem S512x1536 .f32) (harg7 : arg7.IsWhole) (arg8 : Memref sig .tc .vmem S144x1536 .f32) (harg8 : arg8.IsWhole) (v0 : BitVec 32) (v14 : FVec F S1x1536 .f32) (v15 : FVec F S1x1536 .f32) (c0_i32_14 : BitVec 32) (v33 : BitVec 32) (X2 : BufTy.Contents (Elt F) arg2.view.ty) (X3 : BufTy.Contents (Elt F) arg3.view.ty) (X4 : BufTy.Contents (Elt F) arg4.view.ty) (G6 : BufTy.Contents (Elt F) arg6.view.ty) (G7 : BufTy.Contents (Elt F) arg7.view.ty) (G8 : BufTy.Contents (Elt F) arg8.view.ty)
    (init : FVec F S1x1536 .f32 × FVec F S1x1536 .f32) (k : ℕ) (hk : k ≤ (k0_t1_loop i).trips) :
    (((st_k0_t1 (F := F) 𝒱 c bd i arg2 harg2 arg3 harg3 arg4 harg4 arg5 harg5 arg6 harg6 arg7 harg7 arg8 harg8 v0 v14 v15 c0_i32_14 v33 X2 X3 X4 G6 G7 G8 init k).1.1, (st_k0_t1 (F := F) 𝒱 c bd i arg2 harg2 arg3 harg3 arg4 harg4 arg5 harg5 arg6 harg6 arg7 harg7 arg8 harg8 v0 v14 v15 c0_i32_14 v33 X2 X3 X4 G6 G7 G8 init k).1.2, arg6.view.read (Elt F) (arg6.view.writes (Elt F) G6 (st_k0_t1 (F := F) 𝒱 c bd i arg2 harg2 arg3 harg3 arg4 harg4 arg5 harg5 arg6 harg6 arg7 harg7 arg8 harg8 v0 v14 v15 c0_i32_14 v33 X2 X3 X4 G6 G7 G8 init k).2.1),
      arg8.view.read (Elt F) (arg8.view.writes (Elt F) G8 (st_k0_t1 (F := F) 𝒱 c bd i arg2 harg2 arg3 harg3 arg4 harg4 arg5 harg5 arg6 harg6 arg7 harg7 arg8 harg8 v0 v14 v15 c0_i32_14 v33 X2 X3 X4 G6 G7 G8 init k).2.2.2)) : St F)
      = runL1 i (arg2.view.read (Elt F) X2) (arg3.view.read (Elt F) X3) (arg4.view.read (Elt F) X4) (init.1, init.2, arg6.view.read (Elt F) G6, arg8.view.read (Elt F) G8) k := by
  induction k with
  | zero => rfl
  | succ k ih =>
    have ih := ih (Nat.le_of_succ_le hk)
    have hk' : k < (k0_t1_loop i).trips := hk
    have e := st_k0_t1_succ (F := F) 𝒱 c bd i arg2 harg2 arg3 harg3 arg4 harg4 arg5 harg5 arg6 harg6 arg7 harg7 arg8 harg8 v0 v14 v15 c0_i32_14 v33 X2 X3 X4 G6 G7 G8 init ⟨k, hk'⟩
    dsimp only at e
    rw [e]
    dsimp only
    rw [View.writes_append, View.writes_append]
    rw [runL1, dif_pos hk', ← ih]
    exact trip1_eq 𝒱 c bd i arg2 harg2 arg3 harg3 arg4 harg4 arg5 harg5 arg6 harg6 arg7 harg7 arg8 harg8 v0 v14 v15 c0_i32_14 v33 X2 X3 X4 ⟨k, hk⟩ _ _ _ _

/-- What trip `k` of loop 3 does to the running state. -/
def stepL3 (i : grid0.Coords) (x0 : Vec F S1536x256 .bf16) (x1 : Vec F S16896x256 .bf16) (x2 : Vec F S1x33x144x512 .bf16)
    (k : Fin (k0_t3_loop i).trips) (s : St F) : St F :=
  pairStep x0
          (View.ld x1 (Rect.unit (s := S16896x256) (k0_off7 i k 1#32) S512x256.size (k0_off7_inb i k 0))) (View.ld x1 (Rect.unit (s := S16896x256) (k0_off7 i k 2#32) S512x256.size (k0_off7_inb i k 1)))
          (View.ld x2 (Rect.unit (s := S1x33x144x512) (k0_off8 i k) S1x1x144x512.size (k0_off8_inb i k))) (View.ld x2 (Rect.unit (s := S1x33x144x512) (k0_off9 i k) S1x1x144x512.size (k0_off9_inb i k)))
          s

/-- The running state after `k` trips of loop 3. -/
def runL3 (i : grid0.Coords) (x0 : Vec F S1536x256 .bf16) (x1 : Vec F S16896x256 .bf16) (x2 : Vec F S1x33x144x512 .bf16) (s : St F) : ℕ → St F
  | 0 => s
  | k + 1 => if h : k < (k0_t3_loop i).trips then stepL3 i x0 x1 x2 ⟨k, h⟩ (runL3 i x0 x1 x2 s k) else runL3 i x0 x1 x2 s k

set_option maxHeartbeats 1000000 in
theorem st3_eq (𝒱 : Variants) (c : Dev nD) (bd : Option 𝒱.V) (i : grid0.Coords) (arg2 : Memref sig .tc .vmem S1536x256 .bf16) (harg2 : arg2.IsWhole) (arg3 : Memref sig .tc .vmem S16896x256 .bf16) (harg3 : arg3.IsWhole) (arg4 : Memref sig .tc .vmem S1x33x144x512 .bf16) (harg4 : arg4.IsWhole) (arg5 : Memref sig .tc .vmem S1536x128 .f32) (harg5 : arg5.IsWhole) (arg6 : Memref sig .tc .vmem S512x1536 .f32) (harg6 : arg6.IsWhole) (arg7 : Memref sig .tc .vmem S512x1536 .f32) (harg7 : arg7.IsWhole) (arg8 : Memref sig .tc .vmem S144x1536 .f32) (harg8 : arg8.IsWhole) (v0 : BitVec 32) (v39_0 : FVec F S1x1536 .f32) (v39_1 : FVec F S1x1536 .f32) (v57 : BitVec 32) (v67 : BitVec 32) (c2_i32 : BitVec 32) (v68 : BitVec 32) (v73 : BitVec 32) (c0_i32_34 : BitVec 32) (X2 : BufTy.Contents (Elt F) arg2.view.ty) (X3 : BufTy.Contents (Elt F) arg3.view.ty) (X4 : BufTy.Contents (Elt F) arg4.view.ty) (G6 : BufTy.Contents (Elt F) arg6.view.ty) (G7 : BufTy.Contents (Elt F) arg7.view.ty) (G8 : BufTy.Contents (Elt F) arg8.view.ty)
    (init : FVec F S1x1536 .f32 × FVec F S1x1536 .f32) (k : ℕ) (hk : k ≤ (k0_t3_loop i).trips) :
    (((st_k0_t3 (F := F) 𝒱 c bd i arg2 harg2 arg3 harg3 arg4 harg4 arg5 harg5 arg6 harg6 arg7 harg7 arg8 harg8 v0 v39_0 v39_1 v57 v67 c2_i32 v68 v73 c0_i32_34 X2 X3 X4 G6 G7 G8 init k).1.1, (st_k0_t3 (F := F) 𝒱 c bd i arg2 harg2 arg3 harg3 arg4 harg4 arg5 harg5 arg6 harg6 arg7 harg7 arg8 harg8 v0 v39_0 v39_1 v57 v67 c2_i32 v68 v73 c0_i32_34 X2 X3 X4 G6 G7 G8 init k).1.2, arg6.view.read (Elt F) (arg6.view.writes (Elt F) G6 (st_k0_t3 (F := F) 𝒱 c bd i arg2 harg2 arg3 harg3 arg4 harg4 arg5 harg5 arg6 harg6 arg7 harg7 arg8 harg8 v0 v39_0 v39_1 v57 v67 c2_i32 v68 v73 c0_i32_34 X2 X3 X4 G6 G7 G8 init k).2.1),
      arg8.view.read (Elt F) (arg8.view.writes (Elt F) G8 (st_k0_t3 (F := F) 𝒱 c bd i arg2 harg2 arg3 harg3 arg4 harg4 arg5 harg5 arg6 harg6 arg7 harg7 arg8 harg8 v0 v39_0 v39_1 v57 v67 c2_i32 v68 v73 c0_i32_34 X2 X3 X4 G6 G7 G8 init k).2.2.2)) : St F)
      = runL3 i (arg2.view.read (Elt F) X2) (arg3.view.read (Elt F) X3) (arg4.view.read (Elt F) X4) (init.1, init.2, arg6.view.read (Elt F) G6, arg8.view.read (Elt F) G8) k := by
  induction k with
  | zero => rfl
  | succ k ih =>
    have ih := ih (Nat.le_of_succ_le hk)
    have hk' : k < (k0_t3_loop i).trips := hk
    have e := st_k0_t3_succ (F := F) 𝒱 c bd i arg2 harg2 arg3 harg3 arg4 harg4 arg5 harg5 arg6 harg6 arg7 harg7 arg8 harg8 v0 v39_0 v39_1 v57 v67 c2_i32 v68 v73 c0_i32_34 X2 X3 X4 G6 G7 G8 init ⟨k, hk'⟩
    dsimp only at e
    rw [e]
    dsimp only
    rw [View.writes_append, View.writes_append]
    rw [runL3, dif_pos hk', ← ih]
    exact trip3_eq 𝒱 c bd i arg2 harg2 arg3 harg3 arg4 harg4 arg5 harg5 arg6 harg6 arg7 harg7 arg8 harg8 v0 v39_0 v39_1 v57 v67 c2_i32 v68 v73 c0_i32_34 X2 X3 X4 ⟨k, hk⟩ _ _ _ _

end Cert.Attn

end
-- ==== Proof.Attn.Front.lean ====
/- The runs of the body's parts up to the diagonal: the staging of the first block, the two loops over the earlier blocks. -/
module

public import proofs.«01_k».proof.Proof.Attn.State

@[expose] public section

set_option maxRecDepth 16384

noncomputable section

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

/-- The first block's keys. -/
abbrev K0 (x1 : Vec F S16896x256 .bf16) : Vec F S512x256 .bf16 := View.ld x1 (Rect.unit (s := S16896x256) ![0, 0] S512x256.size inb_S16896x256_S512x256_0_0)

/-- The running state before the loops. -/
def start (x0 : Vec F S1536x256 .bf16) (x1 : Vec F S16896x256 .bf16) : St F := (k0_pay73 (K0 x1) x0, k0_pay74, k0_pay72 (K0 x1) x0, k0_pay70)

theorem t2_trips (i : grid0.Coords) : (k0_t2_loop i).trips = 0 := by revert i; decide +kernel
theorem t4_trips (i : grid0.Coords) : (k0_t4_loop i).trips = 0 := by revert i; decide +kernel

theorem quotA_congr (i : grid0.Coords) (h : k0_cond1 i = 1#1) (x0 : Vec F S1536x256 .bf16) (x1 : Vec F S16896x256 .bf16) (x2 : Vec F S1x33x144x512 .bf16)
    {m m' : FVec F S1x1536 .f32} {s s' : FVec F S512x1536 .f32} {a a' : FVec F S144x1536 .f32} (hm : m = m') (hs : s = s') (ha : a = a') :
    quot (accA i h x0 x1 x2 m s a) = quot (accA i h x0 x1 x2 m' s' a') := by rw [hm, hs, ha]

set_option maxHeartbeats 2000000 in
theorem part15_run (c : Dev nD) (i : grid0.Coords) (arg2 : Memref sig .tc .vmem S1536x256 .bf16) (harg2 : arg2.IsWhole) (arg3 : Memref sig .tc .vmem S16896x256 .bf16) (harg3 : arg3.IsWhole) (arg4 : Memref sig .tc .vmem S1x33x144x512 .bf16) (harg4 : arg4.IsWhole) (arg5 : Memref sig .tc .vmem S1536x128 .f32) (harg5 : arg5.IsWhole) (arg6 : Memref sig .tc .vmem S512x1536 .f32) (harg6 : arg6.IsWhole) (arg7 : Memref sig .tc .vmem S512x1536 .f32) (harg7 : arg7.IsWhole) (arg8 : Memref sig .tc .vmem S144x1536 .f32) (harg8 : arg8.IsWhole) (E : Set ℕ) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) :
    iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8))
      ⊢ wp frame (wpE (defs₀ (F := F)) Variants.none (c : Thread nD τ) none) E (k0_part15 (F := F) i arg2 harg2 arg3 harg3 arg4 harg4 arg5 harg5 arg6 harg6 arg7 harg7 arg8 harg8) (fun r => (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (∃ f, (arg6.view.loc (c : Thread nD τ) ↦[arg6.view.set]{fullShare} f) ∗ ⌜arg6.view.read (Elt F) f = (start (arg2.view.read (Elt F) X2) (arg3.view.read (Elt F) X3)).2.2.1⌝) ∗ (arg7.view.loc (c : Thread nD τ) ↦[arg7.view.set]{fullShare} X7) ∗ (∃ f, (arg8.view.loc (c : Thread nD τ) ↦[arg8.view.set]{fullShare} f) ∗ ⌜arg8.view.read (Elt F) f = (start (arg2.view.read (Elt F) X2) (arg3.view.read (Elt F) X3)).2.2.2⌝) ∗ ⌜r.2.1 = (start (arg2.view.read (Elt F) X2) (arg3.view.read (Elt F) X3)).1⌝ ∗ ⌜r.2.2.1 = (start (arg2.view.read (Elt F) X2) (arg3.view.read (Elt F) X3)).2.1⌝) : sProp 𝕄)) := by
  simp only [k0_part15_eq_skeleton]; unfold k0_part15_skel
  iintro ⟨H2, H3, H4, H5, H6, H7, H8⟩
  sl_exec
  sl_step
  isplitl [H2]; · iexact H2
  isplitl [H3]; · iexact H3
  isplitl [H4]; · iexact H4
  isplitl [H5]; · iexact H5
  isplitl [H6]
  · iexists _
    isplitl [H6]; · iexact H6
    ipureintro
    rw [read_whole (S := S512x1536) _ _ off2_zero]
    sl_unfold_words
    simp only [View.readAt_eq_ld, View.ld_unit_zero (S := S1536x256) off2_zero]
    rfl
  isplitl [H7]; · iexact H7
  isplitl [H8]
  · iexists _
    isplitl [H8]; · iexact H8
    ipureintro
    rw [read_whole (S := S144x1536) _ _ off2_zero]
    rfl
  isplit
  · ipureintro
    dsimp only
    sl_unfold_words
    simp only [View.readAt_eq_ld, View.ld_unit_zero (S := S1536x256) off2_zero]
    unfold start
    with_reducible rfl
  ipureintro
  rfl

set_option maxHeartbeats 4000000 in
theorem part16_run (c : Dev nD) (i : grid0.Coords) (arg2 : Memref sig .tc .vmem S1536x256 .bf16) (harg2 : arg2.IsWhole) (arg3 : Memref sig .tc .vmem S16896x256 .bf16) (harg3 : arg3.IsWhole) (arg4 : Memref sig .tc .vmem S1x33x144x512 .bf16) (harg4 : arg4.IsWhole) (arg5 : Memref sig .tc .vmem S1536x128 .f32) (harg5 : arg5.IsWhole) (arg6 : Memref sig .tc .vmem S512x1536 .f32) (harg6 : arg6.IsWhole) (arg7 : Memref sig .tc .vmem S512x1536 .f32) (harg7 : arg7.IsWhole) (arg8 : Memref sig .tc .vmem S144x1536 .f32) (harg8 : arg8.IsWhole) (v0 : BitVec 32) (v14 : FVec F S1x1536 .f32) (v15 : FVec F S1x1536 .f32) (c0_i32_14 : BitVec 32) (v33 : BitVec 32) (E : Set ℕ) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) :
    iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8))
      ⊢ wp frame (wpE (defs₀ (F := F)) Variants.none (c : Thread nD τ) none) E (k0_part16 (F := F) i arg2 harg2 arg3 harg3 arg4 harg4 arg5 harg5 arg6 harg6 arg7 harg7 arg8 harg8 v0 v14 v15 c0_i32_14 v33) (fun r => (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (∃ f, (arg6.view.loc (c : Thread nD τ) ↦[arg6.view.set]{fullShare} f) ∗ ⌜arg6.view.read (Elt F) f = (runL1 i (arg2.view.read (Elt F) X2) (arg3.view.read (Elt F) X3) (arg4.view.read (Elt F) X4) ((v14, v15, (arg6.view.read (Elt F) X6), (arg8.view.read (Elt F) X8)) : St F) (k0_t1_loop i).trips).2.2.1⌝) ∗ (∃ f, (arg7.view.loc (c : Thread nD τ) ↦[arg7.view.set]{fullShare} f)) ∗ (∃ f, (arg8.view.loc (c : Thread nD τ) ↦[arg8.view.set]{fullShare} f) ∗ ⌜arg8.view.read (Elt F) f = (runL1 i (arg2.view.read (Elt F) X2) (arg3.view.read (Elt F) X3) (arg4.view.read (Elt F) X4) ((v14, v15, (arg6.view.read (Elt F) X6), (arg8.view.read (Elt F) X8)) : St F) (k0_t1_loop i).trips).2.2.2⌝) ∗ ⌜r.1 = (runL1 i (arg2.view.read (Elt F) X2) (arg3.view.read (Elt F) X3) (arg4.view.read (Elt F) X4) ((v14, v15, (arg6.view.read (Elt F) X6), (arg8.view.read (Elt F) X8)) : St F) (k0_t1_loop i).trips).1⌝ ∗ ⌜r.2.1 = (runL1 i (arg2.view.read (Elt F) X2) (arg3.view.read (Elt F) X3) (arg4.view.read (Elt F) X4) ((v14, v15, (arg6.view.read (Elt F) X6), (arg8.view.read (Elt F) X8)) : St F) (k0_t1_loop i).trips).2.1⌝) : sProp 𝕄)) := by
  simp only [k0_part16_eq_skeleton]; unfold k0_part16_skel
  iintro ⟨H2, H3, H4, H5, H6, H7, H8⟩

  sl_exec
  sl_step
  have hT : Scf.trips (k0_t2_loop i).lb (k0_t2_loop i).ub (k0_t2_loop i).st = 0 := t2_trips i
  rw [hT]
  have e := st1_eq (F := F) Variants.none c none i arg2 harg2 arg3 harg3 arg4 harg4 arg5 harg5 arg6 harg6 arg7 harg7 arg8 harg8 v0 v14 v15 c0_i32_14 v33 X2 X3 X4 X6 X7 X8 (v14, v15) (k0_t1_loop i).trips le_rfl
  isplitl [H2]; · iexact H2
  isplitl [H3]; · iexact H3
  isplitl [H4]; · iexact H4
  isplitl [H5]; · iexact H5
  isplitl [H6]
  · iexists _
    isplitl [H6]; · iexact H6
    ipureintro
    exact congrArg (fun x : St F => x.2.2.1) e
  isplitl [H7]; · iexists _; iexact H7
  isplitl [H8]
  · iexists _
    isplitl [H8]; · iexact H8
    ipureintro
    exact congrArg (fun x : St F => x.2.2.2) e
  isplit
  · ipureintro
    exact congrArg (fun x : St F => x.1) e
  ipureintro
  exact congrArg (fun x : St F => x.2.1) e

set_option maxHeartbeats 4000000 in
theorem part17B_run (c : Dev nD) (i : grid0.Coords) (arg2 : Memref sig .tc .vmem S1536x256 .bf16) (harg2 : arg2.IsWhole) (arg3 : Memref sig .tc .vmem S16896x256 .bf16) (harg3 : arg3.IsWhole) (arg4 : Memref sig .tc .vmem S1x33x144x512 .bf16) (harg4 : arg4.IsWhole) (arg5 : Memref sig .tc .vmem S1536x128 .f32) (harg5 : arg5.IsWhole) (arg6 : Memref sig .tc .vmem S512x1536 .f32) (harg6 : arg6.IsWhole) (arg7 : Memref sig .tc .vmem S512x1536 .f32) (harg7 : arg7.IsWhole) (arg8 : Memref sig .tc .vmem S144x1536 .f32) (harg8 : arg8.IsWhole) (v0 : BitVec 32) (v39_0 : FVec F S1x1536 .f32) (v39_1 : FVec F S1x1536 .f32) (v57 : BitVec 32) (v67 : BitVec 32) (c2_i32 : BitVec 32) (v68 : BitVec 32) (v73 : BitVec 32) (c0_i32_34 : BitVec 32) (hc : ¬ k0_cond1 i = 1#1) (E : Set ℕ) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) :
    iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8))
      ⊢ wp frame (wpE (defs₀ (F := F)) Variants.none (c : Thread nD τ) none) E (k0_part17 (F := F) i arg2 harg2 arg3 harg3 arg4 harg4 arg5 harg5 arg6 harg6 arg7 harg7 arg8 harg8 v0 v39_0 v39_1 v57 v67 c2_i32 v68 v73 c0_i32_34) (fun r => (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (∃ f, (arg6.view.loc (c : Thread nD τ) ↦[arg6.view.set]{fullShare} f) ∗ ⌜arg6.view.read (Elt F) f = (runL3 i (arg2.view.read (Elt F) X2) (arg3.view.read (Elt F) X3) (arg4.view.read (Elt F) X4) ((v39_0, v39_1, (arg6.view.read (Elt F) X6), (arg8.view.read (Elt F) X8)) : St F) (k0_t3_loop i).trips).2.2.1⌝) ∗ (∃ f, (arg7.view.loc (c : Thread nD τ) ↦[arg7.view.set]{fullShare} f)) ∗ (∃ f, (arg8.view.loc (c : Thread nD τ) ↦[arg8.view.set]{fullShare} f) ∗ ⌜arg8.view.read (Elt F) f = (runL3 i (arg2.view.read (Elt F) X2) (arg3.view.read (Elt F) X3) (arg4.view.read (Elt F) X4) ((v39_0, v39_1, (arg6.view.read (Elt F) X6), (arg8.view.read (Elt F) X8)) : St F) (k0_t3_loop i).trips).2.2.2⌝) ∗ ⌜r.1 = (runL3 i (arg2.view.read (Elt F) X2) (arg3.view.read (Elt F) X3) (arg4.view.read (Elt F) X4) ((v39_0, v39_1, (arg6.view.read (Elt F) X6), (arg8.view.read (Elt F) X8)) : St F) (k0_t3_loop i).trips).1⌝ ∗ ⌜r.2.1 = (runL3 i (arg2.view.read (Elt F) X2) (arg3.view.read (Elt F) X3) (arg4.view.read (Elt F) X4) ((v39_0, v39_1, (arg6.view.read (Elt F) X6), (arg8.view.read (Elt F) X8)) : St F) (k0_t3_loop i).trips).2.1⌝) : sProp 𝕄)) := by
  simp only [k0_part17_eq_skeleton]; unfold k0_part17_skel
  iintro ⟨H2, H3, H4, H5, H6, H7, H8⟩

  sl_exec
  sl_step
  have hT : Scf.trips (k0_t4_loop i).lb (k0_t4_loop i).ub (k0_t4_loop i).st = 0 := t4_trips i
  rw [hT]
  have e := st3_eq (F := F) Variants.none c none i arg2 harg2 arg3 harg3 arg4 harg4 arg5 harg5 arg6 harg6 arg7 harg7 arg8 harg8 v0 v39_0 v39_1 v57 v67 c2_i32 v68 v73 c0_i32_34 X2 X3 X4 X6 X7 X8 (v39_0, v39_1) (k0_t3_loop i).trips le_rfl
  isplitl [H2]; · iexact H2
  isplitl [H3]; · iexact H3
  isplitl [H4]; · iexact H4
  isplitl [H5]; · iexact H5
  isplitl [H6]
  · iexists _
    isplitl [H6]; · iexact H6
    ipureintro
    exact congrArg (fun x : St F => x.2.2.1) e
  isplitl [H7]; · iexists _; iexact H7
  isplitl [H8]
  · iexists _
    isplitl [H8]; · iexact H8
    ipureintro
    exact congrArg (fun x : St F => x.2.2.2) e
  isplit
  · ipureintro
    exact congrArg (fun x : St F => x.1) e
  ipureintro
  exact congrArg (fun x : St F => x.2.1) e

set_option maxHeartbeats 4000000 in
theorem part17A_run (c : Dev nD) (i : grid0.Coords) (arg2 : Memref sig .tc .vmem S1536x256 .bf16) (harg2 : arg2.IsWhole) (arg3 : Memref sig .tc .vmem S16896x256 .bf16) (harg3 : arg3.IsWhole) (arg4 : Memref sig .tc .vmem S1x33x144x512 .bf16) (harg4 : arg4.IsWhole) (arg5 : Memref sig .tc .vmem S1536x128 .f32) (harg5 : arg5.IsWhole) (arg6 : Memref sig .tc .vmem S512x1536 .f32) (harg6 : arg6.IsWhole) (arg7 : Memref sig .tc .vmem S512x1536 .f32) (harg7 : arg7.IsWhole) (arg8 : Memref sig .tc .vmem S144x1536 .f32) (harg8 : arg8.IsWhole) (v0 : BitVec 32) (v39_0 : FVec F S1x1536 .f32) (v39_1 : FVec F S1x1536 .f32) (v57 : BitVec 32) (v67 : BitVec 32) (c2_i32 : BitVec 32) (v68 : BitVec 32) (v73 : BitVec 32) (c0_i32_34 : BitVec 32) (hc : k0_cond1 i = 1#1) (E : Set ℕ) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) :
    iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8))
      ⊢ wp frame (wpE (defs₀ (F := F)) Variants.none (c : Thread nD τ) none) E (k0_part17 (F := F) i arg2 harg2 arg3 harg3 arg4 harg4 arg5 harg5 arg6 harg6 arg7 harg7 arg8 harg8 v0 v39_0 v39_1 v57 v67 c2_i32 v68 v73 c0_i32_34) (fun r => (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (∃ f, (arg5.view.loc (c : Thread nD τ) ↦[arg5.view.set]{fullShare} f) ∗ ⌜arg5.view.read (Elt F) f = quot (accA i hc (arg2.view.read (Elt F) X2) (arg3.view.read (Elt F) X3) (arg4.view.read (Elt F) X4) (runL3 i (arg2.view.read (Elt F) X2) (arg3.view.read (Elt F) X3) (arg4.view.read (Elt F) X4) ((v39_0, v39_1, (arg6.view.read (Elt F) X6), (arg8.view.read (Elt F) X8)) : St F) (k0_t3_loop i).trips).2.1 (runL3 i (arg2.view.read (Elt F) X2) (arg3.view.read (Elt F) X3) (arg4.view.read (Elt F) X4) ((v39_0, v39_1, (arg6.view.read (Elt F) X6), (arg8.view.read (Elt F) X8)) : St F) (k0_t3_loop i).trips).2.2.1 (runL3 i (arg2.view.read (Elt F) X2) (arg3.view.read (Elt F) X3) (arg4.view.read (Elt F) X4) ((v39_0, v39_1, (arg6.view.read (Elt F) X6), (arg8.view.read (Elt F) X8)) : St F) (k0_t3_loop i).trips).2.2.2)⌝) ∗ (∃ f, (arg6.view.loc (c : Thread nD τ) ↦[arg6.view.set]{fullShare} f)) ∗ (∃ f, (arg7.view.loc (c : Thread nD τ) ↦[arg7.view.set]{fullShare} f)) ∗ (∃ f, (arg8.view.loc (c : Thread nD τ) ↦[arg8.view.set]{fullShare} f))) : sProp 𝕄)) := by
  simp only [k0_part17_eq_skeleton]; unfold k0_part17_skel
  iintro ⟨H2, H3, H4, H5, H6, H7, H8⟩
  have hcut := fun m X5 X6 X7 X8 => tailA_run (F := F) c i arg2 harg2 arg3 harg3 arg4 harg4 arg5 harg5 arg6 harg6 arg7 harg7 arg8 harg8 v0 m hc E X2 X3 X4 X5 X6 X7 X8
  sl_exec
  sl_step
  have hT : Scf.trips (k0_t4_loop i).lb (k0_t4_loop i).ub (k0_t4_loop i).st = 0 := t4_trips i
  isplitl [Hk0_part11_0]; · iexact Hk0_part11_0
  isplitl [Hk0_part11_1]; · iexact Hk0_part11_1
  isplitl [Hk0_part11_2]; · iexact Hk0_part11_2
  isplitl [Hk0_part11_3]
  · iexists _
    isplitl [Hk0_part11_3]; · iexact Hk0_part11_3
    ipureintro
    refine Eq.trans (by assumption) ?_
    rw [hT]
    have e := st3_eq (F := F) Variants.none c none i arg2 harg2 arg3 harg3 arg4 harg4 arg5 harg5 arg6 harg6 arg7 harg7 arg8 harg8 v0 v39_0 v39_1 v57 v67 c2_i32 v68 v73 c0_i32_34 X2 X3 X4 X6 X7 X8 (v39_0, v39_1) (k0_t3_loop i).trips le_rfl
    simp only [st_k0_t4.eq_1, List.nil_append]
    exact quotA_congr i hc _ _ _ (congrArg (fun x : St F => x.2.1) e) (congrArg (fun x : St F => x.2.2.1) e) (congrArg (fun x : St F => x.2.2.2) e)
  isplitl [Hk0_part11_5]; · iexists _; iexact Hk0_part11_5
  isplitl [Hk0_part11_6]; · iexists _; iexact Hk0_part11_6
  iexists _; iexact Hk0_part11_7

end Cert.Attn

end
-- ==== Proof.Attn.Run.lean ====
/- The runs of the body, one for each parity of the number of earlier blocks: what the output's buffer holds at the end. -/
module

public import proofs.«01_k».proof.Proof.Attn.Front

@[expose] public section

set_option maxRecDepth 16384

noncomputable section

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

/-- The running state after both loops. -/
def looped (i : grid0.Coords) (x0 : Vec F S1536x256 .bf16) (x1 : Vec F S16896x256 .bf16) (x2 : Vec F S1x33x144x512 .bf16) : St F :=
  runL3 i x0 x1 x2 (runL1 i x0 x1 x2 (start x0 x1) (k0_t1_loop i).trips) (k0_t3_loop i).trips

/-- The output's block, in the case of an even number of earlier blocks. -/
def outA (i : grid0.Coords) (h : k0_cond1 i = 1#1) (x0 : Vec F S1536x256 .bf16) (x1 : Vec F S16896x256 .bf16) (x2 : Vec F S1x33x144x512 .bf16) : Vec F S1536x128 .f32 :=
  quot (accA i h x0 x1 x2 (looped i x0 x1 x2).2.1 (looped i x0 x1 x2).2.2.1 (looped i x0 x1 x2).2.2.2)

/-- The accumulator in the case of an odd number: the staged block first, then the three diagonal blocks. -/
def accB (i : grid0.Coords) (h : k0_cond2 i = 1#1) (x0 : Vec F S1536x256 .bf16) (x1 : Vec F S16896x256 .bf16) (x2 : Vec F S1x33x144x512 .bf16) (s : St F) : FVec F S144x1536 .f32 :=
  accT x0 (View.ld x1 (Rect.unit (s := S16896x256) (k0_off15 i 1#32) S512x256.size (k0_off15_inb i h 1)))
    (View.ld x1 (Rect.unit (s := S16896x256) (k0_off15 i 2#32) S512x256.size (k0_off15_inb i h 2)))
    (View.ld x2 (Rect.unit (s := S1x33x144x512) (k0_off17 i 0#32) S1x1x144x512.size (k0_off17_inb i h 0)))
    (View.ld x2 (Rect.unit (s := S1x33x144x512) (k0_off17 i 1#32) S1x1x144x512.size (k0_off17_inb i h 1)))
    (View.ld x2 (Rect.unit (s := S1x33x144x512) (k0_off17 i 2#32) S1x1x144x512.size (k0_off17_inb i h 2)))
    (level s.1 s.2.1)
    (logit (View.ld x1 (Rect.unit (s := S16896x256) (k0_off15 i 0#32) S512x256.size (k0_off15_inb i h 0))) x0)
    (accum s.1 s.2.1 s.2.2.1 s.2.2.2 (View.ld x2 (Rect.unit (s := S1x33x144x512) (k0_off16 i) S1x1x144x512.size (k0_off16_inb i h))))

/-- The output's block in that case. -/
def outB (i : grid0.Coords) (h : k0_cond2 i = 1#1) (x0 : Vec F S1536x256 .bf16) (x1 : Vec F S16896x256 .bf16) (x2 : Vec F S1x33x144x512 .bf16) : Vec F S1536x128 .f32 :=
  quot (accB i h x0 x1 x2 (looped i x0 x1 x2))

theorem quotB_congr (i : grid0.Coords) (h : k0_cond2 i = 1#1) (x0 : Vec F S1536x256 .bf16) (x1 : Vec F S16896x256 .bf16) (x2 : Vec F S1x33x144x512 .bf16)
    {l l' m m' : FVec F S1x1536 .f32} {s s' : FVec F S512x1536 .f32} {a a' : FVec F S144x1536 .f32} (hl : l = l') (hm : m = m') (hs : s = s') (ha : a = a') :
    quot (accB i h x0 x1 x2 (l, m, s, a)) = quot (accB i h x0 x1 x2 (l', m', s', a')) := by rw [hl, hm, hs, ha]

theorem looped_of (i : grid0.Coords) (x0 : Vec F S1536x256 .bf16) (x1 : Vec F S16896x256 .bf16) (x2 : Vec F S1x33x144x512 .bf16) (a b : FVec F S1x1536 .f32) (s : FVec F S512x1536 .f32) (t : FVec F S144x1536 .f32)
    (ha : a = (start x0 x1).1) (hb : b = (start x0 x1).2.1) (hs : s = (start x0 x1).2.2.1) (ht : t = (start x0 x1).2.2.2)
    (a' b' : FVec F S1x1536 .f32) (s' : FVec F S512x1536 .f32) (t' : FVec F S144x1536 .f32)
    (ha' : a' = (runL1 i x0 x1 x2 (a, b, s, t) (k0_t1_loop i).trips).1) (hb' : b' = (runL1 i x0 x1 x2 (a, b, s, t) (k0_t1_loop i).trips).2.1)
    (hs' : s' = (runL1 i x0 x1 x2 (a, b, s, t) (k0_t1_loop i).trips).2.2.1) (ht' : t' = (runL1 i x0 x1 x2 (a, b, s, t) (k0_t1_loop i).trips).2.2.2) :
    runL3 i x0 x1 x2 (a', b', s', t') (k0_t3_loop i).trips = looped i x0 x1 x2 := by
  subst ha hb hs ht ha' hb' hs' ht'
  simp only [Prod.mk.eta]
  rw [looped]

set_option maxHeartbeats 2000000 in
theorem part12_run (c : Dev nD) (i : grid0.Coords) (arg2 : Memref sig .tc .vmem S1536x256 .bf16) (harg2 : arg2.IsWhole) (arg3 : Memref sig .tc .vmem S16896x256 .bf16) (harg3 : arg3.IsWhole) (arg4 : Memref sig .tc .vmem S1x33x144x512 .bf16) (harg4 : arg4.IsWhole) (arg5 : Memref sig .tc .vmem S1536x128 .f32) (harg5 : arg5.IsWhole) (arg6 : Memref sig .tc .vmem S512x1536 .f32) (harg6 : arg6.IsWhole) (arg7 : Memref sig .tc .vmem S512x1536 .f32) (harg7 : arg7.IsWhole) (arg8 : Memref sig .tc .vmem S144x1536 .f32) (harg8 : arg8.IsWhole) (v0 : BitVec 32) (l m : FVec F S1x1536 .f32) (h : k0_cond2 i = 1#1) (E : Set ℕ) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) :
    iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8))
      ⊢ wp frame (wpE (defs₀ (F := F)) Variants.none (c : Thread nD τ) none) E (k0_part12 (F := F) i arg2 harg2 arg3 harg3 arg4 harg4 arg5 harg5 arg6 harg6 arg7 harg7 arg8 harg8 v0 l m h) (fun r => (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (∃ f, (arg7.view.loc (c : Thread nD τ) ↦[arg7.view.set]{fullShare} f) ∗ ⌜arg7.view.read (Elt F) f = logit (View.ld (arg3.view.read (Elt F) X3) (Rect.unit (s := S16896x256) (k0_off15 i 0#32) S512x256.size (k0_off15_inb i h 0))) (arg2.view.read (Elt F) X2)⌝) ∗ (∃ f, (arg8.view.loc (c : Thread nD τ) ↦[arg8.view.set]{fullShare} f) ∗ ⌜arg8.view.read (Elt F) f = accum l m (arg6.view.read (Elt F) X6) (arg8.view.read (Elt F) X8) (View.ld (arg4.view.read (Elt F) X4) (Rect.unit (s := S1x33x144x512) (k0_off16 i) S1x1x144x512.size (k0_off16_inb i h)))⌝) ∗ ⌜r.1 = level l m⌝ ∗ ⌜r.2 = View.ld (arg3.view.read (Elt F) X3) (Rect.unit (s := S16896x256) (k0_off15 i 1#32) S512x256.size (k0_off15_inb i h 1))⌝) : sProp 𝕄)) := by
  simp only [k0_part12_eq_skeleton]; unfold k0_part12_skel
  iintro ⟨H2, H3, H4, H5, H6, H7, H8⟩
  sl_exec
  sl_step
  isplitl [H2]; · iexact H2
  isplitl [H3]; · iexact H3
  isplitl [H4]; · iexact H4
  isplitl [H5]; · iexact H5
  isplitl [H6]; · iexact H6
  isplitl [H7]
  · iexists _
    isplitl [H7]; · iexact H7
    ipureintro
    rw [read_whole (S := S512x1536) _ _ off2_zero]
    sl_unfold_words
    simp only [View.readAt_eq_ld, View.ld_unit_zero (S := S1536x256) off2_zero]
    with_unfolding_all rfl
  isplitl [H8]
  · iexists _
    isplitl [H8]; · iexact H8
    ipureintro
    rw [read_whole (S := S144x1536) _ _ off2_zero]
    sl_unfold_words
    simp only [View.readAt_eq_ld, View.ld_unit_zero (S := S512x1536) off2_zero, View.ld_unit_zero (S := S144x1536) off2_zero]
    rfl
  isplit
  · ipureintro
    rfl
  ipureintro
  dsimp only
  sl_unfold_words
  simp only [View.readAt_eq_ld]

set_option maxHeartbeats 4000000 in
theorem runA (c : Dev nD) (i : grid0.Coords) (arg2 : Memref sig .tc .vmem S1536x256 .bf16) (harg2 : arg2.IsWhole) (arg3 : Memref sig .tc .vmem S16896x256 .bf16) (harg3 : arg3.IsWhole) (arg4 : Memref sig .tc .vmem S1x33x144x512 .bf16) (harg4 : arg4.IsWhole) (arg5 : Memref sig .tc .vmem S1536x128 .f32) (harg5 : arg5.IsWhole) (arg6 : Memref sig .tc .vmem S512x1536 .f32) (harg6 : arg6.IsWhole) (arg7 : Memref sig .tc .vmem S512x1536 .f32) (harg7 : arg7.IsWhole) (arg8 : Memref sig .tc .vmem S144x1536 .f32) (harg8 : arg8.IsWhole) (hc0 : k0_cond1 i = 1#1) (hc1 : ¬ k0_cond2 i = 1#1) (x0 : Vec F S1536x256 .bf16) (x1 : Vec F S16896x256 .bf16) (x2 : Vec F S1x33x144x512 .bf16) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (iprop(owns (c : Thread nD τ) arg2 fullShare x0 ∗ owns (c : Thread nD τ) arg3 fullShare x1 ∗ owns (c : Thread nD τ) arg4 fullShare x2 ∗ owns (c : Thread nD τ) arg5 fullShare (outA i hc0 x0 x1 x2) ∗ (∃ d, owns (c : Thread nD τ) arg6 fullShare d) ∗ (∃ d, owns (c : Thread nD τ) arg7 fullShare d) ∗ (∃ d, owns (c : Thread nD τ) arg8 fullShare d)) -∗ K ⟨⟩))
      ⊢ wp frame (wpE (defs₀ (F := F)) Variants.none (c : Thread nD τ) none) E (cc0_attn_p (F := F) i arg2 harg2 arg3 harg3 arg4 harg4 arg5 harg5 arg6 harg6 arg7 harg7 arg8 harg8) K := by
  simp only [cc0_attn_p_eq_skeleton]; unfold cc0_attn_p_skel

  unfold owns
  iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, Hk⟩
  subst hf0 hf1 hf2
  have hc15 := fun X5 X6 X7 X8 => part15_run (F := F) c i arg2 harg2 arg3 harg3 arg4 harg4 arg5 harg5 arg6 harg6 arg7 harg7 arg8 harg8 E f0 f1 f2 X5 X6 X7 X8
  have hc16 := fun v0 v14 v15 c0 v33 X5 X6 X7 X8 => part16_run (F := F) c i arg2 harg2 arg3 harg3 arg4 harg4 arg5 harg5 arg6 harg6 arg7 harg7 arg8 harg8 v0 v14 v15 c0 v33 E f0 f1 f2 X5 X6 X7 X8
  have hc17 := fun v0 a b v57 v67 c2 v68 v73 c0 X5 X6 X7 X8 => part17A_run (F := F) c i arg2 harg2 arg3 harg3 arg4 harg4 arg5 harg5 arg6 harg6 arg7 harg7 arg8 harg8 v0 a b v57 v67 c2 v68 v73 c0 hc0 E f0 f1 f2 X5 X6 X7 X8
  sl_exec (disch := first | sl_exact hc0 | sl_exact hc1)
  sl_step
  iapply Hk
  isplitl [Hk0_part17_0]
  · iexists _; isplitr; · ipureintro; rfl
    iexact Hk0_part17_0
  isplitl [Hk0_part17_1]
  · iexists _; isplitr; · ipureintro; rfl
    iexact Hk0_part17_1
  isplitl [Hk0_part17_2]
  · iexists _; isplitr; · ipureintro; rfl
    iexact Hk0_part17_2
  isplitl [Hk0_part17_3]
  · iexists _
    isplitr; swap; · iexact Hk0_part17_3
    ipureintro
    have L := looped_of i (arg2.view.read (Elt F) f0) (arg3.view.read (Elt F) f1) (arg4.view.read (Elt F) f2) _ _ _ _ hk0_part15_9 hk0_part15_10 hk0_part15_5 hk0_part15_8 _ _ _ _ hk0_part16_9 hk0_part16_10 hk0_part16_5 hk0_part16_8
    exact hk0_part17_4.trans (congrArg (fun s : St F => quot (accA i hc0 (arg2.view.read (Elt F) f0) (arg3.view.read (Elt F) f1) (arg4.view.read (Elt F) f2) s.2.1 s.2.2.1 s.2.2.2)) L)
  isplitl [Hk0_part17_5]
  · iexists _, _; isplitr; swap; · iexact Hk0_part17_5
    ipureintro; rfl
  isplitl [Hk0_part17_6]
  · iexists _, _; isplitr; swap; · iexact Hk0_part17_6
    ipureintro; rfl
  iexists _, _; isplitr; swap; · iexact Hk0_part17_7
  ipureintro; rfl

set_option maxHeartbeats 4000000 in
theorem runB (c : Dev nD) (i : grid0.Coords) (arg2 : Memref sig .tc .vmem S1536x256 .bf16) (harg2 : arg2.IsWhole) (arg3 : Memref sig .tc .vmem S16896x256 .bf16) (harg3 : arg3.IsWhole) (arg4 : Memref sig .tc .vmem S1x33x144x512 .bf16) (harg4 : arg4.IsWhole) (arg5 : Memref sig .tc .vmem S1536x128 .f32) (harg5 : arg5.IsWhole) (arg6 : Memref sig .tc .vmem S512x1536 .f32) (harg6 : arg6.IsWhole) (arg7 : Memref sig .tc .vmem S512x1536 .f32) (harg7 : arg7.IsWhole) (arg8 : Memref sig .tc .vmem S144x1536 .f32) (harg8 : arg8.IsWhole) (hc0 : ¬ k0_cond1 i = 1#1) (hc1 : k0_cond2 i = 1#1) (x0 : Vec F S1536x256 .bf16) (x1 : Vec F S16896x256 .bf16) (x2 : Vec F S1x33x144x512 .bf16) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (iprop(owns (c : Thread nD τ) arg2 fullShare x0 ∗ owns (c : Thread nD τ) arg3 fullShare x1 ∗ owns (c : Thread nD τ) arg4 fullShare x2 ∗ owns (c : Thread nD τ) arg5 fullShare (outB i hc1 x0 x1 x2) ∗ (∃ d, owns (c : Thread nD τ) arg6 fullShare d) ∗ (∃ d, owns (c : Thread nD τ) arg7 fullShare d) ∗ (∃ d, owns (c : Thread nD τ) arg8 fullShare d)) -∗ K ⟨⟩))
      ⊢ wp frame (wpE (defs₀ (F := F)) Variants.none (c : Thread nD τ) none) E (cc0_attn_p (F := F) i arg2 harg2 arg3 harg3 arg4 harg4 arg5 harg5 arg6 harg6 arg7 harg7 arg8 harg8) K := by
  simp only [cc0_attn_p_eq_skeleton]; unfold cc0_attn_p_skel
  simp only [k0_part13_eq_skeleton, k0_part14_eq_skeleton]
  unfold owns
  iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, Hk⟩
  subst hf0 hf1 hf2
  have hc15 := fun X5 X6 X7 X8 => part15_run (F := F) c i arg2 harg2 arg3 harg3 arg4 harg4 arg5 harg5 arg6 harg6 arg7 harg7 arg8 harg8 E f0 f1 f2 X5 X6 X7 X8
  have hc16 := fun v0 v14 v15 c0 v33 X5 X6 X7 X8 => part16_run (F := F) c i arg2 harg2 arg3 harg3 arg4 harg4 arg5 harg5 arg6 harg6 arg7 harg7 arg8 harg8 v0 v14 v15 c0 v33 E f0 f1 f2 X5 X6 X7 X8
  have hc17 := fun v0 a b v57 v67 c2 v68 v73 c0 X5 X6 X7 X8 => part17B_run (F := F) c i arg2 harg2 arg3 harg3 arg4 harg4 arg5 harg5 arg6 harg6 arg7 harg7 arg8 harg8 v0 a b v57 v67 c2 v68 v73 c0 hc0 E f0 f1 f2 X5 X6 X7 X8
  have hc12 := fun v0 l m X5 X6 X7 X8 => part12_run (F := F) c i arg2 harg2 arg3 harg3 arg4 harg4 arg5 harg5 arg6 harg6 arg7 harg7 arg8 harg8 v0 l m hc1 E f0 f1 f2 X5 X6 X7 X8
  sl_exec (disch := first | sl_exact hc0 | sl_exact hc1)
  sl_step
  iapply Hk
  isplitl [Hk0_part12_0]
  · iexists _; isplitr; · ipureintro; rfl
    iexact Hk0_part12_0
  isplitl [Hk0_part12_1]
  · iexists _; isplitr; · ipureintro; rfl
    iexact Hk0_part12_1
  isplitl [Hk0_part12_2]
  · iexists _; isplitr; · ipureintro; rfl
    iexact Hk0_part12_2
  isplitl [Hk0_part12_3]
  · iexists _
    isplitr; swap; · iexact Hk0_part12_3
    ipureintro
    have L := looped_of i (arg2.view.read (Elt F) f0) (arg3.view.read (Elt F) f1) (arg4.view.read (Elt F) f2) _ _ _ _ hk0_part15_9 hk0_part15_10 hk0_part15_5 hk0_part15_8 _ _ _ _ hk0_part16_9 hk0_part16_10 hk0_part16_5 hk0_part16_8
    rw [read_whole (S := S1536x128) _ _ off2_zero]
    sl_unfold_words
    simp only [View.readCov_cons_toLoadRect, View.readAt_eq_ld, View.ld_unit_zero (S := S512x1536) off2_zero, View.ld_unit_zero (S := S144x1536) off2_zero]
    simp only [View.readCov_eq_canon', View.canon_unit_zero (S := S144x1536) off2_zero]
    have M : looped i (arg2.view.read (Elt F) f0) (arg3.view.read (Elt F) f1) (arg4.view.read (Elt F) f2)
        = (k0_part17_r_1, k0_part17_r_2, arg6.view.read (Elt F) fk0_part17_0, arg8.view.read (Elt F) fk0_part17_2) :=
      L.symm.trans (Prod.ext hk0_part17_9.symm (Prod.ext hk0_part17_10.symm (Prod.ext hk0_part17_5.symm hk0_part17_8.symm)))
    have e1 : k0_part12_r_1 = _ := hk0_part12_9
    have e2 : k0_part12_r_2 = _ := hk0_part12_10
    unfold outB
    rw [M, hk0_part12_6, hk0_part12_8, e1, e2]
    unfold quot accB accT
    rfl
  isplitl [Hk0_part12_4]
  · iexists _, _; isplitr; swap; · iexact Hk0_part12_4
    ipureintro; rfl
  isplitl [Hk0_part12_5]
  · iexists _, _; isplitr; swap; · iexact Hk0_part12_5
    ipureintro; rfl
  iexists _, _; isplitr; swap; · iexact Hk0_part12_7
  ipureintro; rfl

end Cert.Attn

end
-- ==== Proof.Attn.Frame.lean ====
/- The launch of the attention kernel: what each point leaves, and that the arguments end unchanged. -/
module

public import proofs.«01_k».proof.Proof.Attn.Run
public import Idealize.ShloMosaic.Lib.Claim

@[expose] public section

set_option maxRecDepth 16384

noncomputable section

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

theorem cond2_of (i : grid0.Coords) (h : ¬ k0_cond1 i = 1#1) : k0_cond2 i = 1#1 := by revert i; decide +kernel
theorem not_cond2 (i : grid0.Coords) (h : k0_cond1 i = 1#1) : ¬ k0_cond2 i = 1#1 := by revert i; decide +kernel

/-- The output's block at a point, from the point's queries, keys and values. -/
def outAt (i : grid0.Coords) (x0 : Vec F S1536x256 .bf16) (x1 : Vec F S16896x256 .bf16) (x2 : Vec F S1x33x144x512 .bf16) : Vec F S1536x128 .f32 :=
  if h : k0_cond1 i = 1#1 then outA i h x0 x1 x2 else outB i (cond2_of i h) x0 x1 x2

theorem outAt_A (i : grid0.Coords) (h : k0_cond1 i = 1#1) (h' : ¬ k0_cond2 i = 1#1) (x0 : Vec F S1536x256 .bf16) (x1 : Vec F S16896x256 .bf16) (x2 : Vec F S1x33x144x512 .bf16) :
    outAt i x0 x1 x2 = outA i h x0 x1 x2 := dif_pos h
theorem outAt_B (i : grid0.Coords) (h : ¬ k0_cond1 i = 1#1) (h' : k0_cond2 i = 1#1) (x0 : Vec F S1536x256 .bf16) (x1 : Vec F S16896x256 .bf16) (x2 : Vec F S1x33x144x512 .bf16) :
    outAt i x0 x1 x2 = outB i h' x0 x1 x2 := dif_neg h

/-! ## The pipeline's proof data -/

/-- What every staging buffer holds after each point: the inputs' their blocks, the output's its block of results. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt (grid0.coords t) (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outAt (grid0.coords t) (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body starts from at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- What it leaves. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 800000 in
/-- The body at any point, by the parity of the number of earlier blocks. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  by_cases h0 : k0_cond1 (grid0.coords t) = 1#1
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3_A t h0 (not_cond2 _ h0)], after0_3]
    rw [outAt_A _ h0 (not_cond2 _ h0)]
    iintro ⟨⟨⟨HS0, HS1, HS2⟩, Hg⟩, Ho, ⟨%d0, H0⟩, ⟨%d1, H1⟩, ⟨%d2, H2⟩, ⟨%d3, H3⟩⟩
    iapply (runA c (grid0.coords t) _ _ _ _ _ _ _ _ _ _ _ _ _ _ h0 (not_cond2 _ h0) (iblk m c 0 t) (iblk m c 1 t) (iblk m c 2 t) Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    iintro ⟨H0, H1, H2, H3, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    iexact H3
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3_B t h0 (cond2_of _ h0)], after0_3]
    rw [outAt_B _ h0 (cond2_of _ h0)]
    iintro ⟨⟨⟨HS0, HS1, HS2⟩, Hg⟩, Ho, ⟨%d0, H0⟩, ⟨%d1, H1⟩, ⟨%d2, H2⟩, ⟨%d3, H3⟩⟩
    iapply (runB c (grid0.coords t) _ _ _ _ _ _ _ _ _ _ _ _ _ _ h0 (cond2_of _ h0) (iblk m c 0 t) (iblk m c 1 t) (iblk m c 2 t) Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    iintro ⟨H0, H1, H2, H3, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    iexact H3

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The launch, with every counter at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The launch: every array at what the points left. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The arguments end unchanged and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Attn

end
-- ==== Proof.Attn.Pay.lean ====
/- The kernel's stored values read entry by entry at the ideal instance: logits as sums of products, block maxima as
   maxima, the level and accumulator updates, the causal blocks, the final division. -/
module

public import proofs.«01_k».proof.Proof.Attn.Trip
public import Idealize.ShloMosaic.Lib.Pointwise
public import Idealize.ShloMosaic.Lib.WordCmp

@[expose] public section

set_option maxRecDepth 16384

noncomputable section

namespace Cert.Attn

open Idealize.ShloMosaic Idealize.ShloMosaic.TcCoe
open Cert.KernelIdeal Cert.KernelIdeal.Gen

/-- The largest of finitely many extended reals. -/
abbrev cmax {N : ℕ} (f : Fin N → EReal) : EReal := Finset.univ.fold max ⊥ f

theorem bits_bot : Ideal.ofBits .f32 4286578688#32 = ⊥ := by simp [Ideal.ofBits, Ideal.ieee]

theorem mask_bot : Named.named (F := Ideal) Cert.KernelIdeal.κ "mask" (φ := .f32) 4048155338#32 = (⊥ : EReal) := by
  exact IdealRules.named_const.ideal_named_scalar _ _ _ _ rfl

/-- The causal selection: the compared words are positions below 2³¹. -/
theorem sel_le {x y : ℕ} (hx : x < 2147483648) (hy : y < 2147483648) (a b : EReal) :
    Scalar.select (IntOp.cmpi .sge (BitVec.ofNat 32 y) (BitVec.ofNat 32 x)) a b = if x ≤ y then a else b := by
  rw [WordCmp.cmpi_sge_ofNat (by omega) (by omega)]
  by_cases h : x ≤ y <;> simp [Scalar.select, h]

theorem logit_apply (K : FVec Ideal S512x256 .bf16) (Q : FVec Ideal S1536x256 .bf16) (r : Fin 512) (y : Fin 1536) :
    logit K Q (ix2 r y) = ∑ l : Fin 256, K (ix2 r l) * Q (ix2 y l) := by
  unfold logit
  unfold_payloads
  pointwise

theorem logit2_apply (K : FVec Ideal S512x256 .bf16) (Q : FVec Ideal S1024x256 .bf16) (r : Fin 512) (y : Fin 1024) :
    (k0_pay45 K Q : FVec Ideal S512x1024 .f32) (ix2 r y) = ∑ l : Fin 256, K (ix2 r l) * Q (ix2 y l) := by
  unfold_payloads
  pointwise

theorem logit3_apply (K : FVec Ideal S512x256 .bf16) (Q : FVec Ideal S512x256 .bf16) (r : Fin 512) (y : Fin 512) :
    (k0_pay49 K Q : FVec Ideal S512x512 .f32) (ix2 r y) = ∑ l : Fin 256, K (ix2 r l) * Q (ix2 y l) := by
  unfold_payloads
  pointwise

theorem lmax_apply (K : FVec Ideal S512x256 .bf16) (Q : FVec Ideal S1536x256 .bf16) (y : Fin 1536) :
    lmax K Q (ix2 0 y) = cmax fun r : Fin 512 => ∑ l : Fin 256, K (ix2 r l) * Q (ix2 y l) := by
  unfold lmax cmax
  unfold_payloads
  pointwise
  try simp only [bits_bot]

theorem level_apply (mA m : FVec Ideal S1x1536 .f32) (y : Fin 1536) :
    level mA m (ix2 0 y) = max (m (ix2 0 y)) (mA (ix2 0 y)) := by
  unfold level
  unfold_payloads
  pointwise

theorem accum_apply (mA m : FVec Ideal S1x1536 .f32) (s : FVec Ideal S512x1536 .f32) (a : FVec Ideal S144x1536 .f32)
    (V : Vec Ideal S1x1x144x512 .bf16) (d : Fin 144) (y : Fin 1536) :
    accum mA m s a V (ix2 d y)
      = Ideal.exp2 (m (ix2 0 y) - max (m (ix2 0 y)) (mA (ix2 0 y))) * a (ix2 d y)
        + ∑ r : Fin 512, V (ix4 0 0 d r) * Ideal.exp2 (s (ix2 r y) - max (m (ix2 0 y)) (mA (ix2 0 y))) := by
  unfold accum
  unfold_payloads
  pointwise
  rfl

theorem out_apply (n : FVec Ideal S128x1536 .f32) (l : FVec Ideal S1x1536 .f32) (y : Fin 1536) (d : Fin 128) :
    (k0_pay55 n l : FVec Ideal S1536x128 .f32) (ix2 y d) = Ideal.div (n (ix2 d y)) (l (ix2 0 y)) := by
  unfold_payloads
  pointwise

end Cert.Attn

end
-- ==== Proof.Attn.Online.lean ====
/- The arithmetic of the online softmax, over the reals inside the extended reals: one query, its logits `s` in base
   two, one column `w` of values, keys taken in blocks of 512. -/
module

public import Idealize.ShloMosaic.PureOps.Ideal

@[expose] public section

noncomputable section

namespace Cert.Attn

open Idealize.ShloMosaic

/-- `2` to a real power, as the ideal instance's base-two exponential has it. -/
abbrev p2 (x : ℝ) : ℝ := Real.rpow 2 x

theorem p2_add (x y : ℝ) : p2 (x + y) = p2 x * p2 y := Real.rpow_add (by norm_num) x y

theorem p2_pos (x : ℝ) : 0 < p2 x := Real.rpow_pos_of_pos (by norm_num) x

/-- The weighted sum of the keys below `N` that the query at position `q` sees, relative to the level `μ`. -/
def psum (s w : ℕ → ℝ) (q N : ℕ) (μ : ℝ) : ℝ :=
  ∑ k ∈ Finset.range N, if k ≤ q then p2 (s k - μ) * w k else 0

/-- Changing the level scales the sum. -/
theorem psum_shift (s w : ℕ → ℝ) (q N : ℕ) (μ ν : ℝ) : p2 (μ - ν) * psum s w q N μ = psum s w q N ν := by
  unfold psum
  rw [Finset.mul_sum]
  refine Finset.sum_congr rfl fun k _ => ?_
  split
  · rw [← mul_assoc, ← p2_add]; congr 2; ring
  · simp

/-- One more block of 512 keys. -/
theorem psum_block (s w : ℕ → ℝ) (q n : ℕ) (μ : ℝ) :
    psum s w q (512 * (n + 1)) μ = psum s w q (512 * n) μ
      + ∑ r : Fin 512, if 512 * n + r.val ≤ q then p2 (s (512 * n + r.val) - μ) * w (512 * n + r.val) else 0 := by
  unfold psum
  rw [show 512 * (n + 1) = 512 * n + 512 by ring, Finset.sum_range_add]
  rw [Finset.sum_range (fun r => if 512 * n + r ≤ q then p2 (s (512 * n + r) - μ) * w (512 * n + r) else 0)]

/-- Keys past the query add nothing. -/
theorem psum_past (s w : ℕ → ℝ) (q N : ℕ) (μ : ℝ) (h : q < N) : psum s w q N μ = psum s w q (q + 1) μ := by
  unfold psum
  refine (Finset.sum_subset (fun k hk => ?_) fun k _ hk => ?_).symm
  · simp only [Finset.mem_range] at hk ⊢; omega
  · rw [if_neg]; simp only [Finset.mem_range] at hk; omega

/-- The running state after `n` blocks: nothing yet, or a finite level `μ` with the sum so far relative to it. -/
def Inv (s w : ℕ → ℝ) (q n : ℕ) (m a : EReal) : Prop :=
  (m = ⊥ ∧ n = 0 ∧ a = 0) ∨ ∃ μ : ℝ, m = (μ : EReal) ∧ a = ((psum s w q (512 * n) μ : ℝ) : EReal)

theorem Inv.start (s w : ℕ → ℝ) (q : ℕ) : Inv s w q 0 ⊥ 0 := .inl ⟨rfl, rfl, rfl⟩

theorem coe_max (x y : ℝ) : ((max x y : ℝ) : EReal) = max (x : EReal) (y : EReal) :=
  EReal.coe_strictMono.monotone.map_max

theorem div_real {x y : ℝ} (h : y ≠ 0) : Ideal.div (x : EReal) (y : EReal) = ((x / y : ℝ) : EReal) := by
  rw [Ideal.div_coe h, ← EReal.coe_mul, mul_one_div]

theorem coe_sum {ι : Type} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- Taking a block: its visible logits finite, the others `−∞`, its level `β` finite. -/
theorem Inv.step {s w : ℕ → ℝ} {q n : ℕ} {m a : EReal} (h : Inv s w q n m a) (β : ℝ) (t W : Fin 512 → EReal)
    (hW : ∀ r, W r = ((w (512 * n + r.val) : ℝ) : EReal))
    (ht : ∀ r, t r = if 512 * n + r.val ≤ q then ((s (512 * n + r.val) : ℝ) : EReal) else ⊥) :
    Inv s w q (n + 1) (max m β)
      (Ideal.exp2 (m - max m β) * a + ∑ r, W r * Ideal.exp2 (t r - max m β)) := by
  have key : ∀ ν : ℝ, (∑ r, W r * Ideal.exp2 (t r - (ν : EReal)))
      = ((∑ r : Fin 512, if 512 * n + r.val ≤ q then p2 (s (512 * n + r.val) - ν) * w (512 * n + r.val) else 0 : ℝ) : EReal) := by
    intro ν
    rw [coe_sum]
    refine Finset.sum_congr rfl fun r _ => ?_
    rw [hW, ht]
    split
    · rw [← EReal.coe_sub, Ideal.exp2_coe, ← EReal.coe_mul, mul_comm]
    · rw [EReal.bot_sub, Ideal.exp2_bot, mul_zero, EReal.coe_zero]
  rcases h with ⟨rfl, rfl, rfl⟩ | ⟨μ, rfl, rfl⟩
  · refine .inr ⟨β, by simp, ?_⟩
    rw [show max (⊥ : EReal) β = (β : EReal) by simp, key, mul_zero, zero_add, psum_block]
    simp [psum]
  · refine .inr ⟨max μ β, by rw [coe_max], ?_⟩
    rw [← coe_max, key, ← EReal.coe_sub, Ideal.exp2_coe, ← EReal.coe_mul, ← EReal.coe_add, psum_block,
      ← psum_shift s w q (512 * n) μ (max μ β)]

/-- A block wholly past the query leaves the state. -/
theorem Inv.skip {s w : ℕ → ℝ} {q n : ℕ} {m a : EReal} (h : Inv s w q n m a) (hq : q < 512 * n) :
    Inv s w q (n + 1) m a := by
  rcases h with ⟨_, rfl, _⟩ | ⟨μ, rfl, rfl⟩
  · omega
  · refine .inr ⟨μ, rfl, ?_⟩
    rw [psum_past s w q (512 * (n + 1)) μ (by omega), psum_past s w q (512 * n) μ hq]

/-- The attention of one query: the weighted mean of `w` over the keys it sees, weights two to the logit. -/
def mean (s w : ℕ → ℝ) (q : ℕ) : ℝ := psum s w q (q + 1) 0 / psum s (fun _ => 1) q (q + 1) 0

theorem psum_one_pos (s : ℕ → ℝ) (q : ℕ) (μ : ℝ) : 0 < psum s (fun _ => 1) q (q + 1) μ := by
  unfold psum
  refine Finset.sum_pos (fun k hk => ?_) ⟨0, by simp⟩
  rw [if_pos (by simp only [Finset.mem_range] at hk; omega), mul_one]
  exact p2_pos _

theorem mean_level (s w : ℕ → ℝ) (q : ℕ) (μ : ℝ) :
    psum s w q (q + 1) μ / psum s (fun _ => 1) q (q + 1) μ = mean s w q := by
  unfold mean
  rw [← psum_shift s w q (q + 1) 0 μ, ← psum_shift s (fun _ => 1) q (q + 1) 0 μ,
    mul_div_mul_left _ _ (p2_pos _).ne']

/-- Once every visible key is in, numerator over denominator is the attention. -/
theorem Inv.final {s w : ℕ → ℝ} {q n : ℕ} {m a b : EReal} (ha : Inv s w q n m a) (hb : Inv s (fun _ => 1) q n m b)
    (hq : q < 512 * n) : Ideal.div a b = ((mean s w q : ℝ) : EReal) := by
  rcases ha with ⟨_, rfl, _⟩ | ⟨μ, rfl, rfl⟩
  · omega
  rcases hb with ⟨_, rfl, _⟩ | ⟨ν, hν, rfl⟩
  · omega
  obtain rfl : μ = ν := EReal.coe_eq_coe_iff.mp hν
  rw [psum_past s w q _ μ hq, psum_past s (fun _ => 1) q _ μ hq,
    div_real (psum_one_pos s q μ).ne', mean_level]

/-- A maximum over finitely many values, none `+∞` and one of them not `−∞`, is finite. -/
theorem fold_max_real {N : ℕ} (t : Fin N → EReal) (h : ∀ r, t r ≠ ⊤) (r₀ : Fin N) (h₀ : t r₀ ≠ ⊥) :
    ∃ β : ℝ, Finset.univ.fold max ⊥ t = (β : EReal) := by
  have hlt : Finset.univ.fold max ⊥ t < ⊤ :=
    (Finset.fold_max_lt _).mpr ⟨bot_lt_top, fun r _ => lt_top_iff_ne_top.mpr (h r)⟩
  have hgt : ⊥ < Finset.univ.fold max ⊥ t :=
    (Finset.lt_fold_max _).mpr (.inr ⟨r₀, Finset.mem_univ _, bot_lt_iff_ne_bot.mpr h₀⟩)
  exact ⟨_, (EReal.coe_toReal hlt.ne hgt.ne').symm⟩

/-- The reference's row: the softmax of the natural-base logits, any finite level, times the values. -/
theorem softmax_row (s w : ℕ → ℝ) (q N : ℕ) (hq : q < N) (M : ℝ) (L V : Fin N → EReal)
    (hL : ∀ k, L k = if k.val ≤ q then ((s k.val * Real.log 2 : ℝ) : EReal) else ⊥)
    (hV : ∀ k, V k = ((w k.val : ℝ) : EReal)) :
    ∑ k, Ideal.div (Ideal.exp (L k - (M : EReal))) (∑ j, Ideal.exp (L j - (M : EReal))) * V k
      = ((mean s w q : ℝ) : EReal) := by
  have he : ∀ k : Fin N, Ideal.exp (L k - (M : EReal))
      = ((if k.val ≤ q then p2 (s k.val - M / Real.log 2) else 0 : ℝ) : EReal) := by
    intro k
    rw [hL]
    by_cases hk : k.val ≤ q
    · rw [if_pos hk, if_pos hk, ← EReal.coe_sub, Ideal.exp_coe]
      congr 1
      show Real.exp _ = Real.rpow 2 _
      rw [Real.rpow_eq_pow, Real.rpow_def_of_pos (by norm_num)]
      congr 1
      have : Real.log 2 ≠ 0 := (Real.log_pos (by norm_num)).ne'
      field_simp
    · rw [if_neg hk, if_neg hk, EReal.bot_sub, Ideal.exp_bot, EReal.coe_zero]
  have hden : (∑ j, Ideal.exp (L j - (M : EReal))) = ((psum s (fun _ => 1) q N (M / Real.log 2) : ℝ) : EReal) := by
    unfold psum
    rw [Finset.sum_range (fun k => if k ≤ q then p2 (s k - M / Real.log 2) * 1 else 0), coe_sum]
    refine Finset.sum_congr rfl fun k _ => ?_
    rw [he]; simp only [mul_one]
  have hpos : psum s (fun _ => 1) q N (M / Real.log 2) ≠ 0 := by
    rw [psum_past _ _ _ _ _ hq]; exact (psum_one_pos _ _ _).ne'
  rw [← mean_level s w q (M / Real.log 2), ← psum_past s w q N _ hq, ← psum_past s (fun _ => 1) q N _ hq]
  conv_rhs => unfold psum
  rw [hden, Finset.sum_range (fun k => if k ≤ q then p2 (s k - M / Real.log 2) * w k else 0), Finset.sum_div, coe_sum]
  refine Finset.sum_congr rfl fun k _ => ?_
  rw [he, hV, div_real hpos, ← EReal.coe_mul]
  congr 1
  unfold psum
  split
  · ring
  · simp

end Cert.Attn

end
-- ==== Proof.Attn.Block.lean ====
/- The running state of the earlier blocks, at the ideal instance: the staged block's logits and their maxima, the level
   and the sums so far. -/
module

public import proofs.«01_k».proof.Proof.Attn.Pay
public import proofs.«01_k».proof.Proof.Attn.Online
public import proofs.«01_k».proof.Proof.Attn.Run
public import Idealize.ShloMosaic.Lib.Pipeline.ValueKit

@[expose] public section

set_option maxRecDepth 16384

noncomputable section

namespace Cert.Attn

open Idealize.ShloMosaic Idealize.ShloMosaic.TcCoe
open Cert.KernelIdeal Cert.KernelIdeal.Gen

/-- The keys of block `n`, with the queries `Q`, give the real logits `s y (512 n + r)`. -/
def IsK (s : ℕ → ℕ → ℝ) (Q : Vec Ideal S1536x256 .bf16) (n : ℕ) (K : Vec Ideal S512x256 .bf16) : Prop :=
  ∀ (r : Fin 512) (y : Fin 1536), ∑ l : Fin 256, K (ix2 r l) * Q (ix2 y l) = ((s y.val (512 * n + r.val) : ℝ) : EReal)

/-- The values of block `n`, as real numbers `w d (512 n + r)`. -/
def IsV (w : ℕ → ℕ → ℝ) (n : ℕ) (V : Vec Ideal S1x1x144x512 .bf16) : Prop :=
  ∀ (d : Fin 144) (r : Fin 512), V (ix4 0 0 d r) = ((w d.val (512 * n + r.val) : ℝ) : EReal)

theorem isK_ld (s : ℕ → ℕ → ℝ) (x0 : Vec Ideal S1536x256 .bf16) (x1 : Vec Ideal S16896x256 .bf16)
    (h : ∀ (k : Fin 16896) (y : Fin 1536), ∑ l : Fin 256, x1 (ix2 k l) * x0 (ix2 y l) = ((s y.val k.val : ℝ) : EReal))
    (n : ℕ) (hn : n < 33) (off : Fin 2 → ℕ) (ho : off = ![512 * n, 0]) (inb : ∀ a, off a + S512x256.size a ≤ S16896x256.size a) :
    IsK s x0 n (View.ld x1 (Rect.unit (s := S16896x256) off S512x256.size inb)) := by
  subst ho
  intro r y
  have hr : 512 * n + r.val < 16896 := by have := r.isLt; omega
  rw [← h ⟨512 * n + r.val, hr⟩ y]
  refine Finset.sum_congr rfl fun l _ => ?_
  congr 1
  refine View.ld_unit_apply_of (S := S16896x256) x1 _ _ _ (ix2 r l) (ix2 ⟨512 * n + r.val, hr⟩ l) fun a => ?_
  fin_cases a
  · rfl
  · exact (Nat.zero_add _).symm

theorem isV_ld (w : ℕ → ℕ → ℝ) (x2 : Vec Ideal S1x33x144x512 .bf16)
    (h : ∀ (b : Fin 33) (d : Fin 144) (r : Fin 512), x2 (ix4 0 b d r) = ((w d.val (512 * b.val + r.val) : ℝ) : EReal))
    (n : ℕ) (hn : n < 33) (off : Fin 4 → ℕ) (ho : off = ![0, n, 0, 0]) (inb : ∀ a, off a + S1x1x144x512.size a ≤ S1x33x144x512.size a) :
    IsV w n (View.ld x2 (Rect.unit (s := S1x33x144x512) off S1x1x144x512.size inb)) := by
  subst ho
  intro d r
  rw [← h ⟨n, hn⟩ d r]
  refine View.ld_unit_apply_of (S := S1x33x144x512) x2 _ _ _ (ix4 0 0 d r) (ix4 0 ⟨n, hn⟩ d r) fun a => ?_
  fin_cases a
  · rfl
  · rfl
  · exact (Nat.zero_add _).symm
  · exact (Nat.zero_add _).symm

/-- Block `n` is staged: its logits and, per query, their maximum. -/
def Staged (s : ℕ → ℕ → ℝ) (n : ℕ) (mA : FVec Ideal S1x1536 .f32) (sc : FVec Ideal S512x1536 .f32) : Prop :=
  (∀ (r : Fin 512) (y : Fin 1536), sc (ix2 r y) = ((s y.val (512 * n + r.val) : ℝ) : EReal))
    ∧ ∀ y : Fin 1536, mA (ix2 0 y) = cmax fun r : Fin 512 => ((s y.val (512 * n + r.val) : ℝ) : EReal)

/-- The first `n` blocks are in. -/
def Good (s w : ℕ → ℕ → ℝ) (q₀ n : ℕ) (m : FVec Ideal S1x1536 .f32) (a : FVec Ideal S144x1536 .f32) : Prop :=
  ∀ (d : Fin 144) (y : Fin 1536), Inv (s y.val) (w d.val) (q₀ + y.val) n (m (ix2 0 y)) (a (ix2 d y))

variable {s w : ℕ → ℕ → ℝ} {q₀ : ℕ} {Q : Vec Ideal S1536x256 .bf16}

theorem staged {n : ℕ} {K : Vec Ideal S512x256 .bf16} (h : IsK s Q n K) : Staged s n (lmax K Q) (logit K Q) := by
  refine ⟨fun r y => ?_, fun y => ?_⟩
  · rw [logit_apply]; exact h r y
  · rw [lmax_apply]; unfold cmax; congr 1; funext r; exact h r y

/-- A maximum of real numbers is real. -/
theorem cmax_coe (f : Fin 512 → ℝ) : ∃ β : ℝ, cmax (fun r => ((f r : ℝ) : EReal)) = (β : EReal) :=
  fold_max_real _ (fun _ => EReal.coe_ne_top _) 0 (EReal.coe_ne_bot _)

/-- Taking the staged block, wholly before the queries. -/
theorem Good.take {n : ℕ} {mA m : FVec Ideal S1x1536 .f32} {sc : FVec Ideal S512x1536 .f32} {a : FVec Ideal S144x1536 .f32}
    {V : Vec Ideal S1x1x144x512 .bf16} (hg : Good s w q₀ n m a) (hs : Staged s n mA sc) (hv : IsV w n V)
    (hq : 512 * (n + 1) ≤ q₀ + 1) : Good s w q₀ (n + 1) (level mA m) (accum mA m sc a V) := by
  intro d y
  obtain ⟨β, hβ⟩ := cmax_coe fun r => s y.val (512 * n + r.val)
  have hm : mA (ix2 0 y) = (β : EReal) := (hs.2 y).trans hβ
  have hr : ∀ r : Fin 512, 512 * n + r.val ≤ q₀ + y.val := fun r => by have := r.isLt; omega
  have e := (hg d y).step β (fun r => sc (ix2 r y)) (fun r => V (ix4 0 0 d r)) (fun r => hv d r) fun r =>
    (hs.1 r y).trans (if_pos (hr r)).symm
  rw [← hm] at e
  have e₁ := level_apply mA m y
  have e₂ := accum_apply mA m sc a V d y
  exact (congrArg₂ (Inv (s y.val) (w d.val) (q₀ + y.val) (n + 1)) e₁ e₂).mpr e

/-- Two blocks. -/
theorem pair_good {n : ℕ} {x : St Ideal} {K₁ K₂ : Vec Ideal S512x256 .bf16} {V₀ V₁ : Vec Ideal S1x1x144x512 .bf16}
    (hg : Good s w q₀ n x.2.1 x.2.2.2) (hs : Staged s n x.1 x.2.2.1) (h₁ : IsK s Q (n + 1) K₁) (h₂ : IsK s Q (n + 2) K₂)
    (v₀ : IsV w n V₀) (v₁ : IsV w (n + 1) V₁) (hq : 512 * (n + 2) ≤ q₀ + 1) :
    Good s w q₀ (n + 2) (pairStep Q K₁ K₂ V₀ V₁ x).2.1 (pairStep Q K₁ K₂ V₀ V₁ x).2.2.2
      ∧ Staged s (n + 2) (pairStep Q K₁ K₂ V₀ V₁ x).1 (pairStep Q K₁ K₂ V₀ V₁ x).2.2.1 := by
  have h := (hg.take hs v₀ (by omega)).take (staged h₁) v₁ (by omega)
  unfold pairStep
  dsimp only
  exact ⟨h, staged h₂⟩

theorem first_lmax (K : Vec Ideal S512x256 .bf16) (Q : Vec Ideal S1536x256 .bf16) : k0_pay73 K Q = lmax K Q := rfl
theorem first_logit (K : Vec Ideal S512x256 .bf16) (Q : Vec Ideal S1536x256 .bf16) : k0_pay72 K Q = logit K Q := rfl

/-- The state the loops start from. -/
theorem start_good (x0 : Vec Ideal S1536x256 .bf16) (x1 : Vec Ideal S16896x256 .bf16)
    (h : IsK s x0 0 (K0 x1)) :
    Good s w q₀ 0 (start x0 x1).2.1 (start x0 x1).2.2.2 ∧ Staged s 0 (start x0 x1).1 (start x0 x1).2.2.1 := by
  unfold start
  rw [first_lmax, first_logit]
  dsimp only
  refine ⟨fun d y => ?_, staged h⟩
  have e₂ : (k0_pay74 (F := Ideal)) (ix2 0 y) = ⊥ := mask_bot
  have e₄ : (k0_pay70 (F := Ideal)) (ix2 d y) = 0 := by
    unfold_payloads
    pointwise
  rw [e₂, e₄]
  exact Inv.start _ _ _

end Cert.Attn

end
-- ==== Proof.Attn.Looped.lean ====
/- Both loops at the ideal instance: the blocks before the queries' own are in, but for the one left over when their
   number is odd. -/
module

public import proofs.«01_k».proof.Proof.Attn.Block

@[expose] public section

set_option maxRecDepth 16384

noncomputable section

namespace Cert.Attn

open Idealize.ShloMosaic Idealize.ShloMosaic.TcCoe
open Cert.KernelIdeal Cert.KernelIdeal.Gen

/-! ## Trip counts and block positions, over the grid -/

theorem trips1 (i : grid0.Coords) : (k0_t1_loop i).trips = 3 * (i 1).val / 4 := by revert i; decide +kernel
theorem trips3 (i : grid0.Coords) : (k0_t3_loop i).trips = 3 * (i 1).val % 4 / 2 := by revert i; decide +kernel

theorem off1_01 (i : grid0.Coords) (k : Fin (k0_t1_loop i).trips) : k0_off1 i k 0#32 1#32 = ![512 * (4 * k.val + 1), 0] := by revert i; decide +kernel
theorem off1_02 (i : grid0.Coords) (k : Fin (k0_t1_loop i).trips) : k0_off1 i k 0#32 2#32 = ![512 * (4 * k.val + 2), 0] := by revert i; decide +kernel
theorem off1_21 (i : grid0.Coords) (k : Fin (k0_t1_loop i).trips) : k0_off1 i k 2#32 1#32 = ![512 * (4 * k.val + 3), 0] := by revert i; decide +kernel
theorem off1_22 (i : grid0.Coords) (k : Fin (k0_t1_loop i).trips) : k0_off1 i k 2#32 2#32 = ![512 * (4 * k.val + 4), 0] := by revert i; decide +kernel
theorem off2_0 (i : grid0.Coords) (k : Fin (k0_t1_loop i).trips) : k0_off2 i k 0#32 = ![0, 4 * k.val, 0, 0] := by revert i; decide +kernel
theorem off2_2 (i : grid0.Coords) (k : Fin (k0_t1_loop i).trips) : k0_off2 i k 2#32 = ![0, 4 * k.val + 2, 0, 0] := by revert i; decide +kernel
theorem off3_0 (i : grid0.Coords) (k : Fin (k0_t1_loop i).trips) : k0_off3 i k 0#32 = ![0, 4 * k.val + 1, 0, 0] := by revert i; decide +kernel
theorem off3_2 (i : grid0.Coords) (k : Fin (k0_t1_loop i).trips) : k0_off3 i k 2#32 = ![0, 4 * k.val + 3, 0, 0] := by revert i; decide +kernel

/-- Where loop 3 begins: the blocks loop 1 has done. -/
abbrev done (i : grid0.Coords) : ℕ := 4 * (3 * (i 1).val / 4)

theorem off7_1 (i : grid0.Coords) (k : Fin (k0_t3_loop i).trips) : k0_off7 i k 1#32 = ![512 * (done i + 2 * k.val + 1), 0] := by revert i; decide +kernel
theorem off7_2 (i : grid0.Coords) (k : Fin (k0_t3_loop i).trips) : k0_off7 i k 2#32 = ![512 * (done i + 2 * k.val + 2), 0] := by revert i; decide +kernel
theorem off8_eq (i : grid0.Coords) (k : Fin (k0_t3_loop i).trips) : k0_off8 i k = ![0, done i + 2 * k.val, 0, 0] := by revert i; decide +kernel
theorem off9_eq (i : grid0.Coords) (k : Fin (k0_t3_loop i).trips) : k0_off9 i k = ![0, done i + 2 * k.val + 1, 0, 0] := by revert i; decide +kernel

variable {s w : ℕ → ℕ → ℝ}
variable {x0 : Vec Ideal S1536x256 .bf16} {x1 : Vec Ideal S16896x256 .bf16} {x2 : Vec Ideal S1x33x144x512 .bf16}

/-- A running state with the first `n` blocks in and block `n` staged. -/
def At (s w : ℕ → ℕ → ℝ) (q₀ n : ℕ) (x : St Ideal) : Prop := Good s w q₀ n x.2.1 x.2.2.2 ∧ Staged s n x.1 x.2.2.1

variable (hk : ∀ (k : Fin 16896) (y : Fin 1536), ∑ l : Fin 256, x1 (ix2 k l) * x0 (ix2 y l) = ((s y.val k.val : ℝ) : EReal))
variable (hv : ∀ (b : Fin 33) (d : Fin 144) (r : Fin 512), x2 (ix4 0 b d r) = ((w d.val (512 * b.val + r.val) : ℝ) : EReal))

include hk hv in
theorem stepL1_at (i : grid0.Coords) (k : Fin (k0_t1_loop i).trips) (x : St Ideal)
    (h : At s w (1536 * (i 1).val) (4 * k.val) x) : At s w (1536 * (i 1).val) (4 * (k.val + 1)) (stepL1 i x0 x1 x2 k x) := by
  have hi : (i 1).val < 11 := (i 1).isLt
  have ht : k.val < 3 * (i 1).val / 4 := by rw [← trips1]; exact k.isLt
  have hlt : 4 * k.val + 4 ≤ 3 * (i 1).val := by omega
  unfold stepL1
  have a := pair_good (Q := x0) (K₁ := View.ld x1 (Rect.unit (s := S16896x256) (k0_off1 i k 0#32 1#32) S512x256.size (k0_off1_inb i k 0 0)))
    (K₂ := View.ld x1 (Rect.unit (s := S16896x256) (k0_off1 i k 0#32 2#32) S512x256.size (k0_off1_inb i k 0 1)))
    (V₀ := View.ld x2 (Rect.unit (s := S1x33x144x512) (k0_off2 i k 0#32) S1x1x144x512.size (k0_off2_inb i k 0)))
    (V₁ := View.ld x2 (Rect.unit (s := S1x33x144x512) (k0_off3 i k 0#32) S1x1x144x512.size (k0_off3_inb i k 0))) h.1 h.2
    (isK_ld s x0 x1 hk _ (by omega) _ (off1_01 i k) _) (isK_ld s x0 x1 hk _ (by omega) _ (off1_02 i k) _)
    (isV_ld w x2 hv _ (by omega) _ (off2_0 i k) _) (isV_ld w x2 hv _ (by omega) _ (off3_0 i k) _) (by omega)
  exact pair_good (Q := x0) (n := 4 * k.val + 2) a.1 a.2
    (isK_ld s x0 x1 hk _ (by omega) _ (off1_21 i k) _) (isK_ld s x0 x1 hk _ (by omega) _ (off1_22 i k) _)
    (isV_ld w x2 hv _ (by omega) _ (off2_2 i k) _) (isV_ld w x2 hv _ (by omega) _ (off3_2 i k) _) (by omega)

include hk hv in
theorem runL1_at (i : grid0.Coords) (x : St Ideal) (h : At s w (1536 * (i 1).val) 0 x) (k : ℕ) (hkt : k ≤ (k0_t1_loop i).trips) :
    At s w (1536 * (i 1).val) (4 * k) (runL1 i x0 x1 x2 x k) := by
  induction k with
  | zero => exact h
  | succ k ih =>
    rw [runL1, dif_pos (Nat.lt_of_succ_le hkt)]
    exact stepL1_at hk hv i ⟨k, Nat.lt_of_succ_le hkt⟩ _ (ih (Nat.le_of_succ_le hkt))

include hk hv in
theorem stepL3_at (i : grid0.Coords) (k : Fin (k0_t3_loop i).trips) (x : St Ideal)
    (h : At s w (1536 * (i 1).val) (done i + 2 * k.val) x) :
    At s w (1536 * (i 1).val) (done i + 2 * (k.val + 1)) (stepL3 i x0 x1 x2 k x) := by
  have hi : (i 1).val < 11 := (i 1).isLt
  have ht : k.val < 3 * (i 1).val % 4 / 2 := by rw [← trips3]; exact k.isLt
  have hlt : done i + 2 * k.val + 2 ≤ 3 * (i 1).val := by unfold done; omega
  unfold stepL3
  exact pair_good (Q := x0) (n := done i + 2 * k.val) h.1 h.2
    (isK_ld s x0 x1 hk _ (by omega) _ (off7_1 i k) _) (isK_ld s x0 x1 hk _ (by omega) _ (off7_2 i k) _)
    (isV_ld w x2 hv _ (by omega) _ (off8_eq i k) _) (isV_ld w x2 hv _ (by omega) _ (off9_eq i k) _) (by omega)

include hk hv in
theorem runL3_at (i : grid0.Coords) (x : St Ideal) (h : At s w (1536 * (i 1).val) (done i) x) (k : ℕ) (hkt : k ≤ (k0_t3_loop i).trips) :
    At s w (1536 * (i 1).val) (done i + 2 * k) (runL3 i x0 x1 x2 x k) := by
  induction k with
  | zero => exact h
  | succ k ih =>
    rw [runL3, dif_pos (Nat.lt_of_succ_le hkt)]
    exact stepL3_at hk hv i ⟨k, Nat.lt_of_succ_le hkt⟩ _ (ih (Nat.le_of_succ_le hkt))

include hk hv in
/-- After both loops. -/
theorem looped_at (i : grid0.Coords) :
    At s w (1536 * (i 1).val) (2 * (3 * (i 1).val / 2)) (looped i x0 x1 x2) := by
  have h0 := start_good (s := s) (w := w) (q₀ := 1536 * (i 1).val) x0 x1 (isK_ld s x0 x1 hk 0 (by omega) _ rfl _)
  have h1 := runL1_at hk hv i _ h0 _ le_rfl
  rw [trips1] at h1
  have h3 := runL3_at hk hv i _ h1 _ le_rfl
  have e : done i + 2 * (k0_t3_loop i).trips = 2 * (3 * (i 1).val / 2) := by rw [trips3]; unfold done; omega
  rw [e, ← trips1] at h3
  unfold looped
  exact h3

end Cert.Attn

end
-- ==== Proof.Attn.PayD0.lean ====
/- The causal blocks' stored values read entry by entry: block 0 of the three on the diagonal. -/
module

public import proofs.«01_k».proof.Proof.Attn.Pay

@[expose] public section

set_option maxRecDepth 16384

noncomputable section

namespace Cert.Attn

open Idealize.ShloMosaic Idealize.ShloMosaic.TcCoe
open Cert.KernelIdeal Cert.KernelIdeal.Gen

theorem diag0_level (m : FVec Ideal S1x1536 .f32) (s : FVec Ideal S512x1536 .f32) (y : Fin 1536) :
    k0_pay47 m s (ix2 0 y)
      = max (m (ix2 0 y)) (cmax fun r : Fin 512 => if r.val ≤ y.val then s (ix2 r y) else ⊥) := by
  unfold cmax
  unfold_payloads
  pointwise
  simp only [bits_bot, mask_bot]
  congr 2
  funext r
  exact sel_le (by omega) (by omega) _ _

theorem diag0_acc (m : FVec Ideal S1x1536 .f32) (s : FVec Ideal S512x1536 .f32) (a : FVec Ideal S144x1536 .f32)
    (V : Vec Ideal S1x1x144x512 .bf16) (d : Fin 144) (y : Fin 1536) :
    k0_pay48 m s a V (ix2 d y)
      = Ideal.exp2 (m (ix2 0 y) - k0_pay47 m s (ix2 0 y)) * a (ix2 d y)
        + ∑ r : Fin 512, V (ix4 0 0 d r) * Ideal.exp2 ((if r.val ≤ y.val then s (ix2 r y) else ⊥) - k0_pay47 m s (ix2 0 y)) := by
  have hs : ∀ r : Fin 512, (if r.val ≤ y.val then s (ix2 r y) else ⊥)
      = Scalar.select (IntOp.cmpi .sge (BitVec.ofNat 32 y.val) (BitVec.ofNat 32 r.val)) (s (ix2 r y)) ⊥ :=
    fun r => (sel_le (by omega) (by omega) _ _).symm
  rw [diag0_level]
  simp only [hs]
  unfold_payloads
  pointwise
  simp only [bits_bot, mask_bot]
  rfl

end Cert.Attn

end
-- ==== Proof.Attn.PayD1.lean ====
/- The causal blocks' stored values read entry by entry: block 1 of the three on the diagonal. -/
module

public import proofs.«01_k».proof.Proof.Attn.Pay

@[expose] public section

set_option maxRecDepth 16384

noncomputable section

namespace Cert.Attn

open Idealize.ShloMosaic Idealize.ShloMosaic.TcCoe
open Cert.KernelIdeal Cert.KernelIdeal.Gen

theorem diag1_level (m : FVec Ideal S1x1536 .f32) (s : FVec Ideal S512x1024 .f32) (y : Fin 1024) :
    k0_pay52 m s (ix2 0 y)
      = max (m (ix2 0 ⟨512 + y.val, by omega⟩)) (cmax fun r : Fin 512 => if r.val ≤ y.val then s (ix2 r y) else ⊥) := by
  unfold cmax
  unfold_payloads
  pointwise
  simp only [bits_bot, mask_bot]
  congr 2
  funext r
  exact sel_le (by omega) (by omega) _ _

theorem diag1_acc (m : FVec Ideal S1x1536 .f32) (s : FVec Ideal S512x1024 .f32) (a : FVec Ideal S144x1024 .f32)
    (V : Vec Ideal S1x1x144x512 .bf16) (d : Fin 144) (y : Fin 1024) :
    k0_pay53 m s a V (ix2 d y)
      = Ideal.exp2 (m (ix2 0 ⟨512 + y.val, by omega⟩) - k0_pay52 m s (ix2 0 y)) * a (ix2 d y)
        + ∑ r : Fin 512, V (ix4 0 0 d r) * Ideal.exp2 ((if r.val ≤ y.val then s (ix2 r y) else ⊥) - k0_pay52 m s (ix2 0 y)) := by
  have hs : ∀ r : Fin 512, (if r.val ≤ y.val then s (ix2 r y) else ⊥)
      = Scalar.select (IntOp.cmpi .sge (BitVec.ofNat 32 y.val) (BitVec.ofNat 32 r.val)) (s (ix2 r y)) ⊥ :=
    fun r => (sel_le (by omega) (by omega) _ _).symm
  rw [diag1_level]
  simp only [hs]
  unfold_payloads
  pointwise
  simp only [bits_bot, mask_bot]
  rfl

end Cert.Attn

end
-- ==== Proof.Attn.PayD2.lean ====
/- The causal blocks' stored values read entry by entry: block 2 of the three on the diagonal. -/
module

public import proofs.«01_k».proof.Proof.Attn.Pay

@[expose] public section

set_option maxRecDepth 16384

noncomputable section

namespace Cert.Attn

open Idealize.ShloMosaic Idealize.ShloMosaic.TcCoe
open Cert.KernelIdeal Cert.KernelIdeal.Gen

/-- The level the last causal block works from: the columns from 1024 on of the level after the middle one. -/
theorem diag2_acc (m : FVec Ideal S1x1536 .f32) (m₁ : FVec Ideal S1x1024 .f32) (s : FVec Ideal S512x512 .f32)
    (a : FVec Ideal S144x512 .f32) (V : Vec Ideal S1x1x144x512 .bf16) (d : Fin 144) (y : Fin 512) (μ μ' : EReal)
    (hμ : μ = m₁ (ix2 0 ⟨512 + y.val, by omega⟩))
    (hμ' : μ' = max μ (cmax fun r : Fin 512 => if r.val ≤ y.val then s (ix2 r y) else ⊥)) :
    k0_pay54 m m₁ s a V (ix2 d y)
      = Ideal.exp2 (μ - μ') * a (ix2 d y)
        + ∑ r : Fin 512, V (ix4 0 0 d r) * Ideal.exp2 ((if r.val ≤ y.val then s (ix2 r y) else ⊥) - μ') := by
  have hs : ∀ r : Fin 512, (if r.val ≤ y.val then s (ix2 r y) else ⊥)
      = Scalar.select (IntOp.cmpi .sge (BitVec.ofNat 32 y.val) (BitVec.ofNat 32 r.val)) (s (ix2 r y)) ⊥ :=
    fun r => (sel_le (by omega) (by omega) _ _).symm
  simp only [hs] at hμ' ⊢
  subst hμ' hμ
  unfold_payloads
  pointwise
  have h0 : ¬(1024 + y.val < 512) := by omega
  simp only [bits_bot, mask_bot, dif_neg h0, show 1024 + y.val - 512 = 512 + y.val by omega]
  rfl

end Cert.Attn

end
-- ==== Proof.Attn.Tail.lean ====
/- The three blocks on the diagonal at the ideal instance: block `j` meets the queries from `512 j` on, each up to its own
   position. -/
module

public import proofs.«01_k».proof.Proof.Attn.Looped
public import proofs.«01_k».proof.Proof.Attn.PayD0
public import proofs.«01_k».proof.Proof.Attn.PayD1
public import proofs.«01_k».proof.Proof.Attn.PayD2

@[expose] public section

set_option maxRecDepth 16384

noncomputable section

namespace Cert.Attn

open Idealize.ShloMosaic Idealize.ShloMosaic.TcCoe
open Cert.KernelIdeal Cert.KernelIdeal.Gen

variable {s w : ℕ → ℕ → ℝ} {q₀ n : ℕ}

/-- A causal block's maximum is real: its first key is visible. -/
theorem cmax_causal (y : ℕ) (t : Fin 512 → ℝ) :
    ∃ β : ℝ, cmax (fun r : Fin 512 => if r.val ≤ y then ((t r : ℝ) : EReal) else ⊥) = (β : EReal) := by
  refine fold_max_real _ (fun r => ?_) 0 ?_
  · split
    · exact EReal.coe_ne_top _
    · exact bot_ne_top
  · have h : (0 : Fin 512).val ≤ y := Nat.zero_le _
    rw [if_pos h]; exact EReal.coe_ne_bot _

/-- A causal block taken by a query `y` past the block's start. -/
theorem Inv.causal {s w : ℕ → ℝ} {q n : ℕ} {m a m' a' : EReal} (h : Inv s w q n m a) (y : ℕ) (hq : q = 512 * n + y)
    (sc V : Fin 512 → EReal) (hs : ∀ r, sc r = ((s (512 * n + r.val) : ℝ) : EReal))
    (hV : ∀ r, V r = ((w (512 * n + r.val) : ℝ) : EReal))
    (hm : m' = max m (cmax fun r : Fin 512 => if r.val ≤ y then sc r else ⊥))
    (ha : a' = Ideal.exp2 (m - m') * a + ∑ r, V r * Ideal.exp2 ((if r.val ≤ y then sc r else ⊥) - m')) :
    Inv s w q (n + 1) m' a' := by
  obtain ⟨β, hβ⟩ := cmax_causal y fun r => s (512 * n + r.val)
  have e : (fun r : Fin 512 => if r.val ≤ y then sc r else ⊥)
      = fun r : Fin 512 => if r.val ≤ y then ((s (512 * n + r.val) : ℝ) : EReal) else ⊥ := by
    funext r; rw [hs]
  rw [e, hβ] at hm
  have k := h.step β (fun r : Fin 512 => if r.val ≤ y then sc r else ⊥) V hV fun r => by
    rw [hs, hq]
    by_cases hr : r.val ≤ y
    · rw [if_pos hr, if_pos (by omega)]
    · rw [if_neg hr, if_neg (by omega)]
  rw [← hm] at k
  rw [ha]
  exact k

theorem canon_hit {off size : Fin 2 → ℕ} (inb : ∀ a, off a + size a ≤ S144x1536.size a)
    (v : (Rect.unit (s := S144x1536) off size inb).shape.Idx → Elt Ideal .f32) (L : List (View.Piece (Elt Ideal) S144x1536 .f32))
    (y : S144x1536.Idx) (x : (Rect.unit (s := S144x1536) off size inb).shape.Idx) (h : ∀ a, (y a : ℕ) = off a + x a) :
    View.canon ((⟨Rect.unit (s := S144x1536) off size inb, v⟩ : View.Piece (Elt Ideal) S144x1536 .f32) :: L) y = v x := by
  have e : y = (Rect.unit (s := S144x1536) off size inb).emb x :=
    funext fun a => Fin.ext ((h a).trans (Rect.idx_unit_val off size inb x a).symm)
  rw [e]
  exact View.canon_cons_emb _ v L x

theorem canon_miss {off size : Fin 2 → ℕ} (inb : ∀ a, off a + size a ≤ S144x1536.size a)
    (v : (Rect.unit (s := S144x1536) off size inb).shape.Idx → Elt Ideal .f32) (L : List (View.Piece (Elt Ideal) S144x1536 .f32))
    (y : S144x1536.Idx) (a : Fin 2) (h : (y a : ℕ) < off a) :
    View.canon ((⟨Rect.unit (s := S144x1536) off size inb, v⟩ : View.Piece (Elt Ideal) S144x1536 .f32) :: L) y = View.canon L y :=
  View.canon_cons_of_not_mem _ _ fun hm => absurd ((Rect.mem_set_unit (inb := inb)).mp hm a).1 (Nat.not_le.mpr h)

/-- The columns from 1024 on, from 512 on, and all of them, last stored. -/
theorem hit2 (a2 : FVec Ideal S144x512 .f32) (L : List (View.Piece (Elt Ideal) S144x1536 .f32)) (d : Fin 144) (y : Fin 512) :
    View.canon ((⟨Rect.unit (s := S144x1536) ![0, 1024] S144x512.size inb_S144x1536_S144x512_0_1024, a2⟩ : View.Piece (Elt Ideal) S144x1536 .f32) :: L)
      (ix2 d ⟨1024 + y.val, by omega⟩) = a2 (ix2 d y) :=
  canon_hit inb_S144x1536_S144x512_0_1024 a2 L (ix2 d ⟨1024 + y.val, by omega⟩) (ix2 d y) fun a => by
    fin_cases a
    · exact (Nat.zero_add _).symm
    · rfl

theorem hit1 (a1 : FVec Ideal S144x1024 .f32) (L : List (View.Piece (Elt Ideal) S144x1536 .f32)) (d : Fin 144) (y : Fin 1024) :
    View.canon ((⟨Rect.unit (s := S144x1536) ![0, 512] S144x1024.size inb_S144x1536_S144x1024_0_512, a1⟩ : View.Piece (Elt Ideal) S144x1536 .f32) :: L)
      (ix2 d ⟨512 + y.val, by omega⟩) = a1 (ix2 d y) :=
  canon_hit inb_S144x1536_S144x1024_0_512 a1 L (ix2 d ⟨512 + y.val, by omega⟩) (ix2 d y) fun a => by
    fin_cases a
    · exact (Nat.zero_add _).symm
    · rfl

theorem hit0 (a0 : FVec Ideal S144x1536 .f32) (L : List (View.Piece (Elt Ideal) S144x1536 .f32)) (d : Fin 144) (y : Fin 1536) :
    View.canon ((⟨Rect.unit (s := S144x1536) ![0, 0] S144x1536.size inb_S144x1536_S144x1536_0_0, a0⟩ : View.Piece (Elt Ideal) S144x1536 .f32) :: L)
      (ix2 d y) = a0 (ix2 d y) :=
  canon_hit inb_S144x1536_S144x1536_0_0 a0 L (ix2 d y) (ix2 d y) fun a => by
    fin_cases a <;> exact (Nat.zero_add _).symm

theorem miss2 (a2 : FVec Ideal S144x512 .f32) (L : List (View.Piece (Elt Ideal) S144x1536 .f32)) (d : Fin 144) (y : Fin 1536) (h : y.val < 1024) :
    View.canon ((⟨Rect.unit (s := S144x1536) ![0, 1024] S144x512.size inb_S144x1536_S144x512_0_1024, a2⟩ : View.Piece (Elt Ideal) S144x1536 .f32) :: L)
      (ix2 d y) = View.canon L (ix2 d y) :=
  canon_miss inb_S144x1536_S144x512_0_1024 a2 L (ix2 d y) 1 h

theorem miss1 (a1 : FVec Ideal S144x1024 .f32) (L : List (View.Piece (Elt Ideal) S144x1536 .f32)) (d : Fin 144) (y : Fin 1536) (h : y.val < 512) :
    View.canon ((⟨Rect.unit (s := S144x1536) ![0, 512] S144x1024.size inb_S144x1536_S144x1024_0_512, a1⟩ : View.Piece (Elt Ideal) S144x1536 .f32) :: L)
      (ix2 d y) = View.canon L (ix2 d y) :=
  canon_miss inb_S144x1536_S144x1024_0_512 a1 L (ix2 d y) 1 h

theorem ld1 (a : FVec Ideal S144x1536 .f32) (d : Fin 144) (y : Fin 1024) :
    View.ld (Val := Elt Ideal) (e' := .f32) a (Rect.unit (s := S144x1536) ![0, 512] S144x1024.size inb_S144x1536_S144x1024_0_512) (ix2 d y) = a (ix2 d ⟨512 + y.val, by omega⟩) :=
  View.ld_unit_apply_of (Val := Elt Ideal) (e := .f32) (S := S144x1536) a ![0, 512] S144x1024.size _ (ix2 d y) (ix2 d ⟨512 + y.val, by omega⟩) fun a => by
    fin_cases a
    · exact (Nat.zero_add _).symm
    · rfl

theorem ld2 (a : FVec Ideal S144x1536 .f32) (d : Fin 144) (y : Fin 512) :
    View.ld (Val := Elt Ideal) (e' := .f32) a (Rect.unit (s := S144x1536) ![0, 1024] S144x512.size inb_S144x1536_S144x512_0_1024) (ix2 d y) = a (ix2 d ⟨1024 + y.val, by omega⟩) :=
  View.ld_unit_apply_of (Val := Elt Ideal) (e := .f32) (S := S144x1536) a ![0, 1024] S144x512.size _ (ix2 d y) (ix2 d ⟨1024 + y.val, by omega⟩) fun a => by
    fin_cases a
    · exact (Nat.zero_add _).symm
    · rfl

theorem split2 (y : Fin 1536) (h : 1024 ≤ y.val) :
    ∃ z : Fin 512, y = ⟨1024 + z.val, Nat.lt_of_lt_of_le (Nat.add_lt_add_left z.isLt 1024) (by norm_num)⟩ :=
  ⟨⟨y.val - 1024, by omega⟩, Fin.ext (by dsimp only; omega)⟩

theorem split1 (y : Fin 1536) (h : 512 ≤ y.val) :
    ∃ z : Fin 1024, y = ⟨512 + z.val, Nat.lt_of_lt_of_le (Nat.add_lt_add_left z.isLt 512) (by norm_num)⟩ :=
  ⟨⟨y.val - 512, by omega⟩, Fin.ext (by dsimp only; omega)⟩

/-- The first diagonal block: every query. -/
theorem diag0_good {m : FVec Ideal S1x1536 .f32} {sc : FVec Ideal S512x1536 .f32} {a : FVec Ideal S144x1536 .f32}
    {V : Vec Ideal S1x1x144x512 .bf16} (hq : q₀ = 512 * n) (hg : Good s w q₀ n m a)
    (hs : ∀ (r : Fin 512) (y : Fin 1536), sc (ix2 r y) = ((s y.val (512 * n + r.val) : ℝ) : EReal)) (hv : IsV w n V)
    (d : Fin 144) (y : Fin 1536) :
    Inv (s y.val) (w d.val) (q₀ + y.val) (n + 1) (k0_pay47 m sc (ix2 0 y)) (k0_pay48 m sc a V (ix2 d y)) :=
  (hg d y).causal y.val (by rw [hq]) (fun r => sc (ix2 r y)) (fun r => V (ix4 0 0 d r)) (fun r => hs r y) (fun r => hv d r)
    (diag0_level m sc y) (diag0_acc m sc a V d y)

/-- The second: the queries from 512 on. -/
theorem diag1_good {m : FVec Ideal S1x1536 .f32} {sc : FVec Ideal S512x1024 .f32} {a : FVec Ideal S144x1536 .f32}
    {a' : FVec Ideal S144x1024 .f32} {V : Vec Ideal S1x1x144x512 .bf16} (hq : q₀ = 512 * n)
    (hg : ∀ (d : Fin 144) (y : Fin 1536), Inv (s y.val) (w d.val) (q₀ + y.val) (n + 1) (m (ix2 0 y)) (a (ix2 d y)))
    (hs : ∀ (r : Fin 512) (y : Fin 1024), sc (ix2 r y) = ((s (512 + y.val) (512 * (n + 1) + r.val) : ℝ) : EReal)) (hv : IsV w (n + 1) V)
    (ha : ∀ (d : Fin 144) (y : Fin 1024), a' (ix2 d y) = a (ix2 d ⟨512 + y.val, by omega⟩))
    (d : Fin 144) (y : Fin 1024) :
    Inv (s (512 + y.val)) (w d.val) (q₀ + (512 + y.val)) (n + 2) (k0_pay52 m sc (ix2 0 y)) (k0_pay53 m sc a' V (ix2 d y)) := by
  have h := hg d ⟨512 + y.val, by omega⟩
  rw [← ha] at h
  exact h.causal y.val (by dsimp only; omega) (fun r => sc (ix2 r y)) (fun r => V (ix4 0 0 d r)) (fun r => hs r y) (fun r => hv d r)
    (diag1_level m sc y) (diag1_acc m sc a' V d y)

/-- The third: the queries from 1024 on. -/
theorem diag2_good {m : FVec Ideal S1x1536 .f32} {m₁ : FVec Ideal S1x1024 .f32} {sc : FVec Ideal S512x512 .f32}
    {a : FVec Ideal S144x1024 .f32} {a' : FVec Ideal S144x512 .f32} {V : Vec Ideal S1x1x144x512 .bf16} (hq : q₀ = 512 * n)
    (hg : ∀ (d : Fin 144) (y : Fin 1024), Inv (s (512 + y.val)) (w d.val) (q₀ + (512 + y.val)) (n + 2) (m₁ (ix2 0 y)) (a (ix2 d y)))
    (hs : ∀ (r : Fin 512) (y : Fin 512), sc (ix2 r y) = ((s (1024 + y.val) (512 * (n + 2) + r.val) : ℝ) : EReal)) (hv : IsV w (n + 2) V)
    (ha : ∀ (d : Fin 144) (y : Fin 512), a' (ix2 d y) = a (ix2 d ⟨512 + y.val, by omega⟩)) (y : Fin 512) :
    ∃ μ : EReal, ∀ d : Fin 144, Inv (s (1024 + y.val)) (w d.val) (q₀ + (1024 + y.val)) (n + 3) μ (k0_pay54 m m₁ sc a' V (ix2 d y)) := by
  refine ⟨max (m₁ (ix2 0 ⟨512 + y.val, by omega⟩)) (cmax fun r : Fin 512 => if r.val ≤ y.val then sc (ix2 r y) else ⊥), fun d => ?_⟩
  have h := hg d ⟨512 + y.val, by omega⟩
  rw [← ha] at h
  rw [show 512 + (512 + y.val) = 1024 + y.val by omega] at h
  exact h.causal y.val (by omega) (fun r => sc (ix2 r y)) (fun r => V (ix4 0 0 d r)) (fun r => hs r y) (fun r => hv d r)
    rfl (diag2_acc m m₁ sc a' V d y _ _ rfl rfl)

/-- The three written one over another. -/
theorem pieces_good {m0 : FVec Ideal S1x1536 .f32} {m1 : FVec Ideal S1x1024 .f32} {a0 : FVec Ideal S144x1536 .f32}
    {a1 : FVec Ideal S144x1024 .f32} {a2 : FVec Ideal S144x512 .f32} (hq : q₀ = 512 * n)
    (h0 : ∀ (d : Fin 144) (y : Fin 1536), Inv (s y.val) (w d.val) (q₀ + y.val) (n + 1) (m0 (ix2 0 y)) (a0 (ix2 d y)))
    (h1 : ∀ (d : Fin 144) (y : Fin 1024), Inv (s (512 + y.val)) (w d.val) (q₀ + (512 + y.val)) (n + 2) (m1 (ix2 0 y)) (a1 (ix2 d y)))
    (h2 : ∀ y : Fin 512, ∃ μ : EReal, ∀ d : Fin 144, Inv (s (1024 + y.val)) (w d.val) (q₀ + (1024 + y.val)) (n + 3) μ (a2 (ix2 d y)))
    (A : FVec Ideal S144x1536 .f32)
    (hA : A = View.canon [(⟨Rect.unit (s := S144x1536) ![0, 1024] S144x512.size inb_S144x1536_S144x512_0_1024, a2⟩ : View.Piece (Elt Ideal) S144x1536 .f32),
      ⟨Rect.unit (s := S144x1536) ![0, 512] S144x1024.size inb_S144x1536_S144x1024_0_512, a1⟩,
      ⟨Rect.unit (s := S144x1536) ![0, 0] S144x1536.size inb_S144x1536_S144x1536_0_0, a0⟩]) (y : Fin 1536) :
    ∃ μ : EReal, ∀ d : Fin 144, Inv (s y.val) (w d.val) (q₀ + y.val) (n + 3) μ (A (ix2 d y)) := by
  subst hA
  by_cases hy2 : 1024 ≤ y.val
  · obtain ⟨z, rfl⟩ := split2 y hy2
    obtain ⟨μ, h⟩ := h2 z
    refine ⟨μ, fun d => ?_⟩
    rw [hit2]
    exact h d
  by_cases hy1 : 512 ≤ y.val
  · obtain ⟨z, rfl⟩ := split1 y hy1
    refine ⟨m1 (ix2 0 z), fun d => ?_⟩
    rw [miss2 _ _ _ _ (by omega), hit1]
    exact (h1 d z).skip (by dsimp only at hy2; omega)
  · refine ⟨m0 (ix2 0 y), fun d => ?_⟩
    rw [miss2 _ _ _ _ (by omega), miss1 _ _ _ _ (by omega), hit0]
    exact ((h0 d y).skip (by omega)).skip (by omega)

/-- All three, from the state after the earlier blocks. -/
theorem accT_good {x0 : Vec Ideal S1536x256 .bf16} {K₁ K₂ : Vec Ideal S512x256 .bf16} {V₀ V₁ V₂ : Vec Ideal S1x1x144x512 .bf16}
    {m : FVec Ideal S1x1536 .f32} {sc : FVec Ideal S512x1536 .f32} {a : FVec Ideal S144x1536 .f32} (hq : q₀ = 512 * n)
    (hg : Good s w q₀ n m a) (hs : ∀ (r : Fin 512) (y : Fin 1536), sc (ix2 r y) = ((s y.val (512 * n + r.val) : ℝ) : EReal))
    (hk₁ : IsK s x0 (n + 1) K₁) (hk₂ : IsK s x0 (n + 2) K₂) (hv₀ : IsV w n V₀) (hv₁ : IsV w (n + 1) V₁) (hv₂ : IsV w (n + 2) V₂)
    (y : Fin 1536) :
    ∃ μ : EReal, ∀ d : Fin 144, Inv (s y.val) (w d.val) (q₀ + y.val) (n + 3) μ (accT x0 K₁ K₂ V₀ V₁ V₂ m sc a (ix2 d y)) := by
  have h0 := diag0_good hq hg hs hv₀
  have s1 : ∀ (r : Fin 512) (y : Fin 1024),
      (k0_pay45 K₁ (View.ld x0 (Rect.unit (s := S1536x256) ![512, 0] S1024x256.size inb_S1536x256_S1024x256_512_0)) : FVec Ideal S512x1024 .f32) (ix2 r y)
        = ((s (512 + y.val) (512 * (n + 1) + r.val) : ℝ) : EReal) := fun r y => by
    refine (logit2_apply K₁ _ r y).trans ((Finset.sum_congr rfl fun l _ => congrArg (K₁ (ix2 r l) * ·) ?_).trans (hk₁ r ⟨512 + y.val, by omega⟩))
    exact View.ld_unit_apply_of (S := S1536x256) x0 _ _ _ (ix2 y l) (ix2 ⟨512 + y.val, by omega⟩ l) fun a => by
      fin_cases a
      · rfl
      · exact (Nat.zero_add _).symm
  have s2 : ∀ (r : Fin 512) (y : Fin 512),
      (k0_pay49 K₂ (View.ld x0 (Rect.unit (s := S1536x256) ![1024, 0] S512x256.size inb_S1536x256_S512x256_1024_0)) : FVec Ideal S512x512 .f32) (ix2 r y)
        = ((s (1024 + y.val) (512 * (n + 2) + r.val) : ℝ) : EReal) := fun r y => by
    refine (logit3_apply K₂ _ r y).trans ((Finset.sum_congr rfl fun l _ => congrArg (K₂ (ix2 r l) * ·) ?_).trans (hk₂ r ⟨1024 + y.val, by omega⟩))
    exact View.ld_unit_apply_of (S := S1536x256) x0 _ _ _ (ix2 y l) (ix2 ⟨1024 + y.val, by omega⟩ l) fun a => by
      fin_cases a
      · rfl
      · exact (Nat.zero_add _).symm
  have h1 := diag1_good hq h0 s1 hv₁ (a' := View.ld (Val := Elt Ideal) (e' := .f32) (k0_pay48 m sc a V₀) (Rect.unit (s := S144x1536) ![0, 512] S144x1024.size inb_S144x1536_S144x1024_0_512))
    (ld1 (k0_pay48 m sc a V₀))
  have h2 := fun (L : List (View.Piece (Elt Ideal) S144x1536 .f32)) => diag2_good (m := k0_pay47 m sc) hq h1 s2 hv₂
    (a' := View.ld (Val := Elt Ideal) (e' := .f32) (View.canon ((⟨Rect.unit (s := S144x1536) ![0, 512] S144x1024.size inb_S144x1536_S144x1024_0_512, k0_pay53 (k0_pay47 m sc) (k0_pay45 K₁ (View.ld x0 (Rect.unit (s := S1536x256) ![512, 0] S1024x256.size inb_S1536x256_S1024x256_512_0))) (View.ld (Val := Elt Ideal) (e' := .f32) (k0_pay48 m sc a V₀) (Rect.unit (s := S144x1536) ![0, 512] S144x1024.size inb_S144x1536_S144x1024_0_512)) V₁⟩ : View.Piece (Elt Ideal) S144x1536 .f32) :: L))
      (Rect.unit (s := S144x1536) ![0, 1024] S144x512.size inb_S144x1536_S144x512_0_1024))
    fun d y => (ld2 _ d y).trans ((congrArg _ (by congr 1; exact Fin.ext (by dsimp only; omega))).trans (hit1 _ L d ⟨512 + y.val, by omega⟩))
  exact pieces_good hq h0 h1 (h2 _) _ rfl y

end Cert.Attn

end
-- ==== Proof.Attn.Out.lean ====
/- What one grid point of the attention kernel leaves: every query's weighted mean of the values up to its own position. -/
module

public import proofs.«01_k».proof.Proof.Attn.Tail
public import proofs.«01_k».proof.Proof.Attn.Frame

@[expose] public section

set_option maxRecDepth 16384

noncomputable section

namespace Cert.Attn

open Idealize.ShloMosaic Idealize.ShloMosaic.TcCoe
open Cert.KernelIdeal Cert.KernelIdeal.Gen

/-! ## Parity and block positions, over the grid -/

theorem even_of (i : grid0.Coords) (h : k0_cond1 i = 1#1) : 2 * (3 * (i 1).val / 2) = 3 * (i 1).val := by revert i; decide +kernel
theorem odd_of (i : grid0.Coords) (h : k0_cond2 i = 1#1) : 2 * (3 * (i 1).val / 2) + 1 = 3 * (i 1).val := by revert i; decide +kernel

theorem off13_1 (i : grid0.Coords) : k0_off13 i 1#32 = ![512 * (3 * (i 1).val + 1), 0] := by revert i; decide +kernel
theorem off13_2 (i : grid0.Coords) : k0_off13 i 2#32 = ![512 * (3 * (i 1).val + 2), 0] := by revert i; decide +kernel
theorem off14_0 (i : grid0.Coords) : k0_off14 i 0#32 = ![0, 3 * (i 1).val, 0, 0] := by revert i; decide +kernel
theorem off14_1 (i : grid0.Coords) : k0_off14 i 1#32 = ![0, 3 * (i 1).val + 1, 0, 0] := by revert i; decide +kernel
theorem off14_2 (i : grid0.Coords) : k0_off14 i 2#32 = ![0, 3 * (i 1).val + 2, 0, 0] := by revert i; decide +kernel
theorem off15_0 (i : grid0.Coords) : k0_off15 i 0#32 = ![512 * (3 * (i 1).val), 0] := by revert i; decide +kernel
theorem off15_1 (i : grid0.Coords) : k0_off15 i 1#32 = ![512 * (3 * (i 1).val + 1), 0] := by revert i; decide +kernel
theorem off15_2 (i : grid0.Coords) : k0_off15 i 2#32 = ![512 * (3 * (i 1).val + 2), 0] := by revert i; decide +kernel
theorem off16_eq (i : grid0.Coords) (h : k0_cond2 i = 1#1) : k0_off16 i = ![0, 2 * (3 * (i 1).val / 2), 0, 0] := by revert i; decide +kernel
theorem off17_0 (i : grid0.Coords) : k0_off17 i 0#32 = ![0, 3 * (i 1).val, 0, 0] := by revert i; decide +kernel
theorem off17_1 (i : grid0.Coords) : k0_off17 i 1#32 = ![0, 3 * (i 1).val + 1, 0, 0] := by revert i; decide +kernel
theorem off17_2 (i : grid0.Coords) : k0_off17 i 2#32 = ![0, 3 * (i 1).val + 2, 0, 0] := by revert i; decide +kernel

variable {s w : ℕ → ℕ → ℝ}
variable {x0 : Vec Ideal S1536x256 .bf16} {x1 : Vec Ideal S16896x256 .bf16} {x2 : Vec Ideal S1x33x144x512 .bf16}
variable (hk : ∀ (k : Fin 16896) (y : Fin 1536), ∑ l : Fin 256, x1 (ix2 k l) * x0 (ix2 y l) = ((s y.val k.val : ℝ) : EReal))
variable (hv : ∀ (b : Fin 33) (d : Fin 144) (r : Fin 512), x2 (ix4 0 b d r) = ((w d.val (512 * b.val + r.val) : ℝ) : EReal))

/-- The quotient of an accumulator whose row 128 gathers the weights themselves. -/
theorem quot_good (i : grid0.Coords) (a : FVec Ideal S144x1536 .f32) (h1 : w 128 = fun _ => 1)
    (h : ∀ y : Fin 1536, ∃ μ : EReal, ∀ d : Fin 144, Inv (s y.val) (w d.val) (1536 * (i 1).val + y.val) (3 * (i 1).val + 3) μ (a (ix2 d y)))
    (y : Fin 1536) (d : Fin 128) :
    quot a (ix2 y d) = ((mean (s y.val) (w d.val) (1536 * (i 1).val + y.val) : ℝ) : EReal) := by
  obtain ⟨μ, hμ⟩ := h y
  have e₁ : View.ld (Val := Elt Ideal) (e' := .f32) a (Rect.unit (s := S144x1536) ![0, 0] S128x1536.size inb_S144x1536_S128x1536_0_0) (ix2 d y)
      = a (ix2 ⟨d.val, by omega⟩ y) :=
    View.ld_unit_apply_of (Val := Elt Ideal) (e := .f32) (S := S144x1536) a ![0, 0] S128x1536.size _ (ix2 d y) (ix2 ⟨d.val, by omega⟩ y) fun a => by
      fin_cases a <;> exact (Nat.zero_add _).symm
  have e₂ : View.ld (Val := Elt Ideal) (e' := .f32) a (Rect.unit (s := S144x1536) ![128, 0] S1x1536.size inb_S144x1536_S1x1536_128_0) (ix2 0 y)
      = a (ix2 ⟨128, by omega⟩ y) :=
    View.ld_unit_apply_of (Val := Elt Ideal) (e := .f32) (S := S144x1536) a ![128, 0] S1x1536.size _ (ix2 0 y) (ix2 ⟨128, by omega⟩ y) fun a => by
      fin_cases a
      · rfl
      · exact (Nat.zero_add _).symm
  have hb := hμ ⟨128, by omega⟩
  dsimp only at hb
  rw [h1] at hb
  have e := Inv.final (hμ ⟨d.val, by omega⟩) hb (by have := y.isLt; omega)
  unfold quot
  rw [out_apply]
  exact (congrArg₂ Ideal.div e₁ e₂).trans e

include hk hv in
theorem outA_good (i : grid0.Coords) (h : k0_cond1 i = 1#1) (h1 : w 128 = fun _ => 1) (y : Fin 1536) (d : Fin 128) :
    outA i h x0 x1 x2 (ix2 y d) = ((mean (s y.val) (w d.val) (1536 * (i 1).val + y.val) : ℝ) : EReal) := by
  have hi : (i 1).val < 11 := (i 1).isLt
  have hl := looped_at hk hv i
  rw [even_of i h] at hl
  unfold outA
  refine quot_good i _ h1 (fun y => ?_) y d
  unfold accA
  exact accT_good (by omega) hl.1 hl.2.1
    (isK_ld s x0 x1 hk _ (by omega) _ (off13_1 i) _) (isK_ld s x0 x1 hk _ (by omega) _ (off13_2 i) _)
    (isV_ld w x2 hv _ (by omega) _ (off14_0 i) _) (isV_ld w x2 hv _ (by omega) _ (off14_1 i) _) (isV_ld w x2 hv _ (by omega) _ (off14_2 i) _) y

include hk hv in
theorem outB_good (i : grid0.Coords) (h : k0_cond2 i = 1#1) (h1 : w 128 = fun _ => 1) (y : Fin 1536) (d : Fin 128) :
    outB i h x0 x1 x2 (ix2 y d) = ((mean (s y.val) (w d.val) (1536 * (i 1).val + y.val) : ℝ) : EReal) := by
  have hi : (i 1).val < 11 := (i 1).isLt
  have hl := looped_at hk hv i
  have ho := odd_of i h
  have hg := hl.1.take hl.2 (isV_ld w x2 hv _ (by omega) _ (off16_eq i h) (k0_off16_inb i h)) (by omega)
  rw [ho] at hg
  have hs := (staged (isK_ld s x0 x1 hk _ (by omega) _ (off15_0 i) (k0_off15_inb i h 0))).1
  unfold outB
  refine quot_good i _ h1 (fun y => ?_) y d
  unfold accB
  exact accT_good (by omega) hg hs
    (isK_ld s x0 x1 hk _ (by omega) _ (off15_1 i) _) (isK_ld s x0 x1 hk _ (by omega) _ (off15_2 i) _)
    (isV_ld w x2 hv _ (by omega) _ (off17_0 i) _) (isV_ld w x2 hv _ (by omega) _ (off17_1 i) _) (isV_ld w x2 hv _ (by omega) _ (off17_2 i) _) y

include hk hv in
/-- The block a point leaves. -/
theorem outAt_good (i : grid0.Coords) (h1 : w 128 = fun _ => 1) (y : Fin 1536) (d : Fin 128) :
    outAt i x0 x1 x2 (ix2 y d) = ((mean (s y.val) (w d.val) (1536 * (i 1).val + y.val) : ℝ) : EReal) := by
  by_cases h : k0_cond1 i = 1#1
  · rw [outAt_A i h (not_cond2 i h)]; exact outA_good hk hv i h h1 y d
  · rw [outAt_B i h (cond2_of i h)]; exact outB_good hk hv i (cond2_of i h) h1 y d

end Cert.Attn

end
-- ==== Proof.Attn.Array.lean ====
/- The attention kernel's result array: block (head, query block) of it is what that grid point left, computed from the
   head's columns of the queries and keys and the head's values. -/
module

public import proofs.«01_k».proof.Proof.Attn.Out
public import Idealize.ShloMosaic.Lib.Pipeline.Value

@[expose] public section

set_option maxRecDepth 16384

noncomputable section

namespace Cert.Attn

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The arguments as arrays. -/
abbrev argQ (c : Dev nD) : FVec Ideal S16896x2048 .bf16 := m ((c : Thread nD τ).loc main_arg0)
abbrev argK (c : Dev nD) : FVec Ideal S16896x2048 .bf16 := m ((c : Thread nD τ).loc main_arg1)
abbrev argV (c : Dev nD) : FVec Ideal S8x33x144x512 .bf16 := m ((c : Thread nD τ).loc main_arg2)

/-- The grid point of head `h` and query block `b`. -/
abbrev point (h : Fin 8) (b : Fin 11) : Fin cfg0.N := ⟨11 * h.val + b.val, by have e : cfg0.N = 88 := N_0; omega⟩

theorem coords_point : ∀ (h : Fin 8) (b : Fin 11), (grid0.coords (point h b) 1).val = b.val := by decide +kernel

theorem index_point : ∀ (h : Fin 8) (b : Fin 11), win0_0.index (point h b) = ![b.val, h.val] ∧ win0_1.index (point h b) = ![0, h.val]
    ∧ win0_2.index (point h b) = ![h.val, 0, 0, 0] ∧ win0_3.index (point h b) = ![b.val, h.val] := by decide +kernel

/-! ## The input blocks -/

theorem q_block (c : Dev nD) (h : Fin 8) (b : Fin 11) (y : Fin 1536) (l : Fin 256) :
    (iblk m c 0 (point h b) : Vec Ideal S1536x256 .bf16) (ix2 y l)
      = argQ m c (ix2 ⟨1536 * b.val + y.val, by omega⟩ ⟨256 * h.val + l.val, by omega⟩) := by
  have hi := (index_point h b).1
  unfold iblk
  rw [View.read_apply]
  show V m c main_arg0 _ = _
  rw [V_main_arg0]
  congr 1
  funext a
  apply Fin.ext
  match a with
  | ⟨0, _⟩ => show win0_0.index (point h b) 0 * 1536 + 1 * y.val = _; rw [hi]; show b.val * 1536 + 1 * y.val = 1536 * b.val + y.val; omega
  | ⟨1, _⟩ => show win0_0.index (point h b) 1 * 256 + 1 * l.val = _; rw [hi]; show h.val * 256 + 1 * l.val = 256 * h.val + l.val; omega

theorem k_block (c : Dev nD) (h : Fin 8) (b : Fin 11) (k : Fin 16896) (l : Fin 256) :
    (iblk m c 1 (point h b) : Vec Ideal S16896x256 .bf16) (ix2 k l) = argK m c (ix2 k ⟨256 * h.val + l.val, by omega⟩) := by
  have hi := (index_point h b).2.1
  unfold iblk
  rw [View.read_apply]
  show V m c main_arg1 _ = _
  rw [V_main_arg1]
  congr 1
  funext a
  apply Fin.ext
  match a with
  | ⟨0, _⟩ => show win0_1.index (point h b) 0 * 16896 + 1 * k.val = _; rw [hi]; show 0 * 16896 + 1 * k.val = k.val; omega
  | ⟨1, _⟩ => show win0_1.index (point h b) 1 * 256 + 1 * l.val = _; rw [hi]; show h.val * 256 + 1 * l.val = 256 * h.val + l.val; omega

theorem v_block (c : Dev nD) (h : Fin 8) (b : Fin 11) (n : Fin 33) (d : Fin 144) (r : Fin 512) :
    (iblk m c 2 (point h b) : Vec Ideal S1x33x144x512 .bf16) (ix4 0 n d r) = argV m c (ix4 h n d r) := by
  have hi := (index_point h b).2.2.1
  unfold iblk
  rw [View.read_apply]
  show V m c main_arg2 _ = _
  rw [V_main_arg2]
  congr 1
  funext a
  apply Fin.ext
  match a with
  | ⟨0, _⟩ => show win0_2.index (point h b) 0 * 1 + 1 * 0 = _; rw [hi]; show h.val * 1 + 1 * 0 = h.val; omega
  | ⟨1, _⟩ => show win0_2.index (point h b) 1 * 33 + 1 * n.val = _; rw [hi]; show 0 * 33 + 1 * n.val = n.val; omega
  | ⟨2, _⟩ => show win0_2.index (point h b) 2 * 144 + 1 * d.val = _; rw [hi]; show 0 * 144 + 1 * d.val = d.val; omega
  | ⟨3, _⟩ => show win0_2.index (point h b) 3 * 512 + 1 * r.val = _; rw [hi]; show 0 * 512 + 1 * r.val = r.val; omega

/-! ## The output array -/

/-- The result array once every point has written its block. -/
def result (c : Dev nD) : FVec Ideal S16896x1024 .f32 := (dats m 0 c).arrAt 3 cfg0.N

theorem idx_inj : ∀ t t' : Fin cfg0.N, win0_3.index t = win0_3.index t' → t = t' :=
  (by decide +kernel : ∀ t t' : Fin grid0.N, win0_3.index t = win0_3.index t' → t = t')

theorem disjoint : ∀ t t' : Fin cfg0.N, (cfg0.win 3).flush t = true → (cfg0.win 3).flush t' = true → t ≠ t' →
    Disjoint ((cfg0.win 3).blk t).view.set ((cfg0.win 3).blk t').view.set :=
  fun t t' _ _ hne => (cfg0.win 3).disjoint_blk fun h => hne (idx_inj t t' h)

theorem flush_all : ∀ t : Fin cfg0.N, (cfg0.win 3).flush t = true :=
  (by decide +kernel : ∀ t : Fin grid0.N, win0_3.flush t = true)

/-- Every entry is one point's. -/
theorem result_block (c : Dev nD) (h : Fin 8) (b : Fin 11) (y : Fin 1536) (d : Fin 128) :
    result m c (ix2 ⟨1536 * b.val + y.val, by omega⟩ ⟨128 * h.val + d.val, by omega⟩)
      = outAt (grid0.coords (point h b)) (iblk m c 0 (point h b)) (iblk m c 1 (point h b)) (iblk m c 2 (point h b)) (ix2 y d) := by
  have hi := (index_point h b).2.2.2
  have e := congrFun ((dats m 0 c).read_blk_arrAt_eq_flushed 3 disjoint cfg0.N (point h b) (point h b).isLt (flush_all (point h b))) (ix2 y d)
  rw [View.read_apply] at e
  refine Eq.trans ?_ (e.trans ?_)
  · unfold result
    show (dats m 0 c).arrAt 3 cfg0.N _ = (dats m 0 c).arrAt 3 cfg0.N _
    congr 1
    funext a
    apply Fin.ext
    match a with
    | ⟨0, _⟩ => show _ = win0_3.index (point h b) 0 * 1536 + 1 * y.val; rw [hi]; show 1536 * b.val + y.val = b.val * 1536 + 1 * y.val; omega
    | ⟨1, _⟩ => show _ = win0_3.index (point h b) 1 * 128 + 1 * d.val; rw [hi]; show 128 * h.val + d.val = h.val * 128 + 1 * d.val; omega
  · show (dats m 0 c).after 3 (point h b) _ = _
    rw [after0_3]
    rfl

/-- The run: the result array named, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1 3,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.Attn

end
-- ==== Proof.Attn.Packed.lean ====
/- The packing the attention kernel is given: finite entries, the constant lanes of the queries, keys and values; and the
   logit a query and key make under it. -/
module

public import proofs.«01_k».proof.Proof.Gen.Pre_packed
public import proofs.«01_k».proof.Proof.Attn.Pay
public import proofs.«01_k».proof.Proof.Attn.Online

@[expose] public section

set_option maxRecDepth 16384

noncomputable section

namespace Cert.Attn

open Idealize.ShloMosaic Idealize.ShloMosaic.TcCoe
open Cert.Pre_packed

local instance : Cert.Pre_packed.Facts := Cert.Pre_packed.Gen.facts

/-- The logit of query `x` and key `y` in head `h`, base two: the product over the 128 lanes, the query's three gate lanes
    and the key's three. -/
def score (q k : S16896x2048.Idx → ℝ) (h : Fin 8) (x y : ℕ) : ℝ :=
  if hb : x < 16896 ∧ y < 16896 then
    (∑ l : Fin 128, q (ix2 ⟨x, hb.1⟩ ⟨256 * h.val + l.val, by omega⟩) * k (ix2 ⟨y, hb.2⟩ ⟨256 * h.val + l.val, by omega⟩))
      + ((∑ l : Fin 3, q (ix2 ⟨x, hb.1⟩ ⟨256 * h.val + (131 + l.val), by omega⟩)) + ∑ l : Fin 3, k (ix2 ⟨y, hb.2⟩ ⟨256 * h.val + (128 + l.val), by omega⟩))
  else 0

/-- Lane `d` of key `n`'s value in head `h`; lane 128 is one. -/
def value (v : S8x33x144x512.Idx → ℝ) (h : Fin 8) (d n : ℕ) : ℝ :=
  if d = 128 then 1 else if hb : d < 144 ∧ n < 16896 then v (ix4 h ⟨n / 512, by omega⟩ ⟨d, hb.1⟩ ⟨n % 512, by omega⟩) else 0

/-- The packing: real entries, ones and zeros in the fixed lanes. -/
structure Packed (Q K : FVec Ideal S16896x2048 .bf16) (V : FVec Ideal S8x33x144x512 .bf16) : Prop where
  real_q : ∀ i, Q i ≠ ⊤ ∧ Q i ≠ ⊥
  real_k : ∀ i, K i ≠ ⊤ ∧ K i ≠ ⊥
  real_v : ∀ i, V i ≠ ⊤ ∧ V i ≠ ⊥
  one_q : ∀ (r : Fin 16896) (h : Fin 8) (l : Fin 3), Q (ix2 r ⟨256 * h.val + (128 + l.val), by omega⟩) = 1
  zero_q : ∀ (r : Fin 16896) (h : Fin 8) (l : Fin 122), Q (ix2 r ⟨256 * h.val + (134 + l.val), by omega⟩) = 0
  one_k : ∀ (r : Fin 16896) (h : Fin 8) (l : Fin 3), K (ix2 r ⟨256 * h.val + (131 + l.val), by omega⟩) = 1
  one_v : ∀ (h : Fin 8) (b : Fin 33) (r : Fin 512), V (ix4 h b ⟨128, by omega⟩ r) = 1

/-! ## From the precondition -/

theorem of_bit {p : Prop} [Decidable p] (h : BitVec.ofBool (decide p) = 1#1) : p := by
  by_contra hp; simp [hp] at h

theorem bits_top : Ideal.ofBits .f32 2139095040#32 = ⊤ := by simp [Ideal.ofBits, Ideal.ieee]

/-- An absolute value below +∞ is a real number's. -/
theorem real_of_abs {x : EReal} (h : max x (-x) < ⊤) : x ≠ ⊤ ∧ x ≠ ⊥ := by
  constructor <;> rintro rfl <;> simp at h

theorem pair_exists {a b : ℕ} (i : (⟨2, ![a, b]⟩ : Shape).Idx) : ∃ (x : Fin a) (y : Fin b), i = ix2 x y :=
  ⟨i 0, i 1, by funext n; match n with | ⟨0, _⟩ => rfl | ⟨1, _⟩ => rfl⟩

theorem quad_exists {a b c d : ℕ} (i : (⟨4, ![a, b, c, d]⟩ : Shape).Idx) : ∃ (x : Fin a) (y : Fin b) (z : Fin c) (w : Fin d), i = ix4 x y z w :=
  ⟨i 0, i 1, i 2, i 3, by funext n; match n with | ⟨0, _⟩ => rfl | ⟨1, _⟩ => rfl | ⟨2, _⟩ => rfl | ⟨3, _⟩ => rfl⟩

variable (Q K : FVec Ideal S16896x2048 .bf16) (V : FVec Ideal S8x33x144x512 .bf16)

theorem abs_q (r : Fin 16896) (l : Fin 2048) (e : (fn (F := Ideal) Q K V).1 (ix2 r l) = 1#1) :
    BitVec.ofBool (decide ((FloatOps.absf (F := Ideal) (φ := .bf16) (Q (ix2 r l)) : EReal) < Ideal.ofBits .f32 2139095040#32)) = 1#1 := by
  revert e; unfold fn fn_part1; dsimp only; pointwise; exact id

theorem abs_k (r : Fin 16896) (l : Fin 2048) (e : (fn (F := Ideal) Q K V).2.1 (ix2 r l) = 1#1) :
    BitVec.ofBool (decide ((FloatOps.absf (F := Ideal) (φ := .bf16) (K (ix2 r l)) : EReal) < Ideal.ofBits .f32 2139095040#32)) = 1#1 := by
  revert e; unfold fn fn_part1; dsimp only; pointwise; exact id

theorem abs_v (h : Fin 8) (b : Fin 33) (d : Fin 144) (r : Fin 512) (e : (fn (F := Ideal) Q K V).2.2.1 (ix4 h b d r) = 1#1) :
    BitVec.ofBool (decide ((FloatOps.absf (F := Ideal) (φ := .bf16) (V (ix4 h b d r)) : EReal) < Ideal.ofBits .f32 2139095040#32)) = 1#1 := by
  revert e; unfold fn fn_part1; dsimp only; pointwise; exact id

theorem lane_q1 (r : Fin 16896) (h : Fin 8) (l : Fin 3) (e : (fn (F := Ideal) Q K V).2.2.2.1 (ix3 r h l) = 1#1) :
    Q (ix2 r ⟨h.val * 256 + (128 + l.val), by omega⟩) = 1 := by
  revert e; unfold fn fn_part1; dsimp only; pointwise; exact of_bit

theorem lane_q0 (r : Fin 16896) (h : Fin 8) (l : Fin 122) (e : (fn (F := Ideal) Q K V).2.2.2.2.1 (ix3 r h l) = 1#1) :
    Q (ix2 r ⟨h.val * 256 + (134 + l.val), by omega⟩) = 0 := by
  revert e; unfold fn fn_part1; dsimp only; pointwise; exact of_bit

theorem lane_k1 (r : Fin 16896) (h : Fin 8) (l : Fin 3) (e : (fn (F := Ideal) Q K V).2.2.2.2.2.1 (ix3 r h l) = 1#1) :
    K (ix2 r ⟨h.val * 256 + (131 + l.val), by omega⟩) = 1 := by
  revert e; unfold fn fn_part1; dsimp only; pointwise; exact of_bit

theorem lane_v1 (h : Fin 8) (b : Fin 33) (r : Fin 512) (e : (fn (F := Ideal) Q K V).2.2.2.2.2.2 (ix3 h b r) = 1#1) :
    V (ix4 h b ⟨128, by omega⟩ r) = 1 := by
  revert e; unfold fn fn_part1; dsimp only; pointwise; exact of_bit

variable {Q K V}

theorem col_eq {a : ℕ} (x : FVec Ideal S16896x2048 .bf16) (r : Fin 16896) (h : Fin 8) (ha : h.val * 256 + a < 2048) (hb : 256 * h.val + a < 2048) :
    x (ix2 r ⟨256 * h.val + a, hb⟩) = x (ix2 r ⟨h.val * 256 + a, ha⟩) := by
  congr 2; exact Fin.ext (by show 256 * h.val + a = h.val * 256 + a; omega)

theorem packed_of (h1 : (fn (F := Ideal) Q K V).1 = fun _ => 1#1) (h2 : (fn (F := Ideal) Q K V).2.1 = fun _ => 1#1)
    (h3 : (fn (F := Ideal) Q K V).2.2.1 = fun _ => 1#1) (h4 : (fn (F := Ideal) Q K V).2.2.2.1 = fun _ => 1#1)
    (h5 : (fn (F := Ideal) Q K V).2.2.2.2.1 = fun _ => 1#1) (h6 : (fn (F := Ideal) Q K V).2.2.2.2.2.1 = fun _ => 1#1)
    (h7 : (fn (F := Ideal) Q K V).2.2.2.2.2.2 = fun _ => 1#1) : Packed Q K V where
  real_q i := by
    obtain ⟨r, l, rfl⟩ := pair_exists i
    have e := of_bit (abs_q Q K V r l (congrFun h1 _)); rw [bits_top] at e; exact real_of_abs e
  real_k i := by
    obtain ⟨r, l, rfl⟩ := pair_exists i
    have e := of_bit (abs_k Q K V r l (congrFun h2 _)); rw [bits_top] at e; exact real_of_abs e
  real_v i := by
    obtain ⟨h, b, d, r, rfl⟩ := quad_exists i
    have e := of_bit (abs_v Q K V h b d r (congrFun h3 _)); rw [bits_top] at e; exact real_of_abs e
  one_q r h l := (col_eq Q r h _ _).trans (lane_q1 Q K V r h l (congrFun h4 _))
  zero_q r h l := (col_eq Q r h _ _).trans (lane_q0 Q K V r h l (congrFun h5 _))
  one_k r h l := (col_eq K r h _ _).trans (lane_k1 Q K V r h l (congrFun h6 _))
  one_v h b r := lane_v1 Q K V h b r (congrFun h7 _)

/-! ## The logit as one product over 256 lanes -/

theorem sum_lanes (f : Fin 256 → ℝ) : ∑ l, f l = (∑ l : Fin 128, f ⟨l.val, by omega⟩)
    + ((∑ l : Fin 3, f ⟨128 + l.val, by omega⟩) + ((∑ l : Fin 3, f ⟨131 + l.val, by omega⟩) + ∑ l : Fin 122, f ⟨134 + l.val, by omega⟩)) := by
  have e1 := Fin.sum_univ_add (M := ℝ) (a := 128) (b := 128) f
  have e2 := Fin.sum_univ_add (M := ℝ) (a := 3) (b := 125) fun l : Fin 128 => f ⟨128 + l.val, by omega⟩
  have e3 := Fin.sum_univ_add (M := ℝ) (a := 3) (b := 122) fun l : Fin 125 => f ⟨131 + l.val, by omega⟩
  refine e1.trans ?_
  congr 1
  refine e2.trans ?_
  congr 1

theorem product_real {q k : S16896x2048.Idx → ℝ}
    (p : Packed (fun i => (q i : EReal)) (fun i => (k i : EReal)) V) (h : Fin 8) (x y : Fin 16896) :
    ∑ l : Fin 256, (k (ix2 y ⟨256 * h.val + l.val, by omega⟩) : EReal) * (q (ix2 x ⟨256 * h.val + l.val, by omega⟩) : EReal)
      = ((score q k h x.val y.val : ℝ) : EReal) := by
  have q1 : ∀ l : Fin 3, q (ix2 x ⟨256 * h.val + (128 + l.val), by omega⟩) = 1 := fun l => by exact_mod_cast p.one_q x h l
  have q0 : ∀ l : Fin 122, q (ix2 x ⟨256 * h.val + (134 + l.val), by omega⟩) = 0 := fun l => by exact_mod_cast p.zero_q x h l
  have k1 : ∀ l : Fin 3, k (ix2 y ⟨256 * h.val + (131 + l.val), by omega⟩) = 1 := fun l => by exact_mod_cast p.one_k y h l
  simp only [← EReal.coe_mul, ← coe_sum]
  congr 1
  rw [sum_lanes]
  simp only [q1, q0, k1, mul_one, one_mul, mul_zero, Finset.sum_const_zero, add_zero]
  unfold score
  rw [dif_pos ⟨x.isLt, y.isLt⟩]
  congr 1
  · exact Finset.sum_congr rfl fun l _ => mul_comm _ _
  · exact add_comm _ _

theorem value_one (v : S8x33x144x512.Idx → ℝ) (h : Fin 8) : value v h 128 = fun _ => 1 := by
  funext n; unfold value; rw [if_pos rfl]

theorem value_real {v : S8x33x144x512.Idx → ℝ} (p : Packed Q K (fun i => (v i : EReal))) (h : Fin 8) (b : Fin 33) (d : Fin 144) (r : Fin 512) :
    (v (ix4 h b d r) : EReal) = ((value v h d.val (512 * b.val + r.val) : ℝ) : EReal) := by
  unfold value
  split
  · next e =>
    rw [show d = ⟨128, by omega⟩ from Fin.ext e]
    exact p.one_v h b r
  · rw [dif_pos ⟨d.isLt, by omega⟩]
    congr 3
    · exact Fin.ext (show b.val = (512 * b.val + r.val) / 512 by omega)
    · exact Fin.ext (show r.val = (512 * b.val + r.val) % 512 by omega)

end Cert.Attn

end
-- ==== Proof.Attn.Reference.lean ====
/- The attention reference, read at an entry: the weighted mean of the values over the keys up to the query's own position. -/
module

public import proofs.«01_k».proof.Proof.Gen.ReferenceIdeal.Run
public import proofs.«01_k».proof.Proof.Attn.Packed
public import Idealize.ShloMosaic.Lib.Pointwise

@[expose] public section

set_option maxRecDepth 16384

noncomputable section

namespace Cert.Attn.Ref

open Idealize.ShloMosaic Idealize.ShloMosaic.TcCoe
open Cert.ReferenceIdeal Cert.ReferenceIdeal.Gen

/-- The columns of a packed array by head: head `h`'s lane `l` of row `r` is column `256 h + l`. -/
def heads (x : FVec Ideal S16896x2048 .bf16) : FVec Ideal S8x16896x256 .f32 :=
  transpose S8x16896x256 [1, 0, 2] (shapeCast _ (extf .f32 x bitsLt_bf16_f32) shapeCasts_S16896x2048_S16896x8x256) transposes_S16896x8x256_S8x16896x256_1_0_2

/-- The values, one row of 128 for every key. -/
def vals (v : FVec Ideal S8x33x144x512 .bf16) : FVec Ideal S8x16896x128 .f32 :=
  shapeCast _ (transpose S8x33x512x128 [0, 1, 3, 2] (extractStridedSlice S8x33x128x512 ![0, 0, 0, 0] (extf .f32 v bitsLt_bf16_f32) slices_S8x33x144x512_S8x33x128x512_0_0_0_0) transposes_S8x33x128x512_S8x33x512x128_0_1_3_2) shapeCasts_S8x33x512x128_S8x16896x128

/-- The logits, base two: query times key, and the gates summed up to the query less those up to the key. -/
def logits (Q K : FVec Ideal S8x16896x256 .f32) : FVec Ideal S8x16896x16896 .f32 :=
  addf (Host.dotGeneral dot_S8x16896x128_S8x16896x128_S8x16896x16896_2_2_1_1_0_0 none (extractStridedSlice S8x16896x128 ![0, 0, 0] Q slices_S8x16896x256_S8x16896x128_0_0_0) (extractStridedSlice S8x16896x128 ![0, 0, 0] K slices_S8x16896x256_S8x16896x128_0_0_0)) (subf (broadcastInDim S8x16896x16896 ![0, 1, 2] bcast_S8x16896x1_S8x16896x16896_0_1_2 (broadcastInDim S8x16896x1 ![0, 1] bcast_S8x16896_S8x16896x1_0_1 (Host.reduceAdd (extractStridedSlice S8x16896x3 ![0, 0, 131] Q slices_S8x16896x256_S8x16896x3_0_0_131) (constant S_ .f32 0x00000000#32) reducesTo_S8x16896x3_S8x16896_d2 h_S_))) (broadcastInDim S8x16896x16896 ![0, 1, 2] bcast_S8x1x16896_S8x16896x16896_0_1_2 (broadcastInDim S8x1x16896 ![0, 2] bcast_S8x16896_S8x1x16896_0_2 (Host.negf (Host.reduceAdd (extractStridedSlice S8x16896x3 ![0, 0, 128] K slices_S8x16896x256_S8x16896x3_0_0_128) (constant S_ .f32 0x00000000#32) reducesTo_S8x16896x3_S8x16896_d2 h_S_)))))

/-- In natural base, and −∞ after the query's own position. -/
def masked (L : FVec Ideal S8x16896x16896 .f32) : FVec Ideal S8x16896x16896 .f32 :=
  select (broadcastInDim S8x16896x16896 ![0, 1, 2] bcast_S1x16896x16896_S8x16896x16896_0_1_2 (broadcastInDim S1x16896x16896 ![1, 2] bcast_S16896x16896_S1x16896x16896_1_2 (cmpi .sle (broadcastInDim S16896x16896 ![0, 1] bcast_S1x16896_S16896x16896_0_1 (broadcastInDim S1x16896 ![1] bcast_S16896_S1x16896_1 (iotaInDim S16896 32 0))) (broadcastInDim S16896x16896 ![0, 1] bcast_S16896x1_S16896x16896_0_1 (broadcastInDim S16896x1 ![0] bcast_S16896_S16896x1_0 (iotaInDim S16896 32 0)))))) (mulf L (broadcastInDim S8x16896x16896 ![] bcast_S_S8x16896x16896 (Host.log (constant S_ .f32 0x40000000#32)))) (broadcastInDim S8x16896x16896 ![] bcast_S_S8x16896x16896 (id (constant S_ .f32 0xFF800000#32)))

/-- Each row's maximum. -/
def top (L : FVec Ideal S8x16896x16896 .f32) : FVec Ideal S8x16896 .f32 :=
  Host.reduce FloatOps.maximumf L (constant S_ .f32 0xFF800000#32) reducesTo_S8x16896x16896_S8x16896_d2 h_S_

/-- The exponentials, less a level for each row. -/
def weights (L : FVec Ideal S8x16896x16896 .f32) (T : FVec Ideal S8x16896 .f32) : FVec Ideal S8x16896x16896 .f32 :=
  Host.exp (subf L (broadcastInDim S8x16896x16896 ![0, 1, 2] bcast_S8x16896x1_S8x16896x16896_0_1_2 (broadcastInDim S8x16896x1 ![0, 1] bcast_S8x16896_S8x16896x1_0_1 (maximumf (broadcastInDim S8x16896 ![] bcast_S_S8x16896 (constant S_ .f32 0xFF800000#32)) T))))

/-- The weights over their row sums, times the values; the heads side by side. -/
def average (E : FVec Ideal S8x16896x16896 .f32) (v : FVec Ideal S8x16896x128 .f32) : FVec Ideal S16896x1024 .f32 :=
  shapeCast _ (transpose S16896x8x128 [1, 0, 2] (Host.dotGeneral dot_S8x16896x16896_S8x16896x128_S8x16896x128_2_1_1_2_0_0 none (Host.divf E (broadcastInDim S8x16896x16896 ![0, 1, 2] bcast_S8x16896x1_S8x16896x16896_0_1_2 (broadcastInDim S8x16896x1 ![0, 1] bcast_S8x16896_S8x16896x1_0_1 (Host.reduceAdd E (constant S_ .f32 0x00000000#32) reducesTo_S8x16896x16896_S8x16896_d2 h_S_)))) v) transposes_S8x16896x128_S16896x8x128_1_0_2) shapeCasts_S16896x8x128_S16896x1024

theorem result_eq (m : (ℓ : Loc nD τ sig) → Buf (Elt Ideal) ℓ) (c : Dev nD) :
    (Cert.ReferenceIdeal.Value.res_main_v48 m c : FVec Ideal S16896x1024 .f32)
      = average (weights (masked (logits (heads (m ((c.tc : Thread nD τ).loc main_arg0))) (heads (m ((c.tc : Thread nD τ).loc main_arg1)))))
          (top (masked (logits (heads (m ((c.tc : Thread nD τ).loc main_arg0))) (heads (m ((c.tc : Thread nD τ).loc main_arg1)))))))
        (vals (m ((c.tc : Thread nD τ).loc main_arg2))) := by
  unfold Cert.ReferenceIdeal.Value.res_main_v48 average weights top masked logits heads vals
  rfl

theorem heads_apply (x : FVec Ideal S16896x2048 .bf16) (h : Fin 8) (r : Fin 16896) (l : Fin 256) :
    heads x (ix3 h r l) = x (ix2 r ⟨256 * h.val + l.val, by omega⟩) := by
  unfold heads
  pointwise
  congr 2
  apply Fin.ext
  show h.val * 256 + l.val = 256 * h.val + l.val
  omega

theorem vals_apply (v : FVec Ideal S8x33x144x512 .bf16) (h : Fin 8) (b : Fin 33) (r : Fin 512) (d : Fin 128) :
    vals v (ix3 h ⟨512 * b.val + r.val, by omega⟩ d) = v (ix4 h b ⟨d.val, by omega⟩ r) := by
  unfold vals
  pointwise

theorem logits_apply (Q K : FVec Ideal S8x16896x256 .f32) (h : Fin 8) (q k : Fin 16896) :
    logits Q K (ix3 h q k) = (∑ l : Fin 128, Q (ix3 h q ⟨l.val, by omega⟩) * K (ix3 h k ⟨l.val, by omega⟩))
      + ((∑ l : Fin 3, Q (ix3 h q ⟨131 + l.val, by omega⟩)) - -(∑ l : Fin 3, K (ix3 h k ⟨128 + l.val, by omega⟩))) := by
  unfold logits
  pointwise

theorem log_two : Ideal.log (Ideal.ofBits .f32 1073741824#32) = ((Real.log 2 : ℝ) : EReal) := by
  have e : Ideal.ofBits .f32 1073741824#32 = ((2 : ℝ) : EReal) := by simp [Ideal.ofBits, Ideal.ieee]; rw [← EReal.coe_mul]; norm_num
  rw [e, Ideal.log_coe, if_neg (by norm_num)]

/-- The causal selection: the compared words are positions below 2³¹. -/
theorem sel_sle {x y : ℕ} (hx : x < 2147483648) (hy : y < 2147483648) (a b : EReal) :
    Scalar.select (IntOp.cmpi .sle (BitVec.ofNat 32 x) (BitVec.ofNat 32 y)) a b = if x ≤ y then a else b := by
  rw [WordCmp.cmpi_sle_ofNat (by omega) (by omega)]
  by_cases h : x ≤ y <;> simp [Scalar.select, h]

theorem masked_apply (L : FVec Ideal S8x16896x16896 .f32) (h : Fin 8) (q k : Fin 16896) :
    masked L (ix3 h q k) = if k.val ≤ q.val then L (ix3 h q k) * ((Real.log 2 : ℝ) : EReal) else ⊥ := by
  unfold masked
  pointwise
  have hk := k.isLt
  have hq := q.isLt
  refine (sel_sle (by omega) (by omega) _ _).trans ?_
  rw [log_two]
  have e : (id (constant S_ .f32 4286578688#32 : FVec Ideal S_ .f32)) ix0 = (⊥ : EReal) := bits_bot
  split
  · rfl
  · exact e

/-- A maximum along the last of three axes, at an entry. -/
theorem fold_last {a b n : ℕ} {u : Shape} (v : FVec Ideal ⟨3, ![a, b, n]⟩ .f32) (i : FVec Ideal u .f32)
    (h : (⟨3, ![a, b, n]⟩ : Shape).ReducesTo [2] ⟨2, ![a, b]⟩) (hu : 0 < u.numel) (x : Fin a) (y : Fin b) :
    Host.reduce FloatOps.maximumf v i h hu (ix2 x y)
      = Finset.univ.fold (FloatOps.maximumf : Ideal .f32 → Ideal .f32 → Ideal .f32) (i (Shape.Idx.first hu)) fun k : Fin n => v (ix3 x y k) := by
  rw [Host.reduce_eq_fold, Shape.ReducesTo.fold_fiber_r3_a2]
  rfl

theorem top_apply (L : FVec Ideal S8x16896x16896 .f32) (h : Fin 8) (q : Fin 16896) :
    top L (ix2 h q) = Finset.univ.fold max ⊥ fun k : Fin 16896 => (L (ix3 h q k) : EReal) := by
  unfold top
  refine (fold_last L _ _ _ h q).trans ?_
  rw [show (constant S_ .f32 0xFF800000#32 : FVec Ideal S_ .f32) (Shape.Idx.first h_S_) = (⊥ : EReal) from bits_bot]
  rfl

theorem weights_apply (L : FVec Ideal S8x16896x16896 .f32) (T : FVec Ideal S8x16896 .f32) (h : Fin 8) (q k : Fin 16896) :
    weights L T (ix3 h q k) = Ideal.exp (L (ix3 h q k) - T (ix2 h q)) := by
  unfold weights
  pointwise
  rw [bits_bot]
  congr 2
  exact max_eq_right bot_le

theorem average_apply (E : FVec Ideal S8x16896x16896 .f32) (v : FVec Ideal S8x16896x128 .f32) (h : Fin 8) (q : Fin 16896) (d : Fin 128) :
    average E v (ix2 q ⟨128 * h.val + d.val, by omega⟩) = ∑ k : Fin 16896, Ideal.div (E (ix3 h q k)) (∑ j : Fin 16896, E (ix3 h q j)) * v (ix3 h k d) := by
  unfold average
  pointwise

/-! ## On real arguments -/

theorem logits_real (q k : S16896x2048.Idx → ℝ) (h : Fin 8) (x y : Fin 16896) :
    logits (heads fun i => (q i : EReal)) (heads fun i => (k i : EReal)) (ix3 h x y) = ((score q k h x.val y.val : ℝ) : EReal) := by
  rw [logits_apply]
  simp only [heads_apply]
  unfold score
  rw [dif_pos ⟨x.isLt, y.isLt⟩, sub_eq_add_neg, neg_neg]
  simp only [coe_sum, EReal.coe_add, EReal.coe_mul]

theorem masked_real (q k : S16896x2048.Idx → ℝ) (h : Fin 8) (x y : Fin 16896) :
    masked (logits (heads fun i => (q i : EReal)) (heads fun i => (k i : EReal))) (ix3 h x y)
      = if y.val ≤ x.val then ((score q k h x.val y.val * Real.log 2 : ℝ) : EReal) else ⊥ := by
  rw [masked_apply, logits_real, EReal.coe_mul]

theorem vals_real (v : S8x33x144x512.Idx → ℝ) (h : Fin 8) (n : Fin 16896) (d : Fin 128) :
    vals (fun i => (v i : EReal)) (ix3 h n d) = ((value v h d.val n.val : ℝ) : EReal) := by
  have e : n = ⟨512 * (⟨n.val / 512, by omega⟩ : Fin 33).val + (⟨n.val % 512, by omega⟩ : Fin 512).val, by dsimp only; omega⟩ :=
    Fin.ext (show n.val = 512 * (n.val / 512) + n.val % 512 by omega)
  have a := vals_apply (fun i => (v i : EReal)) h ⟨n.val / 512, by omega⟩ ⟨n.val % 512, by omega⟩ d
  rw [← e] at a
  rw [a]
  have hd := d.isLt
  unfold value
  rw [if_neg (by omega), dif_pos ⟨by omega, n.isLt⟩]

/-- The reference at an entry: the query's weighted mean of the values up to its own position. -/
theorem result_real (q k : S16896x2048.Idx → ℝ) (v : S8x33x144x512.Idx → ℝ) (h : Fin 8) (x : Fin 16896) (d : Fin 128) :
    average (weights (masked (logits (heads fun i => (q i : EReal)) (heads fun i => (k i : EReal))))
        (top (masked (logits (heads fun i => (q i : EReal)) (heads fun i => (k i : EReal)))))) (vals fun i => (v i : EReal))
      (ix2 x ⟨128 * h.val + d.val, by omega⟩) = ((mean (score q k h x.val) (value v h d.val) x.val : ℝ) : EReal) := by
  generalize hL : masked (logits (heads fun i => (q i : EReal)) (heads fun i => (k i : EReal))) = L
  have hr : ∀ y, L (ix3 h x y) = if y.val ≤ x.val then ((score q k h x.val y.val * Real.log 2 : ℝ) : EReal) else ⊥ := fun y => by
    rw [← hL]; exact masked_real q k h x y
  obtain ⟨M, hM⟩ := fold_max_real (fun y => (L (ix3 h x y) : EReal))
    (fun y => by rw [hr]; split; exact EReal.coe_ne_top _; exact bot_ne_top) x (by rw [hr, if_pos le_rfl]; exact EReal.coe_ne_bot _)
  have ht : top L (ix2 h x) = (M : EReal) := (top_apply L h x).trans hM
  rw [average_apply]
  simp only [weights_apply, ht]
  exact softmax_row (score q k h x.val) (value v h d.val) x.val 16896 x.isLt M (fun y => L (ix3 h x y)) (fun y => vals (fun i => (v i : EReal)) (ix3 h y d))
    hr (fun y => vals_real v h y d)

end Cert.Attn.Ref

end
-- ==== Proof.Attn.Algebraic.lean ====
/- The attention kernel and its reference compute one function over the extended reals: from memories that agree on the
   arguments, packed as the layer packs them, equal results. -/
module

public import proofs.«01_k».proof.Proof.Attn.Array
public import proofs.«01_k».proof.Proof.Attn.Reference
public import proofs.«01_k».proof.Defs
public import Idealize.ShloMosaic.Lib.Claim
public import Idealize.ShloMosaic.Lib.Quiescent

@[expose] public section

set_option maxRecDepth 16384

noncomputable section

namespace Cert.Attn

open Idealize.ShloMosaic Idealize.ShloMosaic.TcCoe Idealize.SL.Sem

/-- An array of extended reals none of which is infinite is an array of reals. -/
theorem reals_of {S : Shape} {φ : FTy} (x : FVec Ideal S φ) (h : ∀ i, x i ≠ (⊤ : EReal) ∧ x i ≠ (⊥ : EReal)) :
    ∃ r : S.Idx → ℝ, x = fun i => (r i : EReal) :=
  ⟨fun i => EReal.toReal (x i), funext fun i => (EReal.coe_toReal (h i).1 (h i).2).symm⟩

/-- The kernel at an entry: the query's weighted mean of the values up to its own position. -/
theorem result_real (m : (ℓ : Loc Cert.KernelIdeal.nD Cert.KernelIdeal.τ Cert.KernelIdeal.sig) → Buf (Elt Ideal) ℓ)
    (c : Dev Cert.KernelIdeal.nD) {q k : Cert.KernelIdeal.S16896x2048.Idx → ℝ} {v : Cert.KernelIdeal.S8x33x144x512.Idx → ℝ}
    (hq : argQ m c = fun i => (q i : EReal)) (hk : argK m c = fun i => (k i : EReal)) (hv : argV m c = fun i => (v i : EReal))
    (p : Packed (fun i => (q i : EReal)) (fun i => (k i : EReal)) (fun i => (v i : EReal)))
    (h : Fin 8) (b : Fin 11) (y : Fin 1536) (d : Fin 128) :
    result m c (ix2 ⟨1536 * b.val + y.val, by omega⟩ ⟨128 * h.val + d.val, by omega⟩)
      = ((mean (score q k h (1536 * b.val + y.val)) (value v h d.val) (1536 * b.val + y.val) : ℝ) : EReal) := by
  have e := outAt_good (s := fun y => score q k h (1536 * b.val + y)) (w := value v h)
    (x0 := Cert.KernelIdeal.Gen.iblk m c 0 (point h b)) (x1 := Cert.KernelIdeal.Gen.iblk m c 1 (point h b)) (x2 := Cert.KernelIdeal.Gen.iblk m c 2 (point h b))
    (fun n y => by
      simp only [q_block, k_block, hq, hk]
      exact product_real p h ⟨1536 * b.val + y.val, by omega⟩ n)
    (fun n d r => by
      rw [v_block, hv]
      exact value_real p h n d r)
    (Cert.KernelIdeal.grid0.coords (point h b)) (value_one v h) y d
  rw [coords_point h b] at e
  exact (result_block m c h b y d).trans e

/-- The two result arrays are equal where the arguments are, packed. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (c' : Dev Cert.ReferenceIdeal.nD) (p : Packed (argQ m c) (argK m c) (argV m c))
    (h0 : m' ((c'.tc : Thread _ _).loc Cert.ReferenceIdeal.main_arg0) = argQ m c)
    (h1 : m' ((c'.tc : Thread _ _).loc Cert.ReferenceIdeal.main_arg1) = argK m c)
    (h2 : m' ((c'.tc : Thread _ _).loc Cert.ReferenceIdeal.main_arg2) = argV m c) :
    (Cert.ReferenceIdeal.Value.res_main_v48 m' c' : FVec Ideal Cert.KernelIdeal.S16896x1024 .f32) = result m c := by
  obtain ⟨q, hq⟩ := reals_of (argQ m c) p.real_q
  obtain ⟨k, hk⟩ := reals_of (argK m c) p.real_k
  obtain ⟨v, hv⟩ := reals_of (argV m c) p.real_v
  rw [hq, hk, hv] at p
  have e := Ref.result_eq m' c'
  rw [h0.trans hq, h1.trans hk, h2.trans hv] at e
  refine e.trans ?_
  funext i
  obtain ⟨x, j, rfl⟩ := pair_exists i
  have ex : x = ⟨1536 * (⟨x.val / 1536, by omega⟩ : Fin 11).val + (⟨x.val % 1536, by omega⟩ : Fin 1536).val, by dsimp only; omega⟩ :=
    Fin.ext (show x.val = 1536 * (x.val / 1536) + x.val % 1536 by omega)
  have ej : j = ⟨128 * (⟨j.val / 128, by omega⟩ : Fin 8).val + (⟨j.val % 128, by omega⟩ : Fin 128).val, by dsimp only; omega⟩ :=
    Fin.ext (show j.val = 128 * (j.val / 128) + j.val % 128 by omega)
  rw [ex, ej]
  exact (Ref.result_real q k v _ _ _).trans (result_real m c hq hk hv p _ _ _ _).symm

/-- The kernel's run and the reference's run end with one result array, the arguments unchanged. -/
theorem algebraic : @Cert.algebraic_KernelIdeal_ReferenceIdeal_pre_packed Cert.KernelIdeal.Gen.facts Cert.ReferenceIdeal.Gen.facts
    Cert.Pre_packed.Gen.facts := by
  intro m g m' g' p h
  refine ⟨fun c => result m c, run m g, ?_⟩
  refine (θ_run _ _ _).mono (fun r hr c => ⟨(hr c).1.trans ?_, (hr c).2⟩) (Cert.ReferenceIdeal.Value.run m' g')
  obtain ⟨p1, p2, p3, p4, p5, p6, p7⟩ := p c
  exact results_eq m m' c c (packed_of p1 p2 p3 p4 p5 p6 p7) (h c).1 (h c).2.1 (h c).2.2

/-- The reference's run ends with every semaphore counter at zero and the arguments unchanged. -/
theorem reference_frame : @Cert.quiescent_ReferenceIdeal Cert.ReferenceIdeal.Gen.facts := fun m g _ =>
  (θ_run _ _ _).mono (fun r h => ⟨fun c => (h c).2, sem_eq_zero_of_no_sems (by decide) r.2⟩) (Cert.ReferenceIdeal.Value.run m g)

end Cert.Attn

end
-- ==== Proof.AttnBits.Trip.lean ====
/- What one trip of the kernel's pair loops leaves: the carried row maximum and level, the logits staged for the next
   block and the accumulator, as the two-block step of the online softmax over what the trip found. -/
module

public import proofs.«01_k».proof.Proof.Gen.Kernel.Loops
public import Idealize.ShloMosaic.Lib.Pipeline.FrameBody
public import Idealize.ShloMosaic.Lib.Pipeline.Value
public import proofs.«01_k».proof.Proof.AttnBits.TailA

@[expose] public section

set_option maxRecDepth 100000

noncomputable section

namespace Cert.AttnBits

open Idealize.ShloMosaic Idealize.ShloMosaic.TcCoe
open Cert.Kernel Cert.Kernel.Gen

variable {F : FTy → Type} [FloatOps F]

/-- The running state: the staged block's row maxima, the level, the staged logits, the accumulator. -/
abbrev St (F : FTy → Type) : Type := FVec F S1x1536 .f32 × FVec F S1x1536 .f32 × FVec F S512x1536 .f32 × FVec F S144x1536 .f32

/-- The logits of a key block against the queries. -/
abbrev logit (K : FVec F S512x256 .bf16) (Q : FVec F S1536x256 .bf16) : FVec F S512x1536 .f32 := k0_pay4 K Q
/-- Their maxima over the block. -/
abbrev lmax (K : FVec F S512x256 .bf16) (Q : FVec F S1536x256 .bf16) : FVec F S1x1536 .f32 := k0_pay5 K Q
/-- The level after a block. -/
abbrev level (mA m : FVec F S1x1536 .f32) : FVec F S1x1536 .f32 := k0_pay6 mA m
/-- The accumulator after a block. -/
abbrev accum (mA m : FVec F S1x1536 .f32) (s : FVec F S512x1536 .f32) (a : FVec F S144x1536 .f32)
    (V : Vec F S1x1x144x512 .bf16) : FVec F S144x1536 .f32 := k0_pay7 mA m s a V

theorem accum_congr {mA mA' m m' : FVec F S1x1536 .f32} {s s' : FVec F S512x1536 .f32} {a a' : FVec F S144x1536 .f32}
    {V V' : Vec F S1x1x144x512 .bf16} (h₁ : mA = mA') (h₂ : m = m') (h₃ : s = s') (h₄ : a = a') (h₅ : V = V') :
    accum mA m s a V = accum mA' m' s' a' V' := by rw [h₁, h₂, h₃, h₄, h₅]

/-- Two blocks: the staged one and the one after it; a third is staged. -/
def pairStep (Q : FVec F S1536x256 .bf16) (K₁ K₂ : FVec F S512x256 .bf16) (V₀ V₁ : Vec F S1x1x144x512 .bf16)
    (x : St F) : St F :=
  (lmax K₂ Q, level (lmax K₁ Q) (level x.1 x.2.1), logit K₂ Q,
    accum (lmax K₁ Q) (level x.1 x.2.1) (logit K₁ Q) (accum x.1 x.2.1 x.2.2.1 x.2.2.2 V₀) V₁)

theorem pay9_eq (K : FVec F S512x256 .bf16) (Q : FVec F S1536x256 .bf16) : k0_pay9 K Q = logit K Q := rfl
theorem pay10_eq (K : FVec F S512x256 .bf16) (Q : FVec F S1536x256 .bf16) : k0_pay10 K Q = lmax K Q := rfl
theorem pay11_eq (a b : FVec F S1x1536 .f32) : k0_pay11 a b = level a b := rfl
theorem pay12_eq (a b : FVec F S1x1536 .f32) (s : Vec F S512x1536 .f32) (t : Vec F S144x1536 .f32) (V : Vec F S1x1x144x512 .bf16) :
    k0_pay12 a b s t V = accum a b s t V := rfl
theorem pay14_eq (K : FVec F S512x256 .bf16) (Q : FVec F S1536x256 .bf16) : k0_pay14 K Q = logit K Q := rfl
theorem pay15_eq (K : FVec F S512x256 .bf16) (Q : FVec F S1536x256 .bf16) : k0_pay15 K Q = lmax K Q := rfl
theorem pay16_eq (a b : FVec F S1x1536 .f32) : k0_pay16 a b = level a b := rfl
theorem pay17_eq (a b : FVec F S1x1536 .f32) (s : Vec F S512x1536 .f32) (t : Vec F S144x1536 .f32) (V : Vec F S1x1x144x512 .bf16) :
    k0_pay17 a b s t V = accum a b s t V := rfl
theorem pay75_eq (K : FVec F S512x256 .bf16) (Q : FVec F S1536x256 .bf16) : k0_pay75 (k0_pay3 K Q) = logit K Q := rfl
theorem pay76_eq (K : FVec F S512x256 .bf16) (Q : FVec F S1536x256 .bf16) : k0_pay76 (k0_pay3 K Q) = lmax K Q := rfl
theorem pay77_eq (a b : FVec F S1x1536 .f32) : k0_pay77 a b = level a b := rfl
theorem pay78_eq (a b : FVec F S1x1536 .f32) (s : Vec F S512x1536 .f32) (t : Vec F S144x1536 .f32) (V : Vec F S1x1x144x512 .bf16) :
    k0_pay78 a b s t V = accum a b s t V := rfl

set_option maxHeartbeats 1000000 in
/-- One trip of loop 1. -/
theorem trip1_eq (𝒱 : Variants) (c : Dev nD) (bd : Option 𝒱.V) (i : grid0.Coords) (arg2 : Memref sig .tc .vmem S1536x256 .bf16) (harg2 : arg2.IsWhole) (arg3 : Memref sig .tc .vmem S16896x256 .bf16) (harg3 : arg3.IsWhole) (arg4 : Memref sig .tc .vmem S1x33x144x512 .bf16) (harg4 : arg4.IsWhole) (arg5 : Memref sig .tc .vmem S1536x128 .f32) (harg5 : arg5.IsWhole) (arg6 : Memref sig .tc .vmem S512x1536 .f32) (harg6 : arg6.IsWhole) (arg7 : Memref sig .tc .vmem S512x1536 .f32) (harg7 : arg7.IsWhole) (arg8 : Memref sig .tc .vmem S144x1536 .f32) (harg8 : arg8.IsWhole) (v0 : BitVec 32) (v14 : FVec F S1x1536 .f32) (v15 : FVec F S1x1536 .f32) (c0_i32_14 : BitVec 32) (v33 : BitVec 32) (X_arg2 : BufTy.Contents (Elt F) arg2.view.ty) (X_arg3 : BufTy.Contents (Elt F) arg3.view.ty) (X_arg4 : BufTy.Contents (Elt F) arg4.view.ty)
    (k : Fin (k0_t1_loop i).trips) (acc : FVec F S1x1536 .f32 × FVec F S1x1536 .f32) (f6 : BufTy.Contents (Elt F) arg6.view.ty)
    (f7 : BufTy.Contents (Elt F) arg7.view.ty) (f8 : BufTy.Contents (Elt F) arg8.view.ty) :
    (((tripR_k0_t1 (F := F) 𝒱 c bd i arg2 harg2 arg3 harg3 arg4 harg4 arg5 harg5 arg6 harg6 arg7 harg7 arg8 harg8 v0 v14 v15 c0_i32_14 v33 X_arg2 X_arg3 X_arg4 k acc f6 f7 f8).1, (tripR_k0_t1 (F := F) 𝒱 c bd i arg2 harg2 arg3 harg3 arg4 harg4 arg5 harg5 arg6 harg6 arg7 harg7 arg8 harg8 v0 v14 v15 c0_i32_14 v33 X_arg2 X_arg3 X_arg4 k acc f6 f7 f8).2,
      arg6.view.read (Elt F) (arg6.view.writes (Elt F) f6 (tripL_k0_t1 (F := F) 𝒱 c bd i arg2 harg2 arg3 harg3 arg4 harg4 arg5 harg5 arg6 harg6 arg7 harg7 arg8 harg8 v0 v14 v15 c0_i32_14 v33 X_arg2 X_arg3 X_arg4 k acc f6 f7 f8).1),
      arg8.view.read (Elt F) (arg8.view.writes (Elt F) f8 (tripL_k0_t1 (F := F) 𝒱 c bd i arg2 harg2 arg3 harg3 arg4 harg4 arg5 harg5 arg6 harg6 arg7 harg7 arg8 harg8 v0 v14 v15 c0_i32_14 v33 X_arg2 X_arg3 X_arg4 k acc f6 f7 f8).2.2)) : St F)
      = pairStep (arg2.view.read (Elt F) X_arg2)
          (View.ld (arg3.view.read (Elt F) X_arg3) (Rect.unit (s := S16896x256) (k0_off1 i k 2#32 1#32) S512x256.size (k0_off1_inb i k 1 0))) (View.ld (arg3.view.read (Elt F) X_arg3) (Rect.unit (s := S16896x256) (k0_off1 i k 2#32 2#32) S512x256.size (k0_off1_inb i k 1 1)))
          (View.ld (arg4.view.read (Elt F) X_arg4) (Rect.unit (s := S1x33x144x512) (k0_off2 i k 2#32) S1x1x144x512.size (k0_off2_inb i k 1))) (View.ld (arg4.view.read (Elt F) X_arg4) (Rect.unit (s := S1x33x144x512) (k0_off3 i k 2#32) S1x1x144x512.size (k0_off3_inb i k 1)))
        (pairStep (arg2.view.read (Elt F) X_arg2)
          (View.ld (arg3.view.read (Elt F) X_arg3) (Rect.unit (s := S16896x256) (k0_off1 i k 0#32 1#32) S512x256.size (k0_off1_inb i k 0 0))) (View.ld (arg3.view.read (Elt F) X_arg3) (Rect.unit (s := S16896x256) (k0_off1 i k 0#32 2#32) S512x256.size (k0_off1_inb i k 0 1)))
          (View.ld (arg4.view.read (Elt F) X_arg4) (Rect.unit (s := S1x33x144x512) (k0_off2 i k 0#32) S1x1x144x512.size (k0_off2_inb i k 0))) (View.ld (arg4.view.read (Elt F) X_arg4) (Rect.unit (s := S1x33x144x512) (k0_off3 i k 0#32) S1x1x144x512.size (k0_off3_inb i k 0)))
          (acc.1, acc.2, arg6.view.read (Elt F) f6, arg8.view.read (Elt F) f8)) := by
  unfold tripR_k0_t1 tripL_k0_t1 trip_k0_t1
  dsimp only
  sl_unfold_words
  simp only [View.readCov, View.readAt_eq_ld, View.ld_unit_zero (S := S512x1536) off2_zero,
    View.ld_unit_zero (S := S144x1536) off2_zero, View.ld_unit_zero (S := S1536x256) off2_zero,
    read_whole (S := S512x1536) _ _ off2_zero, read_whole (S := S144x1536) _ _ off2_zero]
  simp only [pay9_eq, pay10_eq, pay11_eq, pay12_eq, pay14_eq, pay15_eq, pay16_eq, pay17_eq, pay75_eq, pay76_eq, pay77_eq, pay78_eq]
  unfold pairStep
  dsimp only
  refine Prod.ext ?_ (Prod.ext ?_ (Prod.ext ?_ ?_))
  · dsimp only [lmax, k0_pay76, k0_pay5, k0_pay18, k0_pay3]
  · dsimp only
  · dsimp only [logit, k0_pay75, k0_pay4, k0_pay18, k0_pay3]
  · dsimp only

set_option maxHeartbeats 1000000 in
/-- One trip of loop 3. -/
theorem trip3_eq (𝒱 : Variants) (c : Dev nD) (bd : Option 𝒱.V) (i : grid0.Coords) (arg2 : Memref sig .tc .vmem S1536x256 .bf16) (harg2 : arg2.IsWhole) (arg3 : Memref sig .tc .vmem S16896x256 .bf16) (harg3 : arg3.IsWhole) (arg4 : Memref sig .tc .vmem S1x33x144x512 .bf16) (harg4 : arg4.IsWhole) (arg5 : Memref sig .tc .vmem S1536x128 .f32) (harg5 : arg5.IsWhole) (arg6 : Memref sig .tc .vmem S512x1536 .f32) (harg6 : arg6.IsWhole) (arg7 : Memref sig .tc .vmem S512x1536 .f32) (harg7 : arg7.IsWhole) (arg8 : Memref sig .tc .vmem S144x1536 .f32) (harg8 : arg8.IsWhole) (v0 : BitVec 32) (v39_0 : FVec F S1x1536 .f32) (v39_1 : FVec F S1x1536 .f32) (v57 : BitVec 32) (v67 : BitVec 32) (c2_i32 : BitVec 32) (v68 : BitVec 32) (v73 : BitVec 32) (c0_i32_34 : BitVec 32) (X_arg2 : BufTy.Contents (Elt F) arg2.view.ty) (X_arg3 : BufTy.Contents (Elt F) arg3.view.ty) (X_arg4 : BufTy.Contents (Elt F) arg4.view.ty)
    (k : Fin (k0_t3_loop i).trips) (acc : FVec F S1x1536 .f32 × FVec F S1x1536 .f32) (f6 : BufTy.Contents (Elt F) arg6.view.ty)
    (f7 : BufTy.Contents (Elt F) arg7.view.ty) (f8 : BufTy.Contents (Elt F) arg8.view.ty) :
    (((tripR_k0_t3 (F := F) 𝒱 c bd i arg2 harg2 arg3 harg3 arg4 harg4 arg5 harg5 arg6 harg6 arg7 harg7 arg8 harg8 v0 v39_0 v39_1 v57 v67 c2_i32 v68 v73 c0_i32_34 X_arg2 X_arg3 X_arg4 k acc f6 f7 f8).1, (tripR_k0_t3 (F := F) 𝒱 c bd i arg2 harg2 arg3 harg3 arg4 harg4 arg5 harg5 arg6 harg6 arg7 harg7 arg8 harg8 v0 v39_0 v39_1 v57 v67 c2_i32 v68 v73 c0_i32_34 X_arg2 X_arg3 X_arg4 k acc f6 f7 f8).2,
      arg6.view.read (Elt F) (arg6.view.writes (Elt F) f6 (tripL_k0_t3 (F := F) 𝒱 c bd i arg2 harg2 arg3 harg3 arg4 harg4 arg5 harg5 arg6 harg6 arg7 harg7 arg8 harg8 v0 v39_0 v39_1 v57 v67 c2_i32 v68 v73 c0_i32_34 X_arg2 X_arg3 X_arg4 k acc f6 f7 f8).1),
      arg8.view.read (Elt F) (arg8.view.writes (Elt F) f8 (tripL_k0_t3 (F := F) 𝒱 c bd i arg2 harg2 arg3 harg3 arg4 harg4 arg5 harg5 arg6 harg6 arg7 harg7 arg8 harg8 v0 v39_0 v39_1 v57 v67 c2_i32 v68 v73 c0_i32_34 X_arg2 X_arg3 X_arg4 k acc f6 f7 f8).2.2)) : St F)
      = pairStep (arg2.view.read (Elt F) X_arg2)
          (View.ld (arg3.view.read (Elt F) X_arg3) (Rect.unit (s := S16896x256) (k0_off7 i k 1#32) S512x256.size (k0_off7_inb i k 0))) (View.ld (arg3.view.read (Elt F) X_arg3) (Rect.unit (s := S16896x256) (k0_off7 i k 2#32) S512x256.size (k0_off7_inb i k 1)))
          (View.ld (arg4.view.read (Elt F) X_arg4) (Rect.unit (s := S1x33x144x512) (k0_off8 i k) S1x1x144x512.size (k0_off8_inb i k))) (View.ld (arg4.view.read (Elt F) X_arg4) (Rect.unit (s := S1x33x144x512) (k0_off9 i k) S1x1x144x512.size (k0_off9_inb i k)))
          (acc.1, acc.2, arg6.view.read (Elt F) f6, arg8.view.read (Elt F) f8) := by
  unfold tripR_k0_t3 tripL_k0_t3 trip_k0_t3
  dsimp only
  sl_unfold_words
  simp only [View.readCov, View.readAt_eq_ld, View.ld_unit_zero (S := S512x1536) off2_zero,
    View.ld_unit_zero (S := S144x1536) off2_zero, View.ld_unit_zero (S := S1536x256) off2_zero,
    read_whole (S := S512x1536) _ _ off2_zero, read_whole (S := S144x1536) _ _ off2_zero]
  rfl

end Cert.AttnBits

end
-- ==== Proof.lean ====
/- The claims assembled: each conjunct by the module that proves it. -/
module

public import proofs.«01_k».proof.Defs
public import proofs.«01_k».proof.Proof.Gen.Kernel
public import proofs.«01_k».proof.Proof.Gen.Kernel.Frame.Runs
public import proofs.«01_k».proof.Proof.Gen.KernelIdeal
public import proofs.«01_k».proof.Proof.Gen.KernelIdeal.Frame.Runs
public import proofs.«01_k».proof.Proof.Gen.ReferenceIdeal
public import proofs.«01_k».proof.Proof.Gen.ReferenceIdeal.Run
public import proofs.«01_k».proof.Proof.Gen.Pre_packed
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnIdeal.Value
public import proofs.«01_k».proof.Proof.Gen.FfnReferenceIdeal
public import proofs.«01_k».proof.Proof.Gen.FfnReferenceIdeal.Run
public import proofs.«01_k».proof.Proof.Gen.OutProj
public import proofs.«01_k».proof.Proof.Gen.OutProj.Frame
public import proofs.«01_k».proof.Proof.Gen.OutProjIdeal
public import proofs.«01_k».proof.Proof.Gen.OutProjIdeal.Frame
public import proofs.«01_k».proof.Proof.Gen.OutProjIdeal.Value
public import proofs.«01_k».proof.Proof.Gen.OutProjReferenceIdeal
public import proofs.«01_k».proof.Proof.Gen.OutProjReferenceIdeal.Run
public import proofs.«01_k».proof.Proof.Gen.Sample
public import proofs.«01_k».proof.Proof.Gen.Sample.Frame
public import proofs.«01_k».proof.Proof.Gen.SampleIdeal
public import proofs.«01_k».proof.Proof.Gen.SampleIdeal.Frame
public import proofs.«01_k».proof.Proof.Ffn.Algebraic
public import proofs.«01_k».proof.Proof.OutProj.Algebraic
public import proofs.«01_k».proof.Proof.Attn.Frame
public import proofs.«01_k».proof.Proof.Attn.Algebraic
public import proofs.«01_k».proof.Proof.AttnBits.Frame
public import Idealize.ShloMosaic.Adequacy
public import Idealize.ShloMosaic.Init

@[expose] public section

noncomputable section

namespace Cert.Proof

open Idealize.ShloMosaic Idealize.SL.Sem

/-- The frames of the four calls, the masks' constant named, and the equality of three of the calls with their references. -/
theorem claim : Cert.Claim :=
  ⟨Cert.Kernel.Gen.facts, Cert.KernelIdeal.Gen.facts, Cert.ReferenceIdeal.Gen.facts, Cert.Ffn.Gen.facts, Cert.FfnIdeal.Gen.facts,
    Cert.FfnReferenceIdeal.Gen.facts, Cert.OutProj.Gen.facts, Cert.OutProjIdeal.Gen.facts, Cert.OutProjReferenceIdeal.Gen.facts,
    Cert.Sample.Gen.facts, Cert.SampleIdeal.Gen.facts, Cert.Pre_packed.Gen.facts,
    fun m ρ _ => Cert.AttnBits.frame m ρ, fun m ρ _ => Cert.Attn.frame m ρ, fun m ρ _ => Cert.Attn.frame m ρ,
    Cert.Attn.reference_frame, fun m ρ _ => Cert.Attn.reference_frame m ρ trivial,
    fun m ρ _ => Cert.Ffn.Gen.frame m ρ, fun m ρ _ => Cert.FfnIdeal.Gen.frame m ρ, Cert.FfnProof.reference_frame,
    fun m ρ _ => Cert.OutProj.Gen.frame m ρ, fun m ρ _ => Cert.OutProjIdeal.Gen.frame m ρ, Cert.OutProof.reference_frame,
    fun m ρ _ => Cert.Sample.Gen.frame m ρ, fun m ρ _ => Cert.SampleIdeal.Gen.frame m ρ,
    IdealRules.named_const.statement Cert.KernelIdeal.κ "mask" .f32 0xF149F2CA#32 ⊥ rfl, Cert.Attn.algebraic,
    trivial, Cert.FfnProof.algebraic, trivial, Cert.OutProof.algebraic,
    IdealRules.named_const.statement Cert.SampleIdeal.κ "mask" .f32 0xF149F2CA#32 ⊥ rfl⟩

end Cert.Proof

end
